-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxIdeal_finite_up [hPre_finite_up : Cert.Pre_finite_up.Facts] (m : (ℓ : Loc Cert.UpDxIdeal.nD Cert.UpDxIdeal.τ Cert.UpDxIdeal.sig) → Buf (Elt Ideal) ℓ) : Prop :=
  ∀ c : Dev Cert.UpDxIdeal.nD,
    (Cert.Pre_finite_up.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))) = (fun _ => 1#1)

def Pre_UpDxRefIdeal (m : (ℓ : Loc Cert.UpDxRefIdeal.nD Cert.UpDxRefIdeal.τ Cert.UpDxRefIdeal.sig) → Buf (Elt Ideal) ℓ) : Prop :=
  True

def Pre_UpDxRefIdeal_finite_up [hPre_finite_up : Cert.Pre_finite_up.Facts] (m : (ℓ : Loc Cert.UpDxRefIdeal.nD Cert.UpDxRefIdeal.τ Cert.UpDxRefIdeal.sig) → Buf (Elt Ideal) ℓ) : Prop :=
  ∀ c : Dev Cert.UpDxRefIdeal.nD,
    (Cert.Pre_finite_up.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))) = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_in [hPre_finite_in : Cert.Pre_finite_in.Facts] (m : (ℓ : Loc Cert.InDxIdeal.nD Cert.InDxIdeal.τ Cert.InDxIdeal.sig) → Buf (Elt Ideal) ℓ) : Prop :=
  ∀ c : Dev Cert.InDxIdeal.nD,
    (Cert.Pre_finite_in.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))) = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite_in [hPre_finite_in : Cert.Pre_finite_in.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite_in.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))) = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw1 (m : (ℓ : Loc Cert.UpDw1.nD Cert.UpDw1.τ Cert.UpDw1.sig) → Buf (Elt Bits) ℓ) : Prop :=
  True

def Pre_UpDw1Ideal (m : (ℓ : Loc Cert.UpDw1Ideal.nD Cert.UpDw1Ideal.τ Cert.UpDw1Ideal.sig) → Buf (Elt Ideal) ℓ) : Prop :=
  True

def Pre_UpDw1RefIdeal (m : (ℓ : Loc Cert.UpDw1RefIdeal.nD Cert.UpDw1RefIdeal.τ Cert.UpDw1RefIdeal.sig) → Buf (Elt Ideal) ℓ) : Prop :=
  True

def Pre_UpDw0 (m : (ℓ : Loc Cert.UpDw0.nD Cert.UpDw0.τ Cert.UpDw0.sig) → Buf (Elt Bits) ℓ) : Prop :=
  True

def Pre_UpDw0Ideal (m : (ℓ : Loc Cert.UpDw0Ideal.nD Cert.UpDw0Ideal.τ Cert.UpDw0Ideal.sig) → Buf (Elt Ideal) ℓ) : Prop :=
  True

def Pre_UpDw0RefIdeal (m : (ℓ : Loc Cert.UpDw0RefIdeal.nD Cert.UpDw0RefIdeal.τ Cert.UpDw0RefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamProjAC (m : (ℓ : Loc Cert.AdamProjAC.nD Cert.AdamProjAC.τ Cert.AdamProjAC.sig) → Buf (Elt Bits) ℓ) : Prop :=
  True

def Pre_AdamProjACIdeal (m : (ℓ : Loc Cert.AdamProjACIdeal.nD Cert.AdamProjACIdeal.τ Cert.AdamProjACIdeal.sig) → Buf (Elt Ideal) ℓ) : Prop :=
  True

def Pre_AdamProjACRefIdeal (m : (ℓ : Loc Cert.AdamProjACRefIdeal.nD Cert.AdamProjACRefIdeal.τ Cert.AdamProjACRefIdeal.sig) → Buf (Elt Ideal) ℓ) : Prop :=
  True

def Pre_AdamProjB (m : (ℓ : Loc Cert.AdamProjB.nD Cert.AdamProjB.τ Cert.AdamProjB.sig) → Buf (Elt Bits) ℓ) : Prop :=
  True

def Pre_AdamProjBIdeal (m : (ℓ : Loc Cert.AdamProjBIdeal.nD Cert.AdamProjBIdeal.τ Cert.AdamProjBIdeal.sig) → Buf (Elt Ideal) ℓ) : Prop :=
  True

def Pre_AdamProjBRefIdeal (m : (ℓ : Loc Cert.AdamProjBRefIdeal.nD Cert.AdamProjBRefIdeal.τ Cert.AdamProjBRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_MixersFwd (m : (ℓ : Loc Cert.MixersFwd.nD Cert.MixersFwd.τ Cert.MixersFwd.sig) → Buf (Elt Bits) ℓ) : Prop :=
  True

def Pre_MixersFwdIdeal (m : (ℓ : Loc Cert.MixersFwdIdeal.nD Cert.MixersFwdIdeal.τ Cert.MixersFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxIdeal_pre_finite_up [hUpDxIdeal : Cert.UpDxIdeal.Facts] [hPre_finite_up : Cert.Pre_finite_up.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal_finite_up m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_UpDxRefIdeal_pre_finite_up [hUpDxRefIdeal : Cert.UpDxRefIdeal.Facts] [hPre_finite_up : Cert.Pre_finite_up.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal_finite_up m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_finite_in [hInDxIdeal : Cert.InDxIdeal.Facts] [hPre_finite_in : Cert.Pre_finite_in.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_in m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_finite_in [hInDxRefIdeal : Cert.InDxRefIdeal.Facts] [hPre_finite_in : Cert.Pre_finite_in.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite_in m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_UpDw1 [hUpDw1 : Cert.UpDw1.Facts] : Prop :=
  ∀ (m : (ℓ : Loc Cert.UpDw1.nD Cert.UpDw1.τ Cert.UpDw1.sig) → Buf (Elt Bits) ℓ) (g : Dev Cert.UpDw1.nD → PrngReg), Pre_UpDw1 m →
    θ_run (Cert.UpDw1.defs (F := Bits)) (onTc (τ := Cert.UpDw1.τ) (Cert.UpDw1.main (F := Bits))) ⟨m, fun _ => 0, g⟩ (fun r => (∀ c : Dev Cert.UpDw1.nD,
      r.2.mem ((c.tc : Thread Cert.UpDw1.nD Cert.UpDw1.τ).loc Cert.UpDw1.main_arg0) = m ((c.tc : Thread Cert.UpDw1.nD Cert.UpDw1.τ).loc Cert.UpDw1.main_arg0)
      ∧ r.2.mem ((c.tc : Thread Cert.UpDw1.nD Cert.UpDw1.τ).loc Cert.UpDw1.main_arg1) = m ((c.tc : Thread Cert.UpDw1.nD Cert.UpDw1.τ).loc Cert.UpDw1.main_arg1)
      ∧ r.2.mem ((c.tc : Thread Cert.UpDw1.nD Cert.UpDw1.τ).loc Cert.UpDw1.main_arg2) = m ((c.tc : Thread Cert.UpDw1.nD Cert.UpDw1.τ).loc Cert.UpDw1.main_arg2))
      ∧ r.2.sem = fun _ => 0)

def quiescent_UpDw1Ideal [hUpDw1Ideal : Cert.UpDw1Ideal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg), Pre_UpDw1Ideal m →
    θ_run (Cert.UpDw1Ideal.defs (F := Ideal)) (onTc (τ := Cert.UpDw1Ideal.τ) (Cert.UpDw1Ideal.main (F := Ideal))) ⟨m, fun _ => 0, g⟩ (fun r => (∀ c : Dev Cert.UpDw1Ideal.nD,
      r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
      ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
      ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ r.2.sem = fun _ => 0)

def quiescent_UpDw1RefIdeal [hUpDw1RefIdeal : Cert.UpDw1RefIdeal.Facts] : Prop :=
  ∀ (m : (ℓ : Loc Cert.UpDw1RefIdeal.nD Cert.UpDw1RefIdeal.τ Cert.UpDw1RefIdeal.sig) → Buf (Elt Ideal) ℓ) (g : Dev Cert.UpDw1RefIdeal.nD → PrngReg), Pre_UpDw1RefIdeal m →
    θ_run (Cert.UpDw1RefIdeal.defs (F := Ideal)) (onTc (τ := Cert.UpDw1RefIdeal.τ) (Cert.UpDw1RefIdeal.main (F := Ideal))) ⟨m, fun _ => 0, g⟩ (fun r => (∀ c : Dev Cert.UpDw1RefIdeal.nD,
      r.2.mem ((c.tc : Thread Cert.UpDw1RefIdeal.nD Cert.UpDw1RefIdeal.τ).loc Cert.UpDw1RefIdeal.main_arg0) = m ((c.tc : Thread Cert.UpDw1RefIdeal.nD Cert.UpDw1RefIdeal.τ).loc Cert.UpDw1RefIdeal.main_arg0)
      ∧ r.2.mem ((c.tc : Thread Cert.UpDw1RefIdeal.nD Cert.UpDw1RefIdeal.τ).loc Cert.UpDw1RefIdeal.main_arg1) = m ((c.tc : Thread Cert.UpDw1RefIdeal.nD Cert.UpDw1RefIdeal.τ).loc Cert.UpDw1RefIdeal.main_arg1)
      ∧ r.2.mem ((c.tc : Thread Cert.UpDw1RefIdeal.nD Cert.UpDw1RefIdeal.τ).loc Cert.UpDw1RefIdeal.main_arg2) = m ((c.tc : Thread Cert.UpDw1RefIdeal.nD Cert.UpDw1RefIdeal.τ).loc Cert.UpDw1RefIdeal.main_arg2))
      ∧ r.2.sem = fun _ => 0)

def quiescent_UpDw0 [hUpDw0 : Cert.UpDw0.Facts] : Prop :=
  ∀ (m : (ℓ : Loc Cert.UpDw0.nD Cert.UpDw0.τ Cert.UpDw0.sig) → Buf (Elt Bits) ℓ) (g : Dev Cert.UpDw0.nD → PrngReg), Pre_UpDw0 m →
    θ_run (Cert.UpDw0.defs (F := Bits)) (onTc (τ := Cert.UpDw0.τ) (Cert.UpDw0.main (F := Bits))) ⟨m, fun _ => 0, g⟩ (fun r => (∀ c : Dev Cert.UpDw0.nD,
      r.2.mem ((c.tc : Thread Cert.UpDw0.nD Cert.UpDw0.τ).loc Cert.UpDw0.main_arg0) = m ((c.tc : Thread Cert.UpDw0.nD Cert.UpDw0.τ).loc Cert.UpDw0.main_arg0)
      ∧ r.2.mem ((c.tc : Thread Cert.UpDw0.nD Cert.UpDw0.τ).loc Cert.UpDw0.main_arg1) = m ((c.tc : Thread Cert.UpDw0.nD Cert.UpDw0.τ).loc Cert.UpDw0.main_arg1))
      ∧ r.2.sem = fun _ => 0)

def quiescent_UpDw0Ideal [hUpDw0Ideal : Cert.UpDw0Ideal.Facts] : Prop :=
  ∀ (m : (ℓ : Loc Cert.UpDw0Ideal.nD Cert.UpDw0Ideal.τ Cert.UpDw0Ideal.sig) → Buf (Elt Ideal) ℓ) (g : Dev Cert.UpDw0Ideal.nD → PrngReg), Pre_UpDw0Ideal m →
    θ_run (Cert.UpDw0Ideal.defs (F := Ideal)) (onTc (τ := Cert.UpDw0Ideal.τ) (Cert.UpDw0Ideal.main (F := Ideal))) ⟨m, fun _ => 0, g⟩ (fun r => (∀ c : Dev Cert.UpDw0Ideal.nD,
      r.2.mem ((c.tc : Thread Cert.UpDw0Ideal.nD Cert.UpDw0Ideal.τ).loc Cert.UpDw0Ideal.main_arg0) = m ((c.tc : Thread Cert.UpDw0Ideal.nD Cert.UpDw0Ideal.τ).loc Cert.UpDw0Ideal.main_arg0)
      ∧ r.2.mem ((c.tc : Thread Cert.UpDw0Ideal.nD Cert.UpDw0Ideal.τ).loc Cert.UpDw0Ideal.main_arg1) = m ((c.tc : Thread Cert.UpDw0Ideal.nD Cert.UpDw0Ideal.τ).loc Cert.UpDw0Ideal.main_arg1))
      ∧ r.2.sem = fun _ => 0)

def quiescent_UpDw0RefIdeal [hUpDw0RefIdeal : Cert.UpDw0RefIdeal.Facts] : Prop :=
  ∀ (m : (ℓ : Loc Cert.UpDw0RefIdeal.nD Cert.UpDw0RefIdeal.τ Cert.UpDw0RefIdeal.sig) → Buf (Elt Ideal) ℓ) (g : Dev Cert.UpDw0RefIdeal.nD → PrngReg), Pre_UpDw0RefIdeal m →
    θ_run (Cert.UpDw0RefIdeal.defs (F := Ideal)) (onTc (τ := Cert.UpDw0RefIdeal.τ) (Cert.UpDw0RefIdeal.main (F := Ideal))) ⟨m, fun _ => 0, g⟩ (fun r => (∀ c : Dev Cert.UpDw0RefIdeal.nD,
      r.2.mem ((c.tc : Thread Cert.UpDw0RefIdeal.nD Cert.UpDw0RefIdeal.τ).loc Cert.UpDw0RefIdeal.main_arg0) = m ((c.tc : Thread Cert.UpDw0RefIdeal.nD Cert.UpDw0RefIdeal.τ).loc Cert.UpDw0RefIdeal.main_arg0)
      ∧ r.2.mem ((c.tc : Thread Cert.UpDw0RefIdeal.nD Cert.UpDw0RefIdeal.τ).loc Cert.UpDw0RefIdeal.main_arg1) = m ((c.tc : Thread Cert.UpDw0RefIdeal.nD Cert.UpDw0RefIdeal.τ).loc Cert.UpDw0RefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamProjAC [hAdamProjAC : Cert.AdamProjAC.Facts] : Prop :=
  ∀ (m : (ℓ : Loc Cert.AdamProjAC.nD Cert.AdamProjAC.τ Cert.AdamProjAC.sig) → Buf (Elt Bits) ℓ) (g : Dev Cert.AdamProjAC.nD → PrngReg), Pre_AdamProjAC m →
    θ_run (Cert.AdamProjAC.defs (F := Bits)) (onTc (τ := Cert.AdamProjAC.τ) (Cert.AdamProjAC.main (F := Bits))) ⟨m, fun _ => 0, g⟩ (fun r => (∀ c : Dev Cert.AdamProjAC.nD,
      r.2.mem ((c.tc : Thread Cert.AdamProjAC.nD Cert.AdamProjAC.τ).loc Cert.AdamProjAC.main_arg0) = m ((c.tc : Thread Cert.AdamProjAC.nD Cert.AdamProjAC.τ).loc Cert.AdamProjAC.main_arg0)
      ∧ r.2.mem ((c.tc : Thread Cert.AdamProjAC.nD Cert.AdamProjAC.τ).loc Cert.AdamProjAC.main_arg1) = m ((c.tc : Thread Cert.AdamProjAC.nD Cert.AdamProjAC.τ).loc Cert.AdamProjAC.main_arg1)
      ∧ r.2.mem ((c.tc : Thread Cert.AdamProjAC.nD Cert.AdamProjAC.τ).loc Cert.AdamProjAC.main_arg2) = m ((c.tc : Thread Cert.AdamProjAC.nD Cert.AdamProjAC.τ).loc Cert.AdamProjAC.main_arg2)
      ∧ r.2.mem ((c.tc : Thread Cert.AdamProjAC.nD Cert.AdamProjAC.τ).loc Cert.AdamProjAC.main_arg3) = m ((c.tc : Thread Cert.AdamProjAC.nD Cert.AdamProjAC.τ).loc Cert.AdamProjAC.main_arg3))
      ∧ r.2.sem = fun _ => 0)

def quiescent_AdamProjACIdeal [hAdamProjACIdeal : Cert.AdamProjACIdeal.Facts] : Prop :=
  ∀ (m : (ℓ : Loc Cert.AdamProjACIdeal.nD Cert.AdamProjACIdeal.τ Cert.AdamProjACIdeal.sig) → Buf (Elt Ideal) ℓ) (g : Dev Cert.AdamProjACIdeal.nD → PrngReg), Pre_AdamProjACIdeal m →
    θ_run (Cert.AdamProjACIdeal.defs (F := Ideal)) (onTc (τ := Cert.AdamProjACIdeal.τ) (Cert.AdamProjACIdeal.main (F := Ideal))) ⟨m, fun _ => 0, g⟩ (fun r => (∀ c : Dev Cert.AdamProjACIdeal.nD,
      r.2.mem ((c.tc : Thread Cert.AdamProjACIdeal.nD Cert.AdamProjACIdeal.τ).loc Cert.AdamProjACIdeal.main_arg0) = m ((c.tc : Thread Cert.AdamProjACIdeal.nD Cert.AdamProjACIdeal.τ).loc Cert.AdamProjACIdeal.main_arg0)
      ∧ r.2.mem ((c.tc : Thread Cert.AdamProjACIdeal.nD Cert.AdamProjACIdeal.τ).loc Cert.AdamProjACIdeal.main_arg1) = m ((c.tc : Thread Cert.AdamProjACIdeal.nD Cert.AdamProjACIdeal.τ).loc Cert.AdamProjACIdeal.main_arg1)
      ∧ r.2.mem ((c.tc : Thread Cert.AdamProjACIdeal.nD Cert.AdamProjACIdeal.τ).loc Cert.AdamProjACIdeal.main_arg2) = m ((c.tc : Thread Cert.AdamProjACIdeal.nD Cert.AdamProjACIdeal.τ).loc Cert.AdamProjACIdeal.main_arg2)
      ∧ r.2.mem ((c.tc : Thread Cert.AdamProjACIdeal.nD Cert.AdamProjACIdeal.τ).loc Cert.AdamProjACIdeal.main_arg3) = m ((c.tc : Thread Cert.AdamProjACIdeal.nD Cert.AdamProjACIdeal.τ).loc Cert.AdamProjACIdeal.main_arg3))
      ∧ r.2.sem = fun _ => 0)

def quiescent_AdamProjACRefIdeal [hAdamProjACRefIdeal : Cert.AdamProjACRefIdeal.Facts] : Prop :=
  ∀ (m : (ℓ : Loc Cert.AdamProjACRefIdeal.nD Cert.AdamProjACRefIdeal.τ Cert.AdamProjACRefIdeal.sig) → Buf (Elt Ideal) ℓ) (g : Dev Cert.AdamProjACRefIdeal.nD → PrngReg), Pre_AdamProjACRefIdeal m →
    θ_run (Cert.AdamProjACRefIdeal.defs (F := Ideal)) (onTc (τ := Cert.AdamProjACRefIdeal.τ) (Cert.AdamProjACRefIdeal.main (F := Ideal))) ⟨m, fun _ => 0, g⟩ (fun r => (∀ c : Dev Cert.AdamProjACRefIdeal.nD,
      r.2.mem ((c.tc : Thread Cert.AdamProjACRefIdeal.nD Cert.AdamProjACRefIdeal.τ).loc Cert.AdamProjACRefIdeal.main_arg0) = m ((c.tc : Thread Cert.AdamProjACRefIdeal.nD Cert.AdamProjACRefIdeal.τ).loc Cert.AdamProjACRefIdeal.main_arg0)
      ∧ r.2.mem ((c.tc : Thread Cert.AdamProjACRefIdeal.nD Cert.AdamProjACRefIdeal.τ).loc Cert.AdamProjACRefIdeal.main_arg1) = m ((c.tc : Thread Cert.AdamProjACRefIdeal.nD Cert.AdamProjACRefIdeal.τ).loc Cert.AdamProjACRefIdeal.main_arg1)
      ∧ r.2.mem ((c.tc : Thread Cert.AdamProjACRefIdeal.nD Cert.AdamProjACRefIdeal.τ).loc Cert.AdamProjACRefIdeal.main_arg2) = m ((c.tc : Thread Cert.AdamProjACRefIdeal.nD Cert.AdamProjACRefIdeal.τ).loc Cert.AdamProjACRefIdeal.main_arg2)
      ∧ r.2.mem ((c.tc : Thread Cert.AdamProjACRefIdeal.nD Cert.AdamProjACRefIdeal.τ).loc Cert.AdamProjACRefIdeal.main_arg3) = m ((c.tc : Thread Cert.AdamProjACRefIdeal.nD Cert.AdamProjACRefIdeal.τ).loc Cert.AdamProjACRefIdeal.main_arg3))
      ∧ r.2.sem = fun _ => 0)

def quiescent_AdamProjB [hAdamProjB : Cert.AdamProjB.Facts] : Prop :=
  ∀ (m : (ℓ : Loc Cert.AdamProjB.nD Cert.AdamProjB.τ Cert.AdamProjB.sig) → Buf (Elt Bits) ℓ) (g : Dev Cert.AdamProjB.nD → PrngReg), Pre_AdamProjB m →
    θ_run (Cert.AdamProjB.defs (F := Bits)) (onTc (τ := Cert.AdamProjB.τ) (Cert.AdamProjB.main (F := Bits))) ⟨m, fun _ => 0, g⟩ (fun r => (∀ c : Dev Cert.AdamProjB.nD,
      r.2.mem ((c.tc : Thread Cert.AdamProjB.nD Cert.AdamProjB.τ).loc Cert.AdamProjB.main_arg0) = m ((c.tc : Thread Cert.AdamProjB.nD Cert.AdamProjB.τ).loc Cert.AdamProjB.main_arg0)
      ∧ r.2.mem ((c.tc : Thread Cert.AdamProjB.nD Cert.AdamProjB.τ).loc Cert.AdamProjB.main_arg1) = m ((c.tc : Thread Cert.AdamProjB.nD Cert.AdamProjB.τ).loc Cert.AdamProjB.main_arg1)
      ∧ r.2.mem ((c.tc : Thread Cert.AdamProjB.nD Cert.AdamProjB.τ).loc Cert.AdamProjB.main_arg2) = m ((c.tc : Thread Cert.AdamProjB.nD Cert.AdamProjB.τ).loc Cert.AdamProjB.main_arg2)
      ∧ r.2.mem ((c.tc : Thread Cert.AdamProjB.nD Cert.AdamProjB.τ).loc Cert.AdamProjB.main_arg3) = m ((c.tc : Thread Cert.AdamProjB.nD Cert.AdamProjB.τ).loc Cert.AdamProjB.main_arg3))
      ∧ r.2.sem = fun _ => 0)

def quiescent_AdamProjBIdeal [hAdamProjBIdeal : Cert.AdamProjBIdeal.Facts] : Prop :=
  ∀ (m : (ℓ : Loc Cert.AdamProjBIdeal.nD Cert.AdamProjBIdeal.τ Cert.AdamProjBIdeal.sig) → Buf (Elt Ideal) ℓ) (g : Dev Cert.AdamProjBIdeal.nD → PrngReg), Pre_AdamProjBIdeal m →
    θ_run (Cert.AdamProjBIdeal.defs (F := Ideal)) (onTc (τ := Cert.AdamProjBIdeal.τ) (Cert.AdamProjBIdeal.main (F := Ideal))) ⟨m, fun _ => 0, g⟩ (fun r => (∀ c : Dev Cert.AdamProjBIdeal.nD,
      r.2.mem ((c.tc : Thread Cert.AdamProjBIdeal.nD Cert.AdamProjBIdeal.τ).loc Cert.AdamProjBIdeal.main_arg0) = m ((c.tc : Thread Cert.AdamProjBIdeal.nD Cert.AdamProjBIdeal.τ).loc Cert.AdamProjBIdeal.main_arg0)
      ∧ r.2.mem ((c.tc : Thread Cert.AdamProjBIdeal.nD Cert.AdamProjBIdeal.τ).loc Cert.AdamProjBIdeal.main_arg1) = m ((c.tc : Thread Cert.AdamProjBIdeal.nD Cert.AdamProjBIdeal.τ).loc Cert.AdamProjBIdeal.main_arg1)
      ∧ r.2.mem ((c.tc : Thread Cert.AdamProjBIdeal.nD Cert.AdamProjBIdeal.τ).loc Cert.AdamProjBIdeal.main_arg2) = m ((c.tc : Thread Cert.AdamProjBIdeal.nD Cert.AdamProjBIdeal.τ).loc Cert.AdamProjBIdeal.main_arg2)
      ∧ r.2.mem ((c.tc : Thread Cert.AdamProjBIdeal.nD Cert.AdamProjBIdeal.τ).loc Cert.AdamProjBIdeal.main_arg3) = m ((c.tc : Thread Cert.AdamProjBIdeal.nD Cert.AdamProjBIdeal.τ).loc Cert.AdamProjBIdeal.main_arg3))
      ∧ r.2.sem = fun _ => 0)

def quiescent_AdamProjBRefIdeal [hAdamProjBRefIdeal : Cert.AdamProjBRefIdeal.Facts] : Prop :=
  ∀ (m : (ℓ : Loc Cert.AdamProjBRefIdeal.nD Cert.AdamProjBRefIdeal.τ Cert.AdamProjBRefIdeal.sig) → Buf (Elt Ideal) ℓ) (g : Dev Cert.AdamProjBRefIdeal.nD → PrngReg), Pre_AdamProjBRefIdeal m →
    θ_run (Cert.AdamProjBRefIdeal.defs (F := Ideal)) (onTc (τ := Cert.AdamProjBRefIdeal.τ) (Cert.AdamProjBRefIdeal.main (F := Ideal))) ⟨m, fun _ => 0, g⟩ (fun r => (∀ c : Dev Cert.AdamProjBRefIdeal.nD,
      r.2.mem ((c.tc : Thread Cert.AdamProjBRefIdeal.nD Cert.AdamProjBRefIdeal.τ).loc Cert.AdamProjBRefIdeal.main_arg0) = m ((c.tc : Thread Cert.AdamProjBRefIdeal.nD Cert.AdamProjBRefIdeal.τ).loc Cert.AdamProjBRefIdeal.main_arg0)
      ∧ r.2.mem ((c.tc : Thread Cert.AdamProjBRefIdeal.nD Cert.AdamProjBRefIdeal.τ).loc Cert.AdamProjBRefIdeal.main_arg1) = m ((c.tc : Thread Cert.AdamProjBRefIdeal.nD Cert.AdamProjBRefIdeal.τ).loc Cert.AdamProjBRefIdeal.main_arg1)
      ∧ r.2.mem ((c.tc : Thread Cert.AdamProjBRefIdeal.nD Cert.AdamProjBRefIdeal.τ).loc Cert.AdamProjBRefIdeal.main_arg2) = m ((c.tc : Thread Cert.AdamProjBRefIdeal.nD Cert.AdamProjBRefIdeal.τ).loc Cert.AdamProjBRefIdeal.main_arg2)
      ∧ r.2.mem ((c.tc : Thread Cert.AdamProjBRefIdeal.nD Cert.AdamProjBRefIdeal.τ).loc Cert.AdamProjBRefIdeal.main_arg3) = m ((c.tc : Thread Cert.AdamProjBRefIdeal.nD Cert.AdamProjBRefIdeal.τ).loc Cert.AdamProjBRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_MixersFwd [hMixersFwd : Cert.MixersFwd.Facts] : Prop :=
  ∀ (m : (ℓ : Loc Cert.MixersFwd.nD Cert.MixersFwd.τ Cert.MixersFwd.sig) → Buf (Elt Bits) ℓ) (g : Dev Cert.MixersFwd.nD → PrngReg), Pre_MixersFwd m →
    θ_run (Cert.MixersFwd.defs (F := Bits)) (onTc (τ := Cert.MixersFwd.τ) (Cert.MixersFwd.main (F := Bits))) ⟨m, fun _ => 0, g⟩ (fun r => (∀ c : Dev Cert.MixersFwd.nD,
      r.2.mem ((c.tc : Thread Cert.MixersFwd.nD Cert.MixersFwd.τ).loc Cert.MixersFwd.main_arg0) = m ((c.tc : Thread Cert.MixersFwd.nD Cert.MixersFwd.τ).loc Cert.MixersFwd.main_arg0)
      ∧ r.2.mem ((c.tc : Thread Cert.MixersFwd.nD Cert.MixersFwd.τ).loc Cert.MixersFwd.main_arg1) = m ((c.tc : Thread Cert.MixersFwd.nD Cert.MixersFwd.τ).loc Cert.MixersFwd.main_arg1)
      ∧ r.2.mem ((c.tc : Thread Cert.MixersFwd.nD Cert.MixersFwd.τ).loc Cert.MixersFwd.main_arg2) = m ((c.tc : Thread Cert.MixersFwd.nD Cert.MixersFwd.τ).loc Cert.MixersFwd.main_arg2)
      ∧ r.2.mem ((c.tc : Thread Cert.MixersFwd.nD Cert.MixersFwd.τ).loc Cert.MixersFwd.main_arg3) = m ((c.tc : Thread Cert.MixersFwd.nD Cert.MixersFwd.τ).loc Cert.MixersFwd.main_arg3)
      ∧ r.2.mem ((c.tc : Thread Cert.MixersFwd.nD Cert.MixersFwd.τ).loc Cert.MixersFwd.main_arg4) = m ((c.tc : Thread Cert.MixersFwd.nD Cert.MixersFwd.τ).loc Cert.MixersFwd.main_arg4)
      ∧ r.2.mem ((c.tc : Thread Cert.MixersFwd.nD Cert.MixersFwd.τ).loc Cert.MixersFwd.main_arg5) = m ((c.tc : Thread Cert.MixersFwd.nD Cert.MixersFwd.τ).loc Cert.MixersFwd.main_arg5)
      ∧ r.2.mem ((c.tc : Thread Cert.MixersFwd.nD Cert.MixersFwd.τ).loc Cert.MixersFwd.main_arg6) = m ((c.tc : Thread Cert.MixersFwd.nD Cert.MixersFwd.τ).loc Cert.MixersFwd.main_arg6)
      ∧ r.2.mem ((c.tc : Thread Cert.MixersFwd.nD Cert.MixersFwd.τ).loc Cert.MixersFwd.main_arg7) = m ((c.tc : Thread Cert.MixersFwd.nD Cert.MixersFwd.τ).loc Cert.MixersFwd.main_arg7)
      ∧ r.2.mem ((c.tc : Thread Cert.MixersFwd.nD Cert.MixersFwd.τ).loc Cert.MixersFwd.main_arg8) = m ((c.tc : Thread Cert.MixersFwd.nD Cert.MixersFwd.τ).loc Cert.MixersFwd.main_arg8)
      ∧ r.2.mem ((c.tc : Thread Cert.MixersFwd.nD Cert.MixersFwd.τ).loc Cert.MixersFwd.main_arg9) = m ((c.tc : Thread Cert.MixersFwd.nD Cert.MixersFwd.τ).loc Cert.MixersFwd.main_arg9))
      ∧ r.2.sem = fun _ => 0)

def quiescent_MixersFwdIdeal [hMixersFwdIdeal : Cert.MixersFwdIdeal.Facts] : Prop :=
  ∀ (m : (ℓ : Loc Cert.MixersFwdIdeal.nD Cert.MixersFwdIdeal.τ Cert.MixersFwdIdeal.sig) → Buf (Elt Ideal) ℓ) (g : Dev Cert.MixersFwdIdeal.nD → PrngReg), Pre_MixersFwdIdeal m →
    θ_run (Cert.MixersFwdIdeal.defs (F := Ideal)) (onTc (τ := Cert.MixersFwdIdeal.τ) (Cert.MixersFwdIdeal.main (F := Ideal))) ⟨m, fun _ => 0, g⟩ (fun r => (∀ c : Dev Cert.MixersFwdIdeal.nD,
      r.2.mem ((c.tc : Thread Cert.MixersFwdIdeal.nD Cert.MixersFwdIdeal.τ).loc Cert.MixersFwdIdeal.main_arg0) = m ((c.tc : Thread Cert.MixersFwdIdeal.nD Cert.MixersFwdIdeal.τ).loc Cert.MixersFwdIdeal.main_arg0)
      ∧ r.2.mem ((c.tc : Thread Cert.MixersFwdIdeal.nD Cert.MixersFwdIdeal.τ).loc Cert.MixersFwdIdeal.main_arg1) = m ((c.tc : Thread Cert.MixersFwdIdeal.nD Cert.MixersFwdIdeal.τ).loc Cert.MixersFwdIdeal.main_arg1)
      ∧ r.2.mem ((c.tc : Thread Cert.MixersFwdIdeal.nD Cert.MixersFwdIdeal.τ).loc Cert.MixersFwdIdeal.main_arg2) = m ((c.tc : Thread Cert.MixersFwdIdeal.nD Cert.MixersFwdIdeal.τ).loc Cert.MixersFwdIdeal.main_arg2)
      ∧ r.2.mem ((c.tc : Thread Cert.MixersFwdIdeal.nD Cert.MixersFwdIdeal.τ).loc Cert.MixersFwdIdeal.main_arg3) = m ((c.tc : Thread Cert.MixersFwdIdeal.nD Cert.MixersFwdIdeal.τ).loc Cert.MixersFwdIdeal.main_arg3)
      ∧ r.2.mem ((c.tc : Thread Cert.MixersFwdIdeal.nD Cert.MixersFwdIdeal.τ).loc Cert.MixersFwdIdeal.main_arg4) = m ((c.tc : Thread Cert.MixersFwdIdeal.nD Cert.MixersFwdIdeal.τ).loc Cert.MixersFwdIdeal.main_arg4)
      ∧ r.2.mem ((c.tc : Thread Cert.MixersFwdIdeal.nD Cert.MixersFwdIdeal.τ).loc Cert.MixersFwdIdeal.main_arg5) = m ((c.tc : Thread Cert.MixersFwdIdeal.nD Cert.MixersFwdIdeal.τ).loc Cert.MixersFwdIdeal.main_arg5)
      ∧ r.2.mem ((c.tc : Thread Cert.MixersFwdIdeal.nD Cert.MixersFwdIdeal.τ).loc Cert.MixersFwdIdeal.main_arg6) = m ((c.tc : Thread Cert.MixersFwdIdeal.nD Cert.MixersFwdIdeal.τ).loc Cert.MixersFwdIdeal.main_arg6)
      ∧ r.2.mem ((c.tc : Thread Cert.MixersFwdIdeal.nD Cert.MixersFwdIdeal.τ).loc Cert.MixersFwdIdeal.main_arg7) = m ((c.tc : Thread Cert.MixersFwdIdeal.nD Cert.MixersFwdIdeal.τ).loc Cert.MixersFwdIdeal.main_arg7)
      ∧ r.2.mem ((c.tc : Thread Cert.MixersFwdIdeal.nD Cert.MixersFwdIdeal.τ).loc Cert.MixersFwdIdeal.main_arg8) = m ((c.tc : Thread Cert.MixersFwdIdeal.nD Cert.MixersFwdIdeal.τ).loc Cert.MixersFwdIdeal.main_arg8)
      ∧ r.2.mem ((c.tc : Thread Cert.MixersFwdIdeal.nD Cert.MixersFwdIdeal.τ).loc Cert.MixersFwdIdeal.main_arg9) = m ((c.tc : Thread Cert.MixersFwdIdeal.nD Cert.MixersFwdIdeal.τ).loc Cert.MixersFwdIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDx_UpDxIdeal : Prop :=
  True

def algebraic_UpDxIdeal_UpDxRefIdeal_pre_finite_up [hUpDxIdeal : Cert.UpDxIdeal.Facts] [hUpDxRefIdeal : Cert.UpDxRefIdeal.Facts] [hPre_finite_up : Cert.Pre_finite_up.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal_finite_up m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v1_0)) (v1 : (c : Dev Cert.UpDxIdeal.nD) → Buf (Elt Ideal) ((c.tc : Thread Cert.UpDxIdeal.nD Cert.UpDxIdeal.τ).loc Cert.UpDxIdeal.main_v1_1)) (v2 : (c : Dev Cert.UpDxIdeal.nD) → Buf (Elt Ideal) ((c.tc : Thread Cert.UpDxIdeal.nD Cert.UpDxIdeal.τ).loc Cert.UpDxIdeal.main_v1_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1_0) = v0 c
          ∧ r.2.mem ((c.tc : Thread Cert.UpDxIdeal.nD Cert.UpDxIdeal.τ).loc Cert.UpDxIdeal.main_v1_1) = v1 c
          ∧ r.2.mem ((c.tc : Thread Cert.UpDxIdeal.nD Cert.UpDxIdeal.τ).loc Cert.UpDxIdeal.main_v1_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v54) = v0 c
          ∧ r.2.mem ((c.tc : Thread Cert.UpDxRefIdeal.nD Cert.UpDxRefIdeal.τ).loc Cert.UpDxRefIdeal.main_v55) = v1 c
          ∧ r.2.mem ((c.tc : Thread Cert.UpDxRefIdeal.nD Cert.UpDxRefIdeal.τ).loc Cert.UpDxRefIdeal.main_v56) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDx_InDxIdeal : Prop :=
  True

def algebraic_InDxIdeal_InDxRefIdeal_pre_finite_in [hInDxIdeal : Cert.InDxIdeal.Facts] [hInDxRefIdeal : Cert.InDxRefIdeal.Facts] [hPre_finite_in : Cert.Pre_finite_in.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite_in m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v2_0)) (v1 : (c : Dev Cert.InDxIdeal.nD) → Buf (Elt Ideal) ((c.tc : Thread Cert.InDxIdeal.nD Cert.InDxIdeal.τ).loc Cert.InDxIdeal.main_v2_1)) (v2 : (c : Dev Cert.InDxIdeal.nD) → Buf (Elt Ideal) ((c.tc : Thread Cert.InDxIdeal.nD Cert.InDxIdeal.τ).loc Cert.InDxIdeal.main_v2_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2_0) = v0 c
          ∧ r.2.mem ((c.tc : Thread Cert.InDxIdeal.nD Cert.InDxIdeal.τ).loc Cert.InDxIdeal.main_v2_1) = v1 c
          ∧ r.2.mem ((c.tc : Thread Cert.InDxIdeal.nD Cert.InDxIdeal.τ).loc Cert.InDxIdeal.main_v2_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v49) = v0 c
          ∧ r.2.mem ((c.tc : Thread Cert.InDxRefIdeal.nD Cert.InDxRefIdeal.τ).loc Cert.InDxRefIdeal.main_v50) = v1 c
          ∧ r.2.mem ((c.tc : Thread Cert.InDxRefIdeal.nD Cert.InDxRefIdeal.τ).loc Cert.InDxRefIdeal.main_v51) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_UpDw1_UpDw1Ideal : Prop :=
  True

def algebraic_UpDw1Ideal_UpDw1RefIdeal [hUpDw1Ideal : Cert.UpDw1Ideal.Facts] [hUpDw1RefIdeal : Cert.UpDw1RefIdeal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg)
    (m' : (ℓ : Loc Cert.UpDw1RefIdeal.nD Cert.UpDw1RefIdeal.τ Cert.UpDw1RefIdeal.sig) → Buf (Elt Ideal) ℓ) (g' : Dev Cert.UpDw1RefIdeal.nD → PrngReg), Pre_UpDw1Ideal m →
    (∀ c : Dev Cert.UpDw1Ideal.nD,
      m' ((c.tc : Thread Cert.UpDw1RefIdeal.nD Cert.UpDw1RefIdeal.τ).loc Cert.UpDw1RefIdeal.main_arg0) = m ((c.tc : Thread Cert.UpDw1Ideal.nD Cert.UpDw1Ideal.τ).loc Cert.UpDw1Ideal.main_arg0)
      ∧ m' ((c.tc : Thread Cert.UpDw1RefIdeal.nD Cert.UpDw1RefIdeal.τ).loc Cert.UpDw1RefIdeal.main_arg1) = m ((c.tc : Thread Cert.UpDw1Ideal.nD Cert.UpDw1Ideal.τ).loc Cert.UpDw1Ideal.main_arg1)
      ∧ m' ((c.tc : Thread Cert.UpDw1RefIdeal.nD Cert.UpDw1RefIdeal.τ).loc Cert.UpDw1RefIdeal.main_arg2) = m ((c.tc : Thread Cert.UpDw1Ideal.nD Cert.UpDw1Ideal.τ).loc Cert.UpDw1Ideal.main_arg2)) →
    ∃ (v0 : (c : Dev Cert.UpDw1Ideal.nD) → Buf (Elt Ideal) ((c.tc : Thread Cert.UpDw1Ideal.nD Cert.UpDw1Ideal.τ).loc Cert.UpDw1Ideal.main_v0)),
      θ_run (Cert.UpDw1Ideal.defs (F := Ideal)) (onTc (τ := Cert.UpDw1Ideal.τ) (Cert.UpDw1Ideal.main (F := Ideal))) ⟨m, fun _ => 0, g⟩ (fun r => ∀ c : Dev Cert.UpDw1Ideal.nD,
          r.2.mem ((c.tc : Thread Cert.UpDw1Ideal.nD Cert.UpDw1Ideal.τ).loc Cert.UpDw1Ideal.main_v0) = v0 c
          ∧ r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
          ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
          ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ θ_run (Cert.UpDw1RefIdeal.defs (F := Ideal)) (onTc (τ := Cert.UpDw1RefIdeal.τ) (Cert.UpDw1RefIdeal.main (F := Ideal))) ⟨m', fun _ => 0, g'⟩ (fun r => ∀ c : Dev Cert.UpDw1RefIdeal.nD,
          r.2.mem ((c.tc : Thread Cert.UpDw1RefIdeal.nD Cert.UpDw1RefIdeal.τ).loc Cert.UpDw1RefIdeal.main_v9) = v0 c
          ∧ r.2.mem ((c.tc : Thread Cert.UpDw1RefIdeal.nD Cert.UpDw1RefIdeal.τ).loc Cert.UpDw1RefIdeal.main_arg0) = m' ((c.tc : Thread Cert.UpDw1RefIdeal.nD Cert.UpDw1RefIdeal.τ).loc Cert.UpDw1RefIdeal.main_arg0)
          ∧ r.2.mem ((c.tc : Thread Cert.UpDw1RefIdeal.nD Cert.UpDw1RefIdeal.τ).loc Cert.UpDw1RefIdeal.main_arg1) = m' ((c.tc : Thread Cert.UpDw1RefIdeal.nD Cert.UpDw1RefIdeal.τ).loc Cert.UpDw1RefIdeal.main_arg1)
          ∧ r.2.mem ((c.tc : Thread Cert.UpDw1RefIdeal.nD Cert.UpDw1RefIdeal.τ).loc Cert.UpDw1RefIdeal.main_arg2) = m' ((c.tc : Thread Cert.UpDw1RefIdeal.nD Cert.UpDw1RefIdeal.τ).loc Cert.UpDw1RefIdeal.main_arg2))

def preserves_UpDw0_UpDw0Ideal : Prop :=
  True

def algebraic_UpDw0Ideal_UpDw0RefIdeal [hUpDw0Ideal : Cert.UpDw0Ideal.Facts] [hUpDw0RefIdeal : Cert.UpDw0RefIdeal.Facts] : Prop :=
  ∀ (m : (ℓ : Loc Cert.UpDw0Ideal.nD Cert.UpDw0Ideal.τ Cert.UpDw0Ideal.sig) → Buf (Elt Ideal) ℓ) (g : Dev Cert.UpDw0Ideal.nD → PrngReg)
    (m' : (ℓ : Loc Cert.UpDw0RefIdeal.nD Cert.UpDw0RefIdeal.τ Cert.UpDw0RefIdeal.sig) → Buf (Elt Ideal) ℓ) (g' : Dev Cert.UpDw0RefIdeal.nD → PrngReg), Pre_UpDw0Ideal m →
    (∀ c : Dev Cert.UpDw0Ideal.nD,
      m' ((c.tc : Thread Cert.UpDw0RefIdeal.nD Cert.UpDw0RefIdeal.τ).loc Cert.UpDw0RefIdeal.main_arg0) = m ((c.tc : Thread Cert.UpDw0Ideal.nD Cert.UpDw0Ideal.τ).loc Cert.UpDw0Ideal.main_arg0)
      ∧ m' ((c.tc : Thread Cert.UpDw0RefIdeal.nD Cert.UpDw0RefIdeal.τ).loc Cert.UpDw0RefIdeal.main_arg1) = m ((c.tc : Thread Cert.UpDw0Ideal.nD Cert.UpDw0Ideal.τ).loc Cert.UpDw0Ideal.main_arg1)) →
    ∃ (v0 : (c : Dev Cert.UpDw0Ideal.nD) → Buf (Elt Ideal) ((c.tc : Thread Cert.UpDw0Ideal.nD Cert.UpDw0Ideal.τ).loc Cert.UpDw0Ideal.main_v1)),
      θ_run (Cert.UpDw0Ideal.defs (F := Ideal)) (onTc (τ := Cert.UpDw0Ideal.τ) (Cert.UpDw0Ideal.main (F := Ideal))) ⟨m, fun _ => 0, g⟩ (fun r => ∀ c : Dev Cert.UpDw0Ideal.nD,
          r.2.mem ((c.tc : Thread Cert.UpDw0Ideal.nD Cert.UpDw0Ideal.τ).loc Cert.UpDw0Ideal.main_v1) = v0 c
          ∧ r.2.mem ((c.tc : Thread Cert.UpDw0Ideal.nD Cert.UpDw0Ideal.τ).loc Cert.UpDw0Ideal.main_arg0) = m ((c.tc : Thread Cert.UpDw0Ideal.nD Cert.UpDw0Ideal.τ).loc Cert.UpDw0Ideal.main_arg0)
          ∧ r.2.mem ((c.tc : Thread Cert.UpDw0Ideal.nD Cert.UpDw0Ideal.τ).loc Cert.UpDw0Ideal.main_arg1) = m ((c.tc : Thread Cert.UpDw0Ideal.nD Cert.UpDw0Ideal.τ).loc Cert.UpDw0Ideal.main_arg1))
      ∧ θ_run (Cert.UpDw0RefIdeal.defs (F := Ideal)) (onTc (τ := Cert.UpDw0RefIdeal.τ) (Cert.UpDw0RefIdeal.main (F := Ideal))) ⟨m', fun _ => 0, g'⟩ (fun r => ∀ c : Dev Cert.UpDw0RefIdeal.nD,
          r.2.mem ((c.tc : Thread Cert.UpDw0RefIdeal.nD Cert.UpDw0RefIdeal.τ).loc Cert.UpDw0RefIdeal.main_v7) = v0 c
          ∧ r.2.mem ((c.tc : Thread Cert.UpDw0RefIdeal.nD Cert.UpDw0RefIdeal.τ).loc Cert.UpDw0RefIdeal.main_arg0) = m' ((c.tc : Thread Cert.UpDw0RefIdeal.nD Cert.UpDw0RefIdeal.τ).loc Cert.UpDw0RefIdeal.main_arg0)
          ∧ r.2.mem ((c.tc : Thread Cert.UpDw0RefIdeal.nD Cert.UpDw0RefIdeal.τ).loc Cert.UpDw0RefIdeal.main_arg1) = m' ((c.tc : Thread Cert.UpDw0RefIdeal.nD Cert.UpDw0RefIdeal.τ).loc Cert.UpDw0RefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_v25) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v1_0)) (v1 : (c : Dev Cert.UpProjIdeal.nD) → Buf (Elt Ideal) ((c.tc : Thread Cert.UpProjIdeal.nD Cert.UpProjIdeal.τ).loc Cert.UpProjIdeal.main_v1_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v1_0) = v0 c
          ∧ r.2.mem ((c.tc : Thread Cert.UpProjIdeal.nD Cert.UpProjIdeal.τ).loc Cert.UpProjIdeal.main_v1_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v24) = v0 c
          ∧ r.2.mem ((c.tc : Thread Cert.UpProjRefIdeal.nD Cert.UpProjRefIdeal.τ).loc Cert.UpProjRefIdeal.main_v25) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v26) = v0 c
          ∧ r.2.mem ((c.tc : Thread Cert.MergeFwdRefIdeal.nD Cert.MergeFwdRefIdeal.τ).loc Cert.MergeFwdRefIdeal.main_v31) = v1 c
          ∧ r.2.mem ((c.tc : Thread Cert.MergeFwdRefIdeal.nD Cert.MergeFwdRefIdeal.τ).loc Cert.MergeFwdRefIdeal.main_v33) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v19) = v0 c
          ∧ r.2.mem ((c.tc : Thread Cert.DownLossRefIdeal.nD Cert.DownLossRefIdeal.τ).loc Cert.DownLossRefIdeal.main_v18) = v1 c
          ∧ r.2.mem ((c.tc : Thread Cert.DownLossRefIdeal.nD Cert.DownLossRefIdeal.τ).loc Cert.DownLossRefIdeal.main_v20) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg1) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg1) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamProjAC_AdamProjACIdeal : Prop :=
  True

def algebraic_AdamProjACIdeal_AdamProjACRefIdeal [hAdamProjACIdeal : Cert.AdamProjACIdeal.Facts] [hAdamProjACRefIdeal : Cert.AdamProjACRefIdeal.Facts] : Prop :=
  ∀ (m : (ℓ : Loc Cert.AdamProjACIdeal.nD Cert.AdamProjACIdeal.τ Cert.AdamProjACIdeal.sig) → Buf (Elt Ideal) ℓ) (g : Dev Cert.AdamProjACIdeal.nD → PrngReg)
    (m' : (ℓ : Loc Cert.AdamProjACRefIdeal.nD Cert.AdamProjACRefIdeal.τ Cert.AdamProjACRefIdeal.sig) → Buf (Elt Ideal) ℓ) (g' : Dev Cert.AdamProjACRefIdeal.nD → PrngReg), Pre_AdamProjACIdeal m →
    (∀ c : Dev Cert.AdamProjACIdeal.nD,
      m' ((c.tc : Thread Cert.AdamProjACRefIdeal.nD Cert.AdamProjACRefIdeal.τ).loc Cert.AdamProjACRefIdeal.main_arg0) = m ((c.tc : Thread Cert.AdamProjACIdeal.nD Cert.AdamProjACIdeal.τ).loc Cert.AdamProjACIdeal.main_arg0)
      ∧ m' ((c.tc : Thread Cert.AdamProjACRefIdeal.nD Cert.AdamProjACRefIdeal.τ).loc Cert.AdamProjACRefIdeal.main_arg1) = m ((c.tc : Thread Cert.AdamProjACIdeal.nD Cert.AdamProjACIdeal.τ).loc Cert.AdamProjACIdeal.main_arg1)
      ∧ m' ((c.tc : Thread Cert.AdamProjACRefIdeal.nD Cert.AdamProjACRefIdeal.τ).loc Cert.AdamProjACRefIdeal.main_arg2) = m ((c.tc : Thread Cert.AdamProjACIdeal.nD Cert.AdamProjACIdeal.τ).loc Cert.AdamProjACIdeal.main_arg2)
      ∧ m' ((c.tc : Thread Cert.AdamProjACRefIdeal.nD Cert.AdamProjACRefIdeal.τ).loc Cert.AdamProjACRefIdeal.main_arg3) = m ((c.tc : Thread Cert.AdamProjACIdeal.nD Cert.AdamProjACIdeal.τ).loc Cert.AdamProjACIdeal.main_arg3)) →
    ∃ (v0 : (c : Dev Cert.AdamProjACIdeal.nD) → Buf (Elt Ideal) ((c.tc : Thread Cert.AdamProjACIdeal.nD Cert.AdamProjACIdeal.τ).loc Cert.AdamProjACIdeal.main_v0_0)) (v1 : (c : Dev Cert.AdamProjACIdeal.nD) → Buf (Elt Ideal) ((c.tc : Thread Cert.AdamProjACIdeal.nD Cert.AdamProjACIdeal.τ).loc Cert.AdamProjACIdeal.main_v0_1)) (v2 : (c : Dev Cert.AdamProjACIdeal.nD) → Buf (Elt Ideal) ((c.tc : Thread Cert.AdamProjACIdeal.nD Cert.AdamProjACIdeal.τ).loc Cert.AdamProjACIdeal.main_v0_2)) (v3 : (c : Dev Cert.AdamProjACIdeal.nD) → Buf (Elt Ideal) ((c.tc : Thread Cert.AdamProjACIdeal.nD Cert.AdamProjACIdeal.τ).loc Cert.AdamProjACIdeal.main_v0_3)),
      θ_run (Cert.AdamProjACIdeal.defs (F := Ideal)) (onTc (τ := Cert.AdamProjACIdeal.τ) (Cert.AdamProjACIdeal.main (F := Ideal))) ⟨m, fun _ => 0, g⟩ (fun r => ∀ c : Dev Cert.AdamProjACIdeal.nD,
          r.2.mem ((c.tc : Thread Cert.AdamProjACIdeal.nD Cert.AdamProjACIdeal.τ).loc Cert.AdamProjACIdeal.main_v0_0) = v0 c
          ∧ r.2.mem ((c.tc : Thread Cert.AdamProjACIdeal.nD Cert.AdamProjACIdeal.τ).loc Cert.AdamProjACIdeal.main_v0_1) = v1 c
          ∧ r.2.mem ((c.tc : Thread Cert.AdamProjACIdeal.nD Cert.AdamProjACIdeal.τ).loc Cert.AdamProjACIdeal.main_v0_2) = v2 c
          ∧ r.2.mem ((c.tc : Thread Cert.AdamProjACIdeal.nD Cert.AdamProjACIdeal.τ).loc Cert.AdamProjACIdeal.main_v0_3) = v3 c
          ∧ r.2.mem ((c.tc : Thread Cert.AdamProjACIdeal.nD Cert.AdamProjACIdeal.τ).loc Cert.AdamProjACIdeal.main_arg0) = m ((c.tc : Thread Cert.AdamProjACIdeal.nD Cert.AdamProjACIdeal.τ).loc Cert.AdamProjACIdeal.main_arg0)
          ∧ r.2.mem ((c.tc : Thread Cert.AdamProjACIdeal.nD Cert.AdamProjACIdeal.τ).loc Cert.AdamProjACIdeal.main_arg1) = m ((c.tc : Thread Cert.AdamProjACIdeal.nD Cert.AdamProjACIdeal.τ).loc Cert.AdamProjACIdeal.main_arg1)
          ∧ r.2.mem ((c.tc : Thread Cert.AdamProjACIdeal.nD Cert.AdamProjACIdeal.τ).loc Cert.AdamProjACIdeal.main_arg2) = m ((c.tc : Thread Cert.AdamProjACIdeal.nD Cert.AdamProjACIdeal.τ).loc Cert.AdamProjACIdeal.main_arg2)
          ∧ r.2.mem ((c.tc : Thread Cert.AdamProjACIdeal.nD Cert.AdamProjACIdeal.τ).loc Cert.AdamProjACIdeal.main_arg3) = m ((c.tc : Thread Cert.AdamProjACIdeal.nD Cert.AdamProjACIdeal.τ).loc Cert.AdamProjACIdeal.main_arg3))
      ∧ θ_run (Cert.AdamProjACRefIdeal.defs (F := Ideal)) (onTc (τ := Cert.AdamProjACRefIdeal.τ) (Cert.AdamProjACRefIdeal.main (F := Ideal))) ⟨m', fun _ => 0, g'⟩ (fun r => ∀ c : Dev Cert.AdamProjACRefIdeal.nD,
          r.2.mem ((c.tc : Thread Cert.AdamProjACRefIdeal.nD Cert.AdamProjACRefIdeal.τ).loc Cert.AdamProjACRefIdeal.main_v23) = v0 c
          ∧ r.2.mem ((c.tc : Thread Cert.AdamProjACRefIdeal.nD Cert.AdamProjACRefIdeal.τ).loc Cert.AdamProjACRefIdeal.main_v4) = v1 c
          ∧ r.2.mem ((c.tc : Thread Cert.AdamProjACRefIdeal.nD Cert.AdamProjACRefIdeal.τ).loc Cert.AdamProjACRefIdeal.main_v10) = v2 c
          ∧ r.2.mem ((c.tc : Thread Cert.AdamProjACRefIdeal.nD Cert.AdamProjACRefIdeal.τ).loc Cert.AdamProjACRefIdeal.main_arg1) = v3 c
          ∧ r.2.mem ((c.tc : Thread Cert.AdamProjACRefIdeal.nD Cert.AdamProjACRefIdeal.τ).loc Cert.AdamProjACRefIdeal.main_arg0) = m' ((c.tc : Thread Cert.AdamProjACRefIdeal.nD Cert.AdamProjACRefIdeal.τ).loc Cert.AdamProjACRefIdeal.main_arg0)
          ∧ r.2.mem ((c.tc : Thread Cert.AdamProjACRefIdeal.nD Cert.AdamProjACRefIdeal.τ).loc Cert.AdamProjACRefIdeal.main_arg1) = m' ((c.tc : Thread Cert.AdamProjACRefIdeal.nD Cert.AdamProjACRefIdeal.τ).loc Cert.AdamProjACRefIdeal.main_arg1)
          ∧ r.2.mem ((c.tc : Thread Cert.AdamProjACRefIdeal.nD Cert.AdamProjACRefIdeal.τ).loc Cert.AdamProjACRefIdeal.main_arg2) = m' ((c.tc : Thread Cert.AdamProjACRefIdeal.nD Cert.AdamProjACRefIdeal.τ).loc Cert.AdamProjACRefIdeal.main_arg2)
          ∧ r.2.mem ((c.tc : Thread Cert.AdamProjACRefIdeal.nD Cert.AdamProjACRefIdeal.τ).loc Cert.AdamProjACRefIdeal.main_arg3) = m' ((c.tc : Thread Cert.AdamProjACRefIdeal.nD Cert.AdamProjACRefIdeal.τ).loc Cert.AdamProjACRefIdeal.main_arg3))

def preserves_AdamProjB_AdamProjBIdeal : Prop :=
  True

def algebraic_AdamProjBIdeal_AdamProjBRefIdeal [hAdamProjBIdeal : Cert.AdamProjBIdeal.Facts] [hAdamProjBRefIdeal : Cert.AdamProjBRefIdeal.Facts] : Prop :=
  ∀ (m : (ℓ : Loc Cert.AdamProjBIdeal.nD Cert.AdamProjBIdeal.τ Cert.AdamProjBIdeal.sig) → Buf (Elt Ideal) ℓ) (g : Dev Cert.AdamProjBIdeal.nD → PrngReg)
    (m' : (ℓ : Loc Cert.AdamProjBRefIdeal.nD Cert.AdamProjBRefIdeal.τ Cert.AdamProjBRefIdeal.sig) → Buf (Elt Ideal) ℓ) (g' : Dev Cert.AdamProjBRefIdeal.nD → PrngReg), Pre_AdamProjBIdeal m →
    (∀ c : Dev Cert.AdamProjBIdeal.nD,
      m' ((c.tc : Thread Cert.AdamProjBRefIdeal.nD Cert.AdamProjBRefIdeal.τ).loc Cert.AdamProjBRefIdeal.main_arg0) = m ((c.tc : Thread Cert.AdamProjBIdeal.nD Cert.AdamProjBIdeal.τ).loc Cert.AdamProjBIdeal.main_arg0)
      ∧ m' ((c.tc : Thread Cert.AdamProjBRefIdeal.nD Cert.AdamProjBRefIdeal.τ).loc Cert.AdamProjBRefIdeal.main_arg1) = m ((c.tc : Thread Cert.AdamProjBIdeal.nD Cert.AdamProjBIdeal.τ).loc Cert.AdamProjBIdeal.main_arg1)
      ∧ m' ((c.tc : Thread Cert.AdamProjBRefIdeal.nD Cert.AdamProjBRefIdeal.τ).loc Cert.AdamProjBRefIdeal.main_arg2) = m ((c.tc : Thread Cert.AdamProjBIdeal.nD Cert.AdamProjBIdeal.τ).loc Cert.AdamProjBIdeal.main_arg2)
      ∧ m' ((c.tc : Thread Cert.AdamProjBRefIdeal.nD Cert.AdamProjBRefIdeal.τ).loc Cert.AdamProjBRefIdeal.main_arg3) = m ((c.tc : Thread Cert.AdamProjBIdeal.nD Cert.AdamProjBIdeal.τ).loc Cert.AdamProjBIdeal.main_arg3)) →
    ∃ (v0 : (c : Dev Cert.AdamProjBIdeal.nD) → Buf (Elt Ideal) ((c.tc : Thread Cert.AdamProjBIdeal.nD Cert.AdamProjBIdeal.τ).loc Cert.AdamProjBIdeal.main_v0_0)) (v1 : (c : Dev Cert.AdamProjBIdeal.nD) → Buf (Elt Ideal) ((c.tc : Thread Cert.AdamProjBIdeal.nD Cert.AdamProjBIdeal.τ).loc Cert.AdamProjBIdeal.main_v0_1)) (v2 : (c : Dev Cert.AdamProjBIdeal.nD) → Buf (Elt Ideal) ((c.tc : Thread Cert.AdamProjBIdeal.nD Cert.AdamProjBIdeal.τ).loc Cert.AdamProjBIdeal.main_v0_2)) (v3 : (c : Dev Cert.AdamProjBIdeal.nD) → Buf (Elt Ideal) ((c.tc : Thread Cert.AdamProjBIdeal.nD Cert.AdamProjBIdeal.τ).loc Cert.AdamProjBIdeal.main_v0_3)),
      θ_run (Cert.AdamProjBIdeal.defs (F := Ideal)) (onTc (τ := Cert.AdamProjBIdeal.τ) (Cert.AdamProjBIdeal.main (F := Ideal))) ⟨m, fun _ => 0, g⟩ (fun r => ∀ c : Dev Cert.AdamProjBIdeal.nD,
          r.2.mem ((c.tc : Thread Cert.AdamProjBIdeal.nD Cert.AdamProjBIdeal.τ).loc Cert.AdamProjBIdeal.main_v0_0) = v0 c
          ∧ r.2.mem ((c.tc : Thread Cert.AdamProjBIdeal.nD Cert.AdamProjBIdeal.τ).loc Cert.AdamProjBIdeal.main_v0_1) = v1 c
          ∧ r.2.mem ((c.tc : Thread Cert.AdamProjBIdeal.nD Cert.AdamProjBIdeal.τ).loc Cert.AdamProjBIdeal.main_v0_2) = v2 c
          ∧ r.2.mem ((c.tc : Thread Cert.AdamProjBIdeal.nD Cert.AdamProjBIdeal.τ).loc Cert.AdamProjBIdeal.main_v0_3) = v3 c
          ∧ r.2.mem ((c.tc : Thread Cert.AdamProjBIdeal.nD Cert.AdamProjBIdeal.τ).loc Cert.AdamProjBIdeal.main_arg0) = m ((c.tc : Thread Cert.AdamProjBIdeal.nD Cert.AdamProjBIdeal.τ).loc Cert.AdamProjBIdeal.main_arg0)
          ∧ r.2.mem ((c.tc : Thread Cert.AdamProjBIdeal.nD Cert.AdamProjBIdeal.τ).loc Cert.AdamProjBIdeal.main_arg1) = m ((c.tc : Thread Cert.AdamProjBIdeal.nD Cert.AdamProjBIdeal.τ).loc Cert.AdamProjBIdeal.main_arg1)
          ∧ r.2.mem ((c.tc : Thread Cert.AdamProjBIdeal.nD Cert.AdamProjBIdeal.τ).loc Cert.AdamProjBIdeal.main_arg2) = m ((c.tc : Thread Cert.AdamProjBIdeal.nD Cert.AdamProjBIdeal.τ).loc Cert.AdamProjBIdeal.main_arg2)
          ∧ r.2.mem ((c.tc : Thread Cert.AdamProjBIdeal.nD Cert.AdamProjBIdeal.τ).loc Cert.AdamProjBIdeal.main_arg3) = m ((c.tc : Thread Cert.AdamProjBIdeal.nD Cert.AdamProjBIdeal.τ).loc Cert.AdamProjBIdeal.main_arg3))
      ∧ θ_run (Cert.AdamProjBRefIdeal.defs (F := Ideal)) (onTc (τ := Cert.AdamProjBRefIdeal.τ) (Cert.AdamProjBRefIdeal.main (F := Ideal))) ⟨m', fun _ => 0, g'⟩ (fun r => ∀ c : Dev Cert.AdamProjBRefIdeal.nD,
          r.2.mem ((c.tc : Thread Cert.AdamProjBRefIdeal.nD Cert.AdamProjBRefIdeal.τ).loc Cert.AdamProjBRefIdeal.main_v23) = v0 c
          ∧ r.2.mem ((c.tc : Thread Cert.AdamProjBRefIdeal.nD Cert.AdamProjBRefIdeal.τ).loc Cert.AdamProjBRefIdeal.main_v4) = v1 c
          ∧ r.2.mem ((c.tc : Thread Cert.AdamProjBRefIdeal.nD Cert.AdamProjBRefIdeal.τ).loc Cert.AdamProjBRefIdeal.main_v10) = v2 c
          ∧ r.2.mem ((c.tc : Thread Cert.AdamProjBRefIdeal.nD Cert.AdamProjBRefIdeal.τ).loc Cert.AdamProjBRefIdeal.main_arg1) = v3 c
          ∧ r.2.mem ((c.tc : Thread Cert.AdamProjBRefIdeal.nD Cert.AdamProjBRefIdeal.τ).loc Cert.AdamProjBRefIdeal.main_arg0) = m' ((c.tc : Thread Cert.AdamProjBRefIdeal.nD Cert.AdamProjBRefIdeal.τ).loc Cert.AdamProjBRefIdeal.main_arg0)
          ∧ r.2.mem ((c.tc : Thread Cert.AdamProjBRefIdeal.nD Cert.AdamProjBRefIdeal.τ).loc Cert.AdamProjBRefIdeal.main_arg1) = m' ((c.tc : Thread Cert.AdamProjBRefIdeal.nD Cert.AdamProjBRefIdeal.τ).loc Cert.AdamProjBRefIdeal.main_arg1)
          ∧ r.2.mem ((c.tc : Thread Cert.AdamProjBRefIdeal.nD Cert.AdamProjBRefIdeal.τ).loc Cert.AdamProjBRefIdeal.main_arg2) = m' ((c.tc : Thread Cert.AdamProjBRefIdeal.nD Cert.AdamProjBRefIdeal.τ).loc Cert.AdamProjBRefIdeal.main_arg2)
          ∧ r.2.mem ((c.tc : Thread Cert.AdamProjBRefIdeal.nD Cert.AdamProjBRefIdeal.τ).loc Cert.AdamProjBRefIdeal.main_arg3) = m' ((c.tc : Thread Cert.AdamProjBRefIdeal.nD Cert.AdamProjBRefIdeal.τ).loc Cert.AdamProjBRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_AttnBwd_AttnBwdIdeal : Prop :=
  True

def preserves_AttnFwd_AttnFwdIdeal : Prop :=
  True

def preserves_MixersFwd_MixersFwdIdeal : Prop :=
  True

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hDownDx : Cert.DownDx.Facts) (hDownDxIdeal : Cert.DownDxIdeal.Facts) (hDownDxRefIdeal : Cert.DownDxRefIdeal.Facts) (hUpDw1 : Cert.UpDw1.Facts) (hUpDw1Ideal : Cert.UpDw1Ideal.Facts) (hUpDw1RefIdeal : Cert.UpDw1RefIdeal.Facts) (hUpDw0 : Cert.UpDw0.Facts) (hUpDw0Ideal : Cert.UpDw0Ideal.Facts) (hUpDw0RefIdeal : Cert.UpDw0RefIdeal.Facts) (hInProj : Cert.InProj.Facts) (hInProjIdeal : Cert.InProjIdeal.Facts) (hInProjRefIdeal : Cert.InProjRefIdeal.Facts) (hUpProj : Cert.UpProj.Facts) (hUpProjIdeal : Cert.UpProjIdeal.Facts) (hUpProjRefIdeal : Cert.UpProjRefIdeal.Facts) (hDownProj : Cert.DownProj.Facts) (hDownProjIdeal : Cert.DownProjIdeal.Facts) (hDownProjRefIdeal : Cert.DownProjRefIdeal.Facts) (hMergeFwd : Cert.MergeFwd.Facts) (hMergeFwdIdeal : Cert.MergeFwdIdeal.Facts) (hMergeFwdRefIdeal : Cert.MergeFwdRefIdeal.Facts) (hDownLoss : Cert.DownLoss.Facts) (hDownLossIdeal : Cert.DownLossIdeal.Facts) (hDownLossRefIdeal : Cert.DownLossRefIdeal.Facts) (hConvFwd : Cert.ConvFwd.Facts) (hConvFwdIdeal : Cert.ConvFwdIdeal.Facts) (hConvFwdRefIdeal : Cert.ConvFwdRefIdeal.Facts) (hAdamUp : Cert.AdamUp.Facts) (hAdamUpIdeal : Cert.AdamUpIdeal.Facts) (hAdamUpRefIdeal : Cert.AdamUpRefIdeal.Facts) (hAdamIn : Cert.AdamIn.Facts) (hAdamInIdeal : Cert.AdamInIdeal.Facts) (hAdamInRefIdeal : Cert.AdamInRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamProjAC : Cert.AdamProjAC.Facts) (hAdamProjACIdeal : Cert.AdamProjACIdeal.Facts) (hAdamProjACRefIdeal : Cert.AdamProjACRefIdeal.Facts) (hAdamProjB : Cert.AdamProjB.Facts) (hAdamProjBIdeal : Cert.AdamProjBIdeal.Facts) (hAdamProjBRefIdeal : Cert.AdamProjBRefIdeal.Facts) (hAdamSmall : Cert.AdamSmall.Facts) (hAdamSmallIdeal : Cert.AdamSmallIdeal.Facts) (hAdamSmallRefIdeal : Cert.AdamSmallRefIdeal.Facts) (hSumSlots : Cert.SumSlots.Facts) (hSumSlotsIdeal : Cert.SumSlotsIdeal.Facts) (hSumSlotsRefIdeal : Cert.SumSlotsRefIdeal.Facts) (hAttnBwd : Cert.AttnBwd.Facts) (hAttnBwdIdeal : Cert.AttnBwdIdeal.Facts) (hAttnFwd : Cert.AttnFwd.Facts) (hAttnFwdIdeal : Cert.AttnFwdIdeal.Facts) (hMixersFwd : Cert.MixersFwd.Facts) (hMixersFwdIdeal : Cert.MixersFwdIdeal.Facts) (hPre_finite : Cert.Pre_finite.Facts) (hPre_finite_up : Cert.Pre_finite_up.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxIdeal_pre_finite_up (hUpDxIdeal := hUpDxIdeal) (hPre_finite_up := hPre_finite_up)
    ∧ quiescent_UpDxRefIdeal (hUpDxRefIdeal := hUpDxRefIdeal)
    ∧ quiescent_UpDxRefIdeal_pre_finite_up (hUpDxRefIdeal := hUpDxRefIdeal) (hPre_finite_up := hPre_finite_up)
    ∧ quiescent_InDx (hInDx := hInDx)
    ∧ quiescent_InDxIdeal (hInDxIdeal := hInDxIdeal)
    ∧ quiescent_InDxIdeal_pre_finite_in (hInDxIdeal := hInDxIdeal) (hPre_finite_in := hPre_finite_in)
    ∧ quiescent_InDxRefIdeal (hInDxRefIdeal := hInDxRefIdeal)
    ∧ quiescent_InDxRefIdeal_pre_finite_in (hInDxRefIdeal := hInDxRefIdeal) (hPre_finite_in := hPre_finite_in)
    ∧ quiescent_InDw (hInDw := hInDw)
    ∧ quiescent_InDwIdeal (hInDwIdeal := hInDwIdeal)
    ∧ quiescent_InDwRefIdeal (hInDwRefIdeal := hInDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw1 (hUpDw1 := hUpDw1)
    ∧ quiescent_UpDw1Ideal (hUpDw1Ideal := hUpDw1Ideal)
    ∧ quiescent_UpDw1RefIdeal (hUpDw1RefIdeal := hUpDw1RefIdeal)
    ∧ quiescent_UpDw0 (hUpDw0 := hUpDw0)
    ∧ quiescent_UpDw0Ideal (hUpDw0Ideal := hUpDw0Ideal)
    ∧ quiescent_UpDw0RefIdeal (hUpDw0RefIdeal := hUpDw0RefIdeal)
    ∧ quiescent_InProj (hInProj := hInProj)
    ∧ quiescent_InProjIdeal (hInProjIdeal := hInProjIdeal)
    ∧ quiescent_InProjRefIdeal (hInProjRefIdeal := hInProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamProjAC (hAdamProjAC := hAdamProjAC)
    ∧ quiescent_AdamProjACIdeal (hAdamProjACIdeal := hAdamProjACIdeal)
    ∧ quiescent_AdamProjACRefIdeal (hAdamProjACRefIdeal := hAdamProjACRefIdeal)
    ∧ quiescent_AdamProjB (hAdamProjB := hAdamProjB)
    ∧ quiescent_AdamProjBIdeal (hAdamProjBIdeal := hAdamProjBIdeal)
    ∧ quiescent_AdamProjBRefIdeal (hAdamProjBRefIdeal := hAdamProjBRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_AttnBwd (hAttnBwd := hAttnBwd)
    ∧ quiescent_AttnBwdIdeal (hAttnBwdIdeal := hAttnBwdIdeal)
    ∧ quiescent_AttnFwd (hAttnFwd := hAttnFwd)
    ∧ quiescent_AttnFwdIdeal (hAttnFwdIdeal := hAttnFwdIdeal)
    ∧ quiescent_MixersFwd (hMixersFwd := hMixersFwd)
    ∧ quiescent_MixersFwdIdeal (hMixersFwdIdeal := hMixersFwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal_pre_finite_up (hUpDxIdeal := hUpDxIdeal) (hUpDxRefIdeal := hUpDxRefIdeal) (hPre_finite_up := hPre_finite_up)
    ∧ preserves_InDx_InDxIdeal
    ∧ algebraic_InDxIdeal_InDxRefIdeal_pre_finite_in (hInDxIdeal := hInDxIdeal) (hInDxRefIdeal := hInDxRefIdeal) (hPre_finite_in := hPre_finite_in)
    ∧ preserves_InDw_InDwIdeal
    ∧ algebraic_InDwIdeal_InDwRefIdeal (hInDwIdeal := hInDwIdeal) (hInDwRefIdeal := hInDwRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_DownDx_DownDxIdeal
    ∧ algebraic_DownDxIdeal_DownDxRefIdeal (hDownDxIdeal := hDownDxIdeal) (hDownDxRefIdeal := hDownDxRefIdeal)
    ∧ preserves_UpDw1_UpDw1Ideal
    ∧ algebraic_UpDw1Ideal_UpDw1RefIdeal (hUpDw1Ideal := hUpDw1Ideal) (hUpDw1RefIdeal := hUpDw1RefIdeal)
    ∧ preserves_UpDw0_UpDw0Ideal
    ∧ algebraic_UpDw0Ideal_UpDw0RefIdeal (hUpDw0Ideal := hUpDw0Ideal) (hUpDw0RefIdeal := hUpDw0RefIdeal)
    ∧ preserves_InProj_InProjIdeal
    ∧ algebraic_InProjIdeal_InProjRefIdeal (hInProjIdeal := hInProjIdeal) (hInProjRefIdeal := hInProjRefIdeal)
    ∧ preserves_UpProj_UpProjIdeal
    ∧ algebraic_UpProjIdeal_UpProjRefIdeal (hUpProjIdeal := hUpProjIdeal) (hUpProjRefIdeal := hUpProjRefIdeal)
    ∧ preserves_DownProj_DownProjIdeal
    ∧ algebraic_DownProjIdeal_DownProjRefIdeal (hDownProjIdeal := hDownProjIdeal) (hDownProjRefIdeal := hDownProjRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_DownLoss_DownLossIdeal
    ∧ algebraic_DownLossIdeal_DownLossRefIdeal (hDownLossIdeal := hDownLossIdeal) (hDownLossRefIdeal := hDownLossRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamIn_AdamInIdeal
    ∧ algebraic_AdamInIdeal_AdamInRefIdeal (hAdamInIdeal := hAdamInIdeal) (hAdamInRefIdeal := hAdamInRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamProjAC_AdamProjACIdeal
    ∧ algebraic_AdamProjACIdeal_AdamProjACRefIdeal (hAdamProjACIdeal := hAdamProjACIdeal) (hAdamProjACRefIdeal := hAdamProjACRefIdeal)
    ∧ preserves_AdamProjB_AdamProjBIdeal
    ∧ algebraic_AdamProjBIdeal_AdamProjBRefIdeal (hAdamProjBIdeal := hAdamProjBIdeal) (hAdamProjBRefIdeal := hAdamProjBRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_AttnBwd_AttnBwdIdeal
    ∧ preserves_AttnFwd_AttnFwdIdeal
    ∧ preserves_MixersFwd_MixersFwdIdeal
-- ==== Pre_finite.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v14 : IVec S_ 1) (main_v15 : FVec F S8192x2816 .f32) (main_v16 : FVec F S8192x2816 .f32) : IVec S_ 1 :=
  let main_v17 : IVec S8192x2816 1 := cmpf .olt main_v15 main_v16
  let main_c_5 : IVec S_ 1 := constantI S_ 1 1#1
  let main_v18 : IVec S_ 1 := (fun x v => Host.reduce IntOp.andi x v reducesTo_S8192x2816_S_d0_1 h_S_) main_v17 main_c_5
  let main_v19 : IVec S_ 1 := andi main_v14 main_v18
  main_v19

def fn {F : FTy → Type} [FloatOps F] (main_arg0 : FVec F S8192x5632 .bf16) (main_arg1 : FVec F S3x5632 .f32) (main_arg2 : FVec F S5632 .f32) (main_arg3 : FVec F S8192x2816 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S3x5632 .f32 := Host.absf main_arg1
  let main_cst_0 : FVec F S_ .f32 := constant S_ .f32 0x7F800000#32
  let main_v6 : FVec F S3x5632 .f32 := broadcastInDim S3x5632 ![] bcast_S_S3x5632 main_cst_0
  let main_v7 : IVec S3x5632 1 := cmpf .olt main_v5 main_v6
  let main_c_1 : IVec S_ 1 := constantI S_ 1 1#1
  let main_v8 : IVec S_ 1 := (fun x v => Host.reduce IntOp.andi x v reducesTo_S3x5632_S_d0_1 h_S_) main_v7 main_c_1
  let main_v9 : IVec S_ 1 := andi main_v4 main_v8
  let main_v10 : FVec F S5632 .f32 := Host.absf main_arg2
  let main_cst_2 : FVec F S_ .f32 := constant S_ .f32 0x7F800000#32
  let main_v11 : FVec F S5632 .f32 := broadcastInDim S5632 ![] bcast_S_S5632 main_cst_2
  let main_v12 : IVec S5632 1 := cmpf .olt main_v10 main_v11
  let main_c_3 : IVec S_ 1 := constantI S_ 1 1#1
  let main_v13 : IVec S_ 1 := (fun x v => Host.reduce IntOp.andi x v reducesTo_S5632_S_d0 h_S_) main_v12 main_c_3
  let main_v14 : IVec S_ 1 := andi main_v9 main_v13
  let main_v15 : FVec F S8192x2816 .f32 := Host.absf main_arg3
  let main_cst_4 : FVec F S_ .f32 := constant S_ .f32 0x7F800000#32
  let main_v16 : FVec F S8192x2816 .f32 := broadcastInDim S8192x2816 ![] bcast_S_S8192x2816 main_cst_4
  fn_part1 (F := F) main_v14 main_v15 main_v16
-- ==== Pre_finite_in.lean ====
abbrev S8192x4608 : Shape := ⟨2, ![8192, 4608]⟩
abbrev S4x1024x1152 : Shape := ⟨3, ![4, 1024, 1152]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S4x1024x1152 : S_.BroadcastsInDim S4x1024x1152 (![] : Fin 0 → Fin S4x1024x1152.rank)
  reducesTo_S4x1024x1152_S_d0_1_2 : S4x1024x1152.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S8192x4608 .bf16) (main_arg1 : FVec F S4x1024x1152 .bf16) (main_arg2 : FVec F S8192x1024 .f32) (main_arg3 : FVec F S1024 .f32) (main_arg4 : FVec F S8192x1024 .f32) : IVec S_ 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_c : IVec S_ 1 := constantI S_ 1 1#1
  let main_v4 : IVec S_ 1 := (fun x v => Host.reduce IntOp.andi x v reducesTo_S8192x4608_S_d0_1 h_S_) main_v3 main_c
  let main_v5 : FVec F S4x1024x1152 .f32 := (extf .f32 · bitsLt_bf16_f32) main_arg1
  let main_v6 : FVec F S4x1024x1152 .f32 := Host.absf main_v5
  let main_cst_0 : FVec F S_ .f32 := constant S_ .f32 0x7F800000#32
  let main_v7 : FVec F S4x1024x1152 .f32 := broadcastInDim S4x1024x1152 ![] bcast_S_S4x1024x1152 main_cst_0
  let main_v8 : IVec S4x1024x1152 1 := cmpf .olt main_v6 main_v7
  let main_c_1 : IVec S_ 1 := constantI S_ 1 1#1
  let main_v9 : IVec S_ 1 := (fun x v => Host.reduce IntOp.andi x v reducesTo_S4x1024x1152_S_d0_1_2 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_finite_up.lean ====
abbrev S2x8192x2816 : Shape := ⟨3, ![2, 8192, 2816]⟩
abbrev S4x1024x1408 : Shape := ⟨3, ![4, 1024, 1408]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S2x8192x2816 : S_.BroadcastsInDim S2x8192x2816 (![] : Fin 0 → Fin S2x8192x2816.rank)
  reducesTo_S2x8192x2816_S_d0_1_2 : S2x8192x2816.ReducesTo [0, 1, 2] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S2x8192x2816 .bf16) (main_arg1 : FVec F S4x1024x1408 .bf16) (main_arg2 : FVec F S8192x1024 .f32) (main_arg3 : FVec F S1024 .f32) (main_arg4 : FVec F S8192x1024 .f32) : IVec S_ 1 :=
  let main_v0 : FVec F S2x8192x2816 .f32 := (extf .f32 · bitsLt_bf16_f32) main_arg0
  let main_v1 : FVec F S2x8192x2816 .f32 := Host.absf main_v0
  let main_cst : FVec F S_ .f32 := constant S_ .f32 0x7F800000#32
  let main_v2 : FVec F S2x8192x2816 .f32 := broadcastInDim S2x8192x2816 ![] bcast_S_S2x8192x2816 main_cst
  let main_v3 : IVec S2x8192x2816 1 := cmpf .olt main_v1 main_v2
  let main_c : IVec S_ 1 := constantI S_ 1 1#1
  let main_v4 : IVec S_ 1 := (fun x v => Host.reduce IntOp.andi x v reducesTo_S2x8192x2816_S_d0_1_2 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Kernel.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S1x5632 : Shape := ⟨2, ![1, 5632]⟩
abbrev S2x8192x2816 : Shape := ⟨3, ![2, 8192, 2816]⟩
abbrev S3x2816 : Shape := ⟨2, ![3, 2816]⟩
abbrev S1x2816 : Shape := ⟨2, ![1, 2816]⟩
abbrev S1024x256 : Shape := ⟨2, ![1024, 256]⟩
abbrev S16x256 : Shape := ⟨2, ![16, 256]⟩
abbrev S8x256 : Shape := ⟨2, ![8, 256]⟩
abbrev S3x256 : Shape := ⟨2, ![3, 256]⟩
abbrev S1x256 : Shape := ⟨2, ![1, 256]⟩
abbrev S2x1024x256 : Shape := ⟨3, ![2, 1024, 256]⟩
abbrev S1032x256 : Shape := ⟨2, ![1032, 256]⟩
abbrev S1040x256 : Shape := ⟨2, ![1040, 256]⟩
abbrev S1x1024x256 : Shape := ⟨3, ![1, 1024, 256]⟩
abbrev S256 : Shape := ⟨1, ![256]⟩

abbrev nBuf : Space → Nat
  | .hbm => 10
  | .vmem => 34
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S1x5632, .f32⟩
  | .hbm, ⟨5, _⟩ => ⟨S2x8192x2816, .bf16⟩
  | .hbm, ⟨6, _⟩ => ⟨S3x2816, .f32⟩
  | .hbm, ⟨7, _⟩ => ⟨S3x2816, .f32⟩
  | .hbm, ⟨8, _⟩ => ⟨S1x2816, .f32⟩
  | .hbm, ⟨9, _⟩ => ⟨S1x2816, .f32⟩
  | .local _ .vmem, ⟨0, _⟩ => ⟨S1024x256, .bf16⟩
  | .local _ .vmem, ⟨1, _⟩ => ⟨S1024x256, .bf16⟩
  | .local _ .vmem, ⟨2, _⟩ => ⟨S16x256, .bf16⟩
  | .local _ .vmem, ⟨3, _⟩ => ⟨S16x256, .bf16⟩
  | .local _ .vmem, ⟨4, _⟩ => ⟨S16x256, .bf16⟩
  | .local _ .vmem, ⟨5, _⟩ => ⟨S16x256, .bf16⟩
  | .local _ .vmem, ⟨6, _⟩ => ⟨S1024x256, .bf16⟩
  | .local _ .vmem, ⟨7, _⟩ => ⟨S1024x256, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S16x256, .bf16⟩
  | .local _ .vmem, ⟨12, _⟩ => ⟨S1024x256, .f32⟩
  | .local _ .vmem, ⟨13, _⟩ => ⟨S1024x256, .f32⟩
  | .local _ .vmem, ⟨14, _⟩ => ⟨S8x256, .f32⟩
  | .local _ .vmem, ⟨15, _⟩ => ⟨S8x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2x1024x256, .bf16⟩
  | .local _ .vmem, ⟨25, _⟩ => ⟨S2x1024x256, .bf16⟩
  | .local _ .vmem, ⟨26, _⟩ => ⟨S3x256, .f32⟩
  | .local _ .vmem, ⟨27, _⟩ => ⟨S3x256, .f32⟩
  | .local _ .vmem, ⟨28, _⟩ => ⟨S3x256, .f32⟩
  | .local _ .vmem, ⟨29, _⟩ => ⟨S3x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c11_i32 : BitVec 32 := 11#32
  let v3 : BitVec 32 := Scalar.addi c11_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S1x8192x2816 : Shape := ⟨3, ![1, 8192, 2816]⟩
abbrev S2x8192x2816 : Shape := ⟨3, ![2, 8192, 2816]⟩
abbrev S3x2816 : Shape := ⟨2, ![3, 2816]⟩
abbrev S2816 : Shape := ⟨1, ![2816]⟩
abbrev S1x2816 : Shape := ⟨2, ![1, 2816]⟩

abbrev nBuf : Space → Nat
  | .hbm => 118
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S_, .f32⟩
  | .hbm, ⟨9, _⟩ => ⟨S2x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x5632, .f32⟩
  | .hbm, ⟨56, _⟩ => ⟨S_, .f32⟩
  | .hbm, ⟨57, _⟩ => ⟨S5632, .f32⟩
  | .hbm, ⟨58, _⟩ => ⟨S1x5632, .f32⟩
  | .hbm, ⟨59, _⟩ => ⟨S_, .f32⟩
  | .hbm, ⟨60, _⟩ => ⟨S5632, .f32⟩
  | .hbm, ⟨61, _⟩ => ⟨S8192x5632, .f32⟩
  | .hbm, ⟨62, _⟩ => ⟨S8192x5632, .f32⟩
  | .hbm, ⟨63, _⟩ => ⟨S8192x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S8194x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S8192x5632, .f32⟩
  | .hbm, ⟨75, _⟩ => ⟨S8192x5632, .f32⟩
  | .hbm, ⟨76, _⟩ => ⟨S8192x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S_, .f32⟩
  | .hbm, ⟨81, _⟩ => ⟨S8194x5632, .f32⟩
  | .hbm, ⟨82, _⟩ => ⟨S8194x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S8192x5632, .f32⟩
  | .hbm, ⟨90, _⟩ => ⟨S8192x5632, .f32⟩
  | .hbm, ⟨91, _⟩ => ⟨S8192x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S8194x5632, .f32⟩
  | .hbm, ⟨97, _⟩ => ⟨S8194x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S2x5632, .f32⟩
  | .hbm, ⟨105, _⟩ => ⟨S8192x5632, .f32⟩
  | .hbm, ⟨106, _⟩ => ⟨S8192x2816, .f32⟩
  | .hbm, ⟨107, _⟩ => ⟨S8192x2816, .f32⟩
  | .hbm, ⟨108, _⟩ => ⟨S1x8192x2816, .f32⟩
  | .hbm, ⟨109, _⟩ => ⟨S1x8192x2816, .f32⟩
  | .hbm, ⟨110, _⟩ => ⟨S2x8192x2816, .f32⟩
  | .hbm, ⟨111, _⟩ => ⟨S2x8192x2816, .bf16⟩
  | .hbm, ⟨112, _⟩ => ⟨S3x2816, .f32⟩
  | .hbm, ⟨113, _⟩ => ⟨S3x2816, .f32⟩
  | .hbm, ⟨114, _⟩ => ⟨S2816, .f32⟩
  | .hbm, ⟨115, _⟩ => ⟨S1x2816, .f32⟩
  | .hbm, ⟨116, _⟩ => ⟨S2816, .f32⟩
  | .hbm, ⟨117, _⟩ => ⟨S1x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v33 : Ref sig .tc := ⟨.hbm, 54, rfl⟩
abbrev main_v34 : Ref sig .tc := ⟨.hbm, 55, rfl⟩
abbrev main_cst_1 : Ref sig .tc := ⟨.hbm, 56, rfl⟩
abbrev main_v35 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]
-- ==== UpDx.lean ====
abbrev S2x8192x2816 : Shape := ⟨3, ![2, 8192, 2816]⟩
abbrev S4x1024x1408 : Shape := ⟨3, ![4, 1024, 1408]⟩
abbrev S8192x1024 : Shape := ⟨2, ![8192, 1024]⟩
abbrev S1024 : Shape := ⟨1, ![1024]⟩
abbrev S1x1024 : Shape := ⟨2, ![1, 1024]⟩
abbrev S2x512x2816 : Shape := ⟨3, ![2, 512, 2816]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S4x1024x1408, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpDxRefIdeal.lean ====
abbrev S2x8192x2816 : Shape := ⟨3, ![2, 8192, 2816]⟩
abbrev S4x1024x1408 : Shape := ⟨3, ![4, 1024, 1408]⟩
abbrev S8192x1024 : Shape := ⟨2, ![8192, 1024]⟩
abbrev S1024 : Shape := ⟨1, ![1024]⟩
abbrev S1x1024x1408 : Shape := ⟨3, ![1, 1024, 1408]⟩
abbrev S1024x1408 : Shape := ⟨2, ![1024, 1408]⟩
abbrev S1024x5632 : Shape := ⟨2, ![1024, 5632]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S4x1024x1408, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024x1408, .bf16⟩
  | .hbm, ⟨6, _⟩ => ⟨S1024x1408, .bf16⟩
  | .hbm, ⟨7, _⟩ => ⟨S1x1024x1408, .bf16⟩
  | .hbm, ⟨8, _⟩ => ⟨S1024x1408, .bf16⟩
  | .hbm, ⟨9, _⟩ => ⟨S1x1024x1408, .bf16⟩
  | .hbm, ⟨10, _⟩ => ⟨S1024x1408, .bf16⟩
  | .hbm, ⟨11, _⟩ => ⟨S1x1024x1408, .bf16⟩
  | .hbm, ⟨12, _⟩ => ⟨S1024x1408, .bf16⟩
  | .hbm, ⟨13, _⟩ => ⟨S1024x5632, .bf16⟩
  | .hbm, ⟨14, _⟩ => ⟨S1024x5632, .f32⟩
  | .hbm, ⟨15, _⟩ => ⟨S1x8192x2816, .bf16⟩
  | .hbm, ⟨16, _⟩ => ⟨S8192x2816, .bf16⟩
  | .hbm, ⟨17, _⟩ => ⟨S1x8192x2816, .bf16⟩
  | .hbm, ⟨18, _⟩ => ⟨S8192x2816, .bf16⟩
  | .hbm, ⟨19, _⟩ => ⟨S8192x5632, .bf16⟩
  | .hbm, ⟨20, _⟩ => ⟨S8192x5632, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x5632, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== InDx.lean ====
abbrev S8192x4608 : Shape := ⟨2, ![8192, 4608]⟩
abbrev S4x1024x1152 : Shape := ⟨3, ![4, 1024, 1152]⟩
abbrev S8192x1024 : Shape := ⟨2, ![8192, 1024]⟩
abbrev S1024 : Shape := ⟨1, ![1024]⟩
abbrev S1x1024 : Shape := ⟨2, ![1, 1024]⟩
abbrev S1x8192x4608 : Shape := ⟨3, ![1, 8192, 4608]⟩
abbrev S1x512x4608 : Shape := ⟨3, ![1, 512, 4608]⟩
abbrev S512x1024 : Shape := ⟨2, ![512, 1024]⟩
abbrev S1x512x1152 : Shape := ⟨3, ![1, 512, 1152]⟩
abbrev S512x1152 : Shape := ⟨2, ![512, 1152]⟩
abbrev S1x1024x1152 : Shape := ⟨3, ![1, 1024, 1152]⟩
abbrev S1024x1152 : Shape := ⟨2, ![1024, 1152]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x4608, .bf16⟩
  | .hbm, ⟨1, _⟩ => ⟨S4x1024x1152, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S1x8192x4608, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S1x512x4608, .bf16⟩
  | .local _ .vmem, ⟨1, _⟩ => ⟨S1x512x4608, .bf16⟩
  | .local _ .vmem, ⟨2, _⟩ => ⟨S4x1024x1152, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S8192x4608 : Shape := ⟨2, ![8192, 4608]⟩
abbrev S4x1024x1152 : Shape := ⟨3, ![4, 1024, 1152]⟩
abbrev S8192x1024 : Shape := ⟨2, ![8192, 1024]⟩
abbrev S1024 : Shape := ⟨1, ![1024]⟩
abbrev S1x1024x1152 : Shape := ⟨3, ![1, 1024, 1152]⟩
abbrev S1024x1152 : Shape := ⟨2, ![1024, 1152]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S4x1024x1152, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024x1152, .bf16⟩
  | .hbm, ⟨6, _⟩ => ⟨S1024x1152, .bf16⟩
  | .hbm, ⟨7, _⟩ => ⟨S1x1024x1152, .bf16⟩
  | .hbm, ⟨8, _⟩ => ⟨S1024x1152, .bf16⟩
  | .hbm, ⟨9, _⟩ => ⟨S1x1024x1152, .bf16⟩
  | .hbm, ⟨10, _⟩ => ⟨S1024x1152, .bf16⟩
  | .hbm, ⟨11, _⟩ => ⟨S1x1024x1152, .bf16⟩
  | .hbm, ⟨12, _⟩ => ⟨S1024x1152, .bf16⟩
  | .hbm, ⟨13, _⟩ => ⟨S1024x4608, .bf16⟩
  | .hbm, ⟨14, _⟩ => ⟨S1024x4608, .f32⟩
  | .hbm, ⟨15, _⟩ => ⟨S8192x4608, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x4608, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S1x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== InDw.lean ====
abbrev S8192x1024 : Shape := ⟨2, ![8192, 1024]⟩
abbrev S8192x4608 : Shape := ⟨2, ![8192, 4608]⟩
abbrev S1024x4608 : Shape := ⟨2, ![1024, 4608]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw1.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .hbm, ⟨3, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw1RefIdeal.lean ====
abbrev S8192x1024 : Shape := ⟨2, ![8192, 1024]⟩
abbrev S2x8192x2816 : Shape := ⟨3, ![2, 8192, 2816]⟩
abbrev S1024x5632 : Shape := ⟨2, ![1024, 5632]⟩
abbrev S1024x2816 : Shape := ⟨2, ![1024, 2816]⟩
abbrev S1x8192x2816 : Shape := ⟨3, ![1, 8192, 2816]⟩
abbrev S8192x2816 : Shape := ⟨2, ![8192, 2816]⟩
abbrev S_ : Shape := ⟨0, ![]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .hbm, ⟨3, _⟩ => ⟨S1024x2816, .f32⟩
  | .hbm, ⟨4, _⟩ => ⟨S1x8192x2816, .bf16⟩
  | .hbm, ⟨5, _⟩ => ⟨S8192x2816, .bf16⟩
  | .hbm, ⟨6, _⟩ => ⟨S_, .f32⟩
  | .hbm, ⟨7, _⟩ => ⟨S1024x2816, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S1024x2816, .f32⟩
  | .hbm, ⟨13, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== UpDw0.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩
abbrev S1024x2816 : Shape := ⟨2, ![1024, 2816]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .hbm, ⟨3, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw0RefIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S_, .f32⟩
  | .hbm, ⟨5, _⟩ => ⟨S1024x2816, .f32⟩
  | .hbm, ⟨6, _⟩ => ⟨S8192x1024, .f32⟩
  | .hbm, ⟨7, _⟩ => ⟨S8192x2816, .f32⟩
  | .hbm, ⟨8, _⟩ => ⟨S8192x2816, .f32⟩
  | .hbm, ⟨9, _⟩ => ⟨S2816x1024, .f32⟩
  | .hbm, ⟨10, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S4x1024x1152 : Shape := ⟨3, ![4, 1024, 1152]⟩
abbrev S1x1024 : Shape := ⟨2, ![1, 1024]⟩
abbrev S8192x4608 : Shape := ⟨2, ![8192, 4608]⟩
abbrev S1024x1024 : Shape := ⟨2, ![1024, 1024]⟩
abbrev S1x1024x1152 : Shape := ⟨3, ![1, 1024, 1152]⟩
abbrev S1024x1152 : Shape := ⟨2, ![1024, 1152]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1152, .bf16⟩
  | .hbm, ⟨3, _⟩ => ⟨S1x1024, .f32⟩
  | .hbm, ⟨4, _⟩ => ⟨S8192x4608, .bf16⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1152, .bf16⟩
  | .local _ .vmem, ⟨4, _⟩ => ⟨S1x1024x1152, .bf16⟩
  | .local _ .vmem, ⟨5, _⟩ => ⟨S1024x1152, .bf16⟩
  | .local _ .vmem, ⟨6, _⟩ => ⟨S1024x1152, .bf16⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S8192x1024 : Shape := ⟨2, ![8192, 1024]⟩
abbrev S1024 : Shape := ⟨1, ![1024]⟩
abbrev S4x1024x1152 : Shape := ⟨3, ![4, 1024, 1152]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1152 : Shape := ⟨3, ![1, 1024, 1152]⟩
abbrev S1024x1152 : Shape := ⟨2, ![1024, 1152]⟩
abbrev S1024x4608 : Shape := ⟨2, ![1024, 4608]⟩
abbrev S8192x4608 : Shape := ⟨2, ![8192, 4608]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1152, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1x1024x1152, .bf16⟩
  | .hbm, ⟨20, _⟩ => ⟨S1024x1152, .bf16⟩
  | .hbm, ⟨21, _⟩ => ⟨S1x1024x1152, .bf16⟩
  | .hbm, ⟨22, _⟩ => ⟨S1024x1152, .bf16⟩
  | .hbm, ⟨23, _⟩ => ⟨S1x1024x1152, .bf16⟩
  | .hbm, ⟨24, _⟩ => ⟨S1024x1152, .bf16⟩
  | .hbm, ⟨25, _⟩ => ⟨S1x1024x1152, .bf16⟩
  | .hbm, ⟨26, _⟩ => ⟨S1024x1152, .bf16⟩
  | .hbm, ⟨27, _⟩ => ⟨S1024x4608, .bf16⟩
  | .hbm, ⟨28, _⟩ => ⟨S1024x4608, .f32⟩
  | .hbm, ⟨29, _⟩ => ⟨S8192x4608, .f32⟩
  | .hbm, ⟨30, _⟩ => ⟨S8192x4608, .bf16⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== UpProj.lean ====
abbrev S8192x1024 : Shape := ⟨2, ![8192, 1024]⟩
abbrev S1024 : Shape := ⟨1, ![1024]⟩
abbrev S4x1024x1408 : Shape := ⟨3, ![4, 1024, 1408]⟩
abbrev S1x1024 : Shape := ⟨2, ![1, 1024]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S1x1024, .f32⟩
  | .hbm, ⟨4, _⟩ => ⟨S8192x5632, .bf16⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpProjRefIdeal.lean ====
abbrev S8192x1024 : Shape := ⟨2, ![8192, 1024]⟩
abbrev S1024 : Shape := ⟨1, ![1024]⟩
abbrev S4x1024x1408 : Shape := ⟨3, ![4, 1024, 1408]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S4x1024x1408, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1x1024x1408, .bf16⟩
  | .hbm, ⟨20, _⟩ => ⟨S1024x1408, .bf16⟩
  | .hbm, ⟨21, _⟩ => ⟨S1x1024x1408, .bf16⟩
  | .hbm, ⟨22, _⟩ => ⟨S1024x1408, .bf16⟩
  | .hbm, ⟨23, _⟩ => ⟨S1x1024x1408, .bf16⟩
  | .hbm, ⟨24, _⟩ => ⟨S1024x1408, .bf16⟩
  | .hbm, ⟨25, _⟩ => ⟨S1x1024x1408, .bf16⟩
  | .hbm, ⟨26, _⟩ => ⟨S1024x1408, .bf16⟩
  | .hbm, ⟨27, _⟩ => ⟨S1024x5632, .bf16⟩
  | .hbm, ⟨28, _⟩ => ⟨S1024x5632, .f32⟩
  | .hbm, ⟨29, _⟩ => ⟨S8192x5632, .f32⟩
  | .hbm, ⟨30, _⟩ => ⟨S8192x5632, .bf16⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== DownProj.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeFwd.lean ====
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S8192x4608 : Shape := ⟨2, ![8192, 4608]⟩
abbrev S8192x1024 : Shape := ⟨2, ![8192, 1024]⟩
abbrev S1024x1024 : Shape := ⟨2, ![1024, 1024]⟩
abbrev S3x8192x1024 : Shape := ⟨3, ![3, 8192, 1024]⟩
abbrev S1024x256 : Shape := ⟨2, ![1024, 256]⟩
abbrev S1024x512 : Shape := ⟨2, ![1024, 512]⟩
abbrev S256x512 : Shape := ⟨2, ![256, 512]⟩
abbrev S512x512 : Shape := ⟨2, ![512, 512]⟩
abbrev S3x1024x512 : Shape := ⟨3, ![3, 1024, 512]⟩
abbrev S1x1024x512 : Shape := ⟨3, ![1, 1024, 512]⟩

abbrev nBuf : Space → Nat
  | .hbm => 12
  | .vmem => 28
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S256x1024, .bf16⟩
  | .hbm, ⟨4, _⟩ => ⟨S512x1024, .bf16⟩
  | .hbm, ⟨5, _⟩ => ⟨S256x1024, .bf16⟩
  | .hbm, ⟨6, _⟩ => ⟨S8192x4608, .bf16⟩
  | .hbm, ⟨7, _⟩ => ⟨S8192x1024, .f32⟩
  | .hbm, ⟨8, _⟩ => ⟨S1024x1024, .bf16⟩
  | .hbm, ⟨9, _⟩ => ⟨S8192x1024, .bf16⟩
  | .hbm, ⟨10, _⟩ => ⟨S3x8192x1024, .bf16⟩
  | .hbm, ⟨11, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S512x512, .bf16⟩
  | .local _ .vmem, ⟨10, _⟩ => ⟨S256x512, .bf16⟩
  | .local _ .vmem, ⟨11, _⟩ => ⟨S256x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S512x1024, .bf16⟩
  | .local _ .vmem, ⟨21, _⟩ => ⟨S512x1024, .bf16⟩
  | .local _ .vmem, ⟨22, _⟩ => ⟨S1024x512, .bf16⟩
  | .local _ .vmem, ⟨23, _⟩ => ⟨S1024x512, .bf16⟩
  | .local _ .vmem, ⟨24, _⟩ => ⟨S3x1024x512, .bf16⟩
  | .local _ .vmem, ⟨25, _⟩ => ⟨S3x1024x512, .bf16⟩
  | .local _ .vmem, ⟨26, _⟩ => ⟨S1024x1024, .f32⟩
  | .local _ .vmem, ⟨27, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v57 : BitVec 1 := Scalar.cmpi .eq arg1 c0_i32
  let v58 : BitVec 32 := Scalar.extui v57
  let c0_i32_40 : BitVec 32 := 0#32
  let v59 : BitVec 1 := Scalar.cmpi .ne v58 c0_i32_40
  v59

def k0_cond2 (i : grid0.Coords) : BitVec 1 :=
  let arg1 : BitVec 32 := BitVec.ofNat 32 (i 1).val
  let c0_i32_41 : BitVec 32 := 0#32
  let v60 : BitVec 1 := Scalar.cmpi .sgt arg1 c0_i32_41
  let v61 : BitVec 32 := Scalar.extui v60
  let c0_i32_42 : BitVec 32 := 0#32
  let v62 : BitVec 1 := Scalar.cmpi .ne v61 c0_i32_42
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MergeFwdRefIdeal.lean ====
abbrev S8192x256 : Shape := ⟨2, ![8192, 256]⟩
abbrev S8192x512 : Shape := ⟨2, ![8192, 512]⟩
abbrev S256x1024 : Shape := ⟨2, ![256, 1024]⟩
abbrev S512x1024 : Shape := ⟨2, ![512, 1024]⟩
abbrev S8192x4608 : Shape := ⟨2, ![8192, 4608]⟩
abbrev S8192x1024 : Shape := ⟨2, ![8192, 1024]⟩
abbrev S1024x1024 : Shape := ⟨2, ![1024, 1024]⟩
abbrev S8192x3072 : Shape := ⟨2, ![8192, 3072]⟩
abbrev S_ : Shape := ⟨0, ![]⟩
abbrev S1x8192x1024 : Shape := ⟨3, ![1, 8192, 1024]⟩
abbrev S3x8192x1024 : Shape := ⟨3, ![3, 8192, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S256x1024, .bf16⟩
  | .hbm, ⟨4, _⟩ => ⟨S512x1024, .bf16⟩
  | .hbm, ⟨5, _⟩ => ⟨S256x1024, .bf16⟩
  | .hbm, ⟨6, _⟩ => ⟨S8192x4608, .bf16⟩
  | .hbm, ⟨7, _⟩ => ⟨S8192x1024, .f32⟩
  | .hbm, ⟨8, _⟩ => ⟨S1024x1024, .bf16⟩
  | .hbm, ⟨9, _⟩ => ⟨S8192x256, .f32⟩
  | .hbm, ⟨10, _⟩ => ⟨S8192x512, .f32⟩
  | .hbm, ⟨11, _⟩ => ⟨S8192x256, .f32⟩
  | .hbm, ⟨12, _⟩ => ⟨S256x1024, .f32⟩
  | .hbm, ⟨13, _⟩ => ⟨S512x1024, .f32⟩
  | .hbm, ⟨14, _⟩ => ⟨S256x1024, .f32⟩
  | .hbm, ⟨15, _⟩ => ⟨S1024x1024, .f32⟩
  | .hbm, ⟨16, _⟩ => ⟨S8192x3072, .bf16⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S3x8192x1024, .f32⟩
  | .hbm, ⟨42, _⟩ => ⟨S3x8192x1024, .bf16⟩
  | .hbm, ⟨43, _⟩ => ⟨S8192x1024, .f32⟩
  | .hbm, ⟨44, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== DownLoss.lean ====
abbrev S8192x2816 : Shape := ⟨2, ![8192, 2816]⟩
abbrev S2816x1024 : Shape := ⟨2, ![2816, 1024]⟩
abbrev S8192x1024 : Shape := ⟨2, ![8192, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x128, .f32⟩
  | .hbm, ⟨5, _⟩ => ⟨S8192x1024, .f32⟩
  | .hbm, ⟨6, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownLossRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S1x128, .f32⟩
  | .hbm, ⟨32, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== ConvFwd.lean ====
abbrev S8192x5632 : Shape := ⟨2, ![8192, 5632]⟩
abbrev S3x5632 : Shape := ⟨2, ![3, 5632]⟩
abbrev S5632 : Shape := ⟨1, ![5632]⟩
abbrev S1x5632 : Shape := ⟨2, ![1, 5632]⟩
abbrev S8192x2816 : Shape := ⟨2, ![8192, 2816]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S8x1408 : Shape := ⟨2, ![8, 1408]⟩
abbrev S520x1408 : Shape := ⟨2, ![520, 1408]⟩

abbrev nBuf : Space → Nat
  | .hbm => 5
  | .vmem => 18
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S8192x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvFwdRefIdeal.lean ====
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S5632, .f32⟩
  | .hbm, ⟨3, _⟩ => ⟨S8192x5632, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== AdamUp.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1152 : Shape := ⟨2, ![2048, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x1152 : Shape := ⟨2, ![2048, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1152 : Shape := ⟨2, ![2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S_, .f32⟩
  | .hbm, ⟨5, _⟩ => ⟨S2048x1152, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1408x1024 : Shape := ⟨2, ![1408, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProjAC.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjACIdeal.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjACRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProjB.lean ====
abbrev S1024x256 : Shape := ⟨2, ![1024, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjBRefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1520x128 : Shape := ⟨2, ![1520, 128]⟩

abbrev nBuf : Space → Nat
  | .hbm => 7
  | .vmem => 7
  | .smem => 0
  | _ => 0

abbrev bufTy : (tb : Table) → Fin (tcTables nBuf tb) → BufTy
  | .hbm, ⟨0, _⟩ => ⟨S1520x128, .f32⟩
  | .hbm, ⟨1, _⟩ => ⟨S1520x128, .f32⟩
  | .hbm, ⟨2, _⟩ => ⟨S1520x128, .f32⟩
  | .hbm, ⟨3, _⟩ => ⟨S1520x128, .f32⟩
  | .hbm, ⟨4, _⟩ => ⟨S1520x128, .f32⟩
  | .hbm, ⟨5, _⟩ => ⟨S1520x128, .f32⟩
  | .hbm, ⟨6, _⟩ => ⟨S1520x128, .f32⟩
  | .local _ .vmem, ⟨0, _⟩ => ⟨S1520x128, .f32⟩
  | .local _ .vmem, ⟨1, _⟩ => ⟨S1520x128, .f32⟩
  | .local _ .vmem, ⟨2, _⟩ => ⟨S1520x128, .f32⟩
  | .local _ .vmem, ⟨3, _⟩ => ⟨S1520x128, .f32⟩
  | .local _ .vmem, ⟨4, _⟩ => ⟨S1520x128, .f32⟩
  | .local _ .vmem, ⟨5, _⟩ => ⟨S1520x128, .f32⟩
  | .local _ .vmem, ⟨6, _⟩ => ⟨S1520x128, .f32⟩
  | _, _ => ⟨S1520x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1520x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1520x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1520x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1520x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1520x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1520x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1520x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1520x128 : Shape := ⟨2, ![1520, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1520x128, .f32⟩
  | .hbm, ⟨1, _⟩ => ⟨S1520x128, .f32⟩
  | .hbm, ⟨2, _⟩ => ⟨S1520x128, .f32⟩
  | .hbm, ⟨3, _⟩ => ⟨S1520x128, .f32⟩
  | .hbm, ⟨4, _⟩ => ⟨S_, .f32⟩
  | .hbm, ⟨5, _⟩ => ⟨S1520x128, .f32⟩
  | .hbm, ⟨6, _⟩ => ⟨S1520x128, .f32⟩
  | .hbm, ⟨7, _⟩ => ⟨S_, .f32⟩
  | .hbm, ⟨8, _⟩ => ⟨S1520x128, .f32⟩
  | .hbm, ⟨9, _⟩ => ⟨S1520x128, .f32⟩
  | .hbm, ⟨10, _⟩ => ⟨S1520x128, .f32⟩
  | .hbm, ⟨11, _⟩ => ⟨S_, .f32⟩
  | .hbm, ⟨12, _⟩ => ⟨S1520x128, .f32⟩
  | .hbm, ⟨13, _⟩ => ⟨S1520x128, .f32⟩
  | .hbm, ⟨14, _⟩ => ⟨S1520x128, .f32⟩
  | .hbm, ⟨15, _⟩ => ⟨S_, .f32⟩
  | .hbm, ⟨16, _⟩ => ⟨S1520x128, .f32⟩
  | .hbm, ⟨17, _⟩ => ⟨S1520x128, .f32⟩
  | .hbm, ⟨18, _⟩ => ⟨S1520x128, .f32⟩
  | .hbm, ⟨19, _⟩ => ⟨S_, .f32⟩
  | .hbm, ⟨20, _⟩ => ⟨S1520x128, .f32⟩
  | .hbm, ⟨21, _⟩ => ⟨S1520x128, .f32⟩
  | .hbm, ⟨22, _⟩ => ⟨S_, .f32⟩
  | .hbm, ⟨23, _⟩ => ⟨S1520x128, .f32⟩
  | .hbm, ⟨24, _⟩ => ⟨S1520x128, .f32⟩
  | .hbm, ⟨25, _⟩ => ⟨S1520x128, .f32⟩
  | .hbm, ⟨26, _⟩ => ⟨S_, .f32⟩
  | .hbm, ⟨27, _⟩ => ⟨S1520x128, .f32⟩
  | .hbm, ⟨28, _⟩ => ⟨S1520x128, .f32⟩
  | .hbm, ⟨29, _⟩ => ⟨S1520x128, .f32⟩
  | .hbm, ⟨30, _⟩ => ⟨S_, .f32⟩
  | .hbm, ⟨31, _⟩ => ⟨S1520x128, .f32⟩
  | .hbm, ⟨32, _⟩ => ⟨S1520x128, .f32⟩
  | .hbm, ⟨33, _⟩ => ⟨S1520x128, .f32⟩
  | .hbm, ⟨34, _⟩ => ⟨S_, .f32⟩
  | .hbm, ⟨35, _⟩ => ⟨S1520x128, .f32⟩
  | .hbm, ⟨36, _⟩ => ⟨S1520x128, .f32⟩
  | _, _ => ⟨S1520x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSlots.lean ====
abbrev S8x1720x128 : Shape := ⟨3, ![8, 1720, 128]⟩
abbrev S1720x128 : Shape := ⟨2, ![1720, 128]⟩
abbrev S1x1720x128 : Shape := ⟨3, ![1, 1720, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1720x128, .f32⟩
  | .hbm, ⟨1, _⟩ => ⟨S1720x128, .f32⟩
  | .local _ .vmem, ⟨0, _⟩ => ⟨S8x1720x128, .f32⟩
  | .local _ .vmem, ⟨1, _⟩ => ⟨S1720x128, .f32⟩
  | _, _ => ⟨S8x1720x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1720x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1720x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSlotsRefIdeal.lean ====
abbrev S8x1720x128 : Shape := ⟨3, ![8, 1720, 128]⟩
abbrev S_ : Shape := ⟨0, ![]⟩
abbrev S1720x128 : Shape := ⟨2, ![1720, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1720x128, .f32⟩
  | .hbm, ⟨1, _⟩ => ⟨S_, .f32⟩
  | .hbm, ⟨2, _⟩ => ⟨S1720x128, .f32⟩
  | _, _ => ⟨S8x1720x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttnBwd.lean ====
abbrev S8192x512 : Shape := ⟨2, ![8192, 512]⟩
abbrev S8192x256 : Shape := ⟨2, ![8192, 256]⟩
abbrev S8 : Shape := ⟨1, ![8]⟩
abbrev S8x1 : Shape := ⟨2, ![8, 1]⟩
abbrev S8x128 : Shape := ⟨2, ![8, 128]⟩
abbrev S256x512 : Shape := ⟨2, ![256, 512]⟩
abbrev S256x256 : Shape := ⟨2, ![256, 256]⟩
abbrev S128x256 : Shape := ⟨2, ![128, 256]⟩
abbrev S1x1 : Shape := ⟨2, ![1, 1]⟩
abbrev S128x1 : Shape := ⟨2, ![128, 1]⟩
abbrev S1024x1 : Shape := ⟨2, ![1024, 1]⟩
abbrev S1024x256 : Shape := ⟨2, ![1024, 256]⟩
abbrev S128x512 : Shape := ⟨2, ![128, 512]⟩
abbrev S128x128 : Shape := ⟨2, ![128, 128]⟩
abbrev S512x128 : Shape := ⟨2, ![512, 128]⟩
abbrev S1024x128 : Shape := ⟨2, ![1024, 128]⟩
abbrev S256x128 : Shape := ⟨2, ![256, 128]⟩
abbrev S512x256 : Shape := ⟨2, ![512, 256]⟩
abbrev S1024 : Shape := ⟨1, ![1024]⟩
abbrev S1 : Shape := ⟨1, ![1]⟩
abbrev S1x128 : Shape := ⟨2, ![1, 128]⟩

abbrev nBuf : Space → Nat
  | .hbm => 13
  | .vmem => 24
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8, .f32⟩
  | .hbm, ⟨4, _⟩ => ⟨S8192x512, .f32⟩
  | .hbm, ⟨5, _⟩ => ⟨S8x1, .f32⟩
  | .hbm, ⟨6, _⟩ => ⟨S8x128, .f32⟩
  | .hbm, ⟨7, _⟩ => ⟨S8192x512, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8x128, .f32⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S8x128, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S8x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnFwd.lean ====
abbrev S8192x512 : Shape := ⟨2, ![8192, 512]⟩
abbrev S8192x256 : Shape := ⟨2, ![8192, 256]⟩
abbrev S8 : Shape := ⟨1, ![8]⟩
abbrev S8x1 : Shape := ⟨2, ![8, 1]⟩
abbrev S8x128 : Shape := ⟨2, ![8, 128]⟩
abbrev S1024x512 : Shape := ⟨2, ![1024, 512]⟩
abbrev S1024x256 : Shape := ⟨2, ![1024, 256]⟩
abbrev S128x256 : Shape := ⟨2, ![128, 256]⟩
abbrev S1x1 : Shape := ⟨2, ![1, 1]⟩
abbrev S128x1 : Shape := ⟨2, ![128, 1]⟩
abbrev S1024x1 : Shape := ⟨2, ![1024, 1]⟩
abbrev S256x256 : Shape := ⟨2, ![256, 256]⟩
abbrev S128x512 : Shape := ⟨2, ![128, 512]⟩
abbrev S128x128 : Shape := ⟨2, ![128, 128]⟩
abbrev S512x128 : Shape := ⟨2, ![512, 128]⟩
abbrev S1024x128 : Shape := ⟨2, ![1024, 128]⟩
abbrev S256x128 : Shape := ⟨2, ![256, 128]⟩
abbrev S512x256 : Shape := ⟨2, ![512, 256]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8, .f32⟩
  | .hbm, ⟨4, _⟩ => ⟨S8x1, .f32⟩
  | .hbm, ⟨5, _⟩ => ⟨S8x128, .f32⟩
  | .hbm, ⟨6, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S128x256, .bf16⟩
  | .local _ .vmem, ⟨5, _⟩ => ⟨S128x256, .bf16⟩
  | .local _ .vmem, ⟨6, _⟩ => ⟨S1024x256, .bf16⟩
  | .local _ .vmem, ⟨7, _⟩ => ⟨S1024x256, .bf16⟩
  | .local _ .vmem, ⟨8, _⟩ => ⟨S128x256, .bf16⟩
  | .local _ .vmem, ⟨9, _⟩ => ⟨S128x256, .bf16⟩
  | .local _ .vmem, ⟨10, _⟩ => ⟨S8x128, .f32⟩
  | .local _ .vmem, ⟨11, _⟩ => ⟨S1024x512, .bf16⟩
  | .local _ .vmem, ⟨12, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixersFwd.lean ====
abbrev S8192x4608 : Shape := ⟨2, ![8192, 4608]⟩
abbrev S8192x128 : Shape := ⟨2, ![8192, 128]⟩
abbrev S64 : Shape := ⟨1, ![64]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S256x256 : Shape := ⟨2, ![256, 256]⟩
abbrev S1x64 : Shape := ⟨2, ![1, 64]⟩
abbrev S4x64 : Shape := ⟨2, ![4, 64]⟩
abbrev S1x256 : Shape := ⟨2, ![1, 256]⟩
abbrev S2x64 : Shape := ⟨2, ![2, 64]⟩
abbrev S128 : Shape := ⟨1, ![128]⟩
abbrev S1x128 : Shape := ⟨2, ![1, 128]⟩
abbrev S_ : Shape := ⟨0, ![]⟩
abbrev S1x64x64 : Shape := ⟨3, ![1, 64, 64]⟩
abbrev S64x64 : Shape := ⟨2, ![64, 64]⟩
abbrev S128x128 : Shape := ⟨2, ![128, 128]⟩
abbrev S128x4 : Shape := ⟨2, ![128, 4]⟩
abbrev S128x4x64 : Shape := ⟨3, ![128, 4, 64]⟩
abbrev S128x256 : Shape := ⟨2, ![128, 256]⟩
abbrev S8192x256 : Shape := ⟨2, ![8192, 256]⟩
abbrev S8192x512 : Shape := ⟨2, ![8192, 512]⟩
abbrev S1024x1536 : Shape := ⟨2, ![1024, 1536]⟩
abbrev S16x256 : Shape := ⟨2, ![16, 256]⟩
abbrev S1024x128 : Shape := ⟨2, ![1024, 128]⟩
abbrev S1024x256 : Shape := ⟨2, ![1024, 256]⟩
abbrev S1024x512 : Shape := ⟨2, ![1024, 512]⟩
abbrev S1040x256 : Shape := ⟨2, ![1040, 256]⟩
abbrev S1x128x128 : Shape := ⟨3, ![1, 128, 128]⟩

abbrev nBuf : Space → Nat
  | .hbm => 66
  | .vmem => 26
  | .smem => 0
  | _ => 0

abbrev bufTy : (tb : Table) → Fin (tcTables nBuf tb) → BufTy
  | .hbm, ⟨0, _⟩ => ⟨S8192x4608, .bf16⟩
  | .hbm, ⟨1, _⟩ => ⟨S8192x128, .f32⟩
  | .hbm, ⟨2, _⟩ => ⟨S8192x128, .f32⟩
  | .hbm, ⟨3, _⟩ => ⟨S64, .f32⟩
  | .hbm, ⟨4, _⟩ => ⟨S64, .f32⟩
  | .hbm, ⟨5, _⟩ => ⟨S4x64x64, .f32⟩
  | .hbm, ⟨6, _⟩ => ⟨S256, .f32⟩
  | .hbm, ⟨7, _⟩ => ⟨S4x128x128, .f32⟩
  | .hbm, ⟨8, _⟩ => ⟨S4x128, .f32⟩
  | .hbm, ⟨9, _⟩ => ⟨S64, .f32⟩
  | .hbm, ⟨10, _⟩ => ⟨S256x256, .bf16⟩
  | .hbm, ⟨11, _⟩ => ⟨S1x64, .f32⟩
  | .hbm, ⟨12, _⟩ => ⟨S4x64, .f32⟩
  | .hbm, ⟨13, _⟩ => ⟨S256, .f32⟩
  | .hbm, ⟨14, _⟩ => ⟨S1x256, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S256x256, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S_, .i32⟩
  | .hbm, ⟨25, _⟩ => ⟨S256x256, .f32⟩
  | .hbm, ⟨26, _⟩ => ⟨S1x64x64, .f32⟩
  | .hbm, ⟨27, _⟩ => ⟨S64x64, .f32⟩
  | .hbm, ⟨28, _⟩ => ⟨S_, .i32⟩
  | .hbm, ⟨29, _⟩ => ⟨S_, .i32⟩
  | .hbm, ⟨30, _⟩ => ⟨S256x256, .f32⟩
  | .hbm, ⟨31, _⟩ => ⟨S1x64x64, .f32⟩
  | .hbm, ⟨32, _⟩ => ⟨S64x64, .f32⟩
  | .hbm, ⟨33, _⟩ => ⟨S_, .i32⟩
  | .hbm, ⟨34, _⟩ => ⟨S_, .i32⟩
  | .hbm, ⟨35, _⟩ => ⟨S256x256, .f32⟩
  | .hbm, ⟨36, _⟩ => ⟨S1x64x64, .f32⟩
  | .hbm, ⟨37, _⟩ => ⟨S64x64, .f32⟩
  | .hbm, ⟨38, _⟩ => ⟨S_, .i32⟩
  | .hbm, ⟨39, _⟩ => ⟨S_, .i32⟩
  | .hbm, ⟨40, _⟩ => ⟨S256x256, .f32⟩
  | .hbm, ⟨41, _⟩ => ⟨S256x256, .bf16⟩
  | .hbm, ⟨42, _⟩ => ⟨S1x256, .f32⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S4x128x128, .i1⟩
  | .hbm, ⟨50, _⟩ => ⟨S_, .f32⟩
  | .hbm, ⟨51, _⟩ => ⟨S4x128x128, .f32⟩
  | .hbm, ⟨52, _⟩ => ⟨S4x128x128, .f32⟩
  | .hbm, ⟨53, _⟩ => ⟨S4x128x128, .bf16⟩
  | .hbm, ⟨54, _⟩ => ⟨S128x4, .f32⟩
  | .hbm, ⟨55, _⟩ => ⟨S128x4x64, .f32⟩
  | .hbm, ⟨56, _⟩ => ⟨S128x256, .f32⟩
  | .hbm, ⟨57, _⟩ => ⟨S1x64, .f32⟩
  | .hbm, ⟨58, _⟩ => ⟨S4x64, .f32⟩
  | .hbm, ⟨59, _⟩ => ⟨S256, .f32⟩
  | .hbm, ⟨60, _⟩ => ⟨S1x256, .f32⟩
  | .hbm, ⟨61, _⟩ => ⟨S8192x256, .bf16⟩
  | .hbm, ⟨62, _⟩ => ⟨S8192x512, .bf16⟩
  | .hbm, ⟨63, _⟩ => ⟨S8192x256, .bf16⟩
  | .hbm, ⟨64, _⟩ => ⟨S8192x256, .bf16⟩
  | .hbm, ⟨65, _⟩ => ⟨S8192x256, .bf16⟩
  | .local _ .vmem, ⟨0, _⟩ => ⟨S1024x1536, .bf16⟩
  | .local _ .vmem, ⟨1, _⟩ => ⟨S1024x1536, .bf16⟩
  | .local _ .vmem, ⟨2, _⟩ => ⟨S16x256, .bf16⟩
  | .local _ .vmem, ⟨3, _⟩ => ⟨S16x256, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x256, .f32⟩
  | .local _ .vmem, ⟨9, _⟩ => ⟨S1x128, .f32⟩
  | .local _ .vmem, ⟨10, _⟩ => ⟨S256x256, .bf16⟩
  | .local _ .vmem, ⟨11, _⟩ => ⟨S256x256, .bf16⟩
  | .local _ .vmem, ⟨12, _⟩ => ⟨S1x256, .f32⟩
  | .local _ .vmem, ⟨13, _⟩ => ⟨S4x128x128, .bf16⟩
  | .local _ .vmem, ⟨14, _⟩ => ⟨S128x256, .f32⟩
  | .local _ .vmem, ⟨15, _⟩ => ⟨S1x256, .f32⟩
  | .local _ .vmem, ⟨16, _⟩ => ⟨S1024x256, .bf16⟩
  | .local _ .vmem, ⟨17, _⟩ => ⟨S1024x256, .bf16⟩
  | .local _ .vmem, ⟨18, _⟩ => ⟨S1024x512, .bf16⟩
  | .local _ .vmem, ⟨19, _⟩ => ⟨S1024x512, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_c_7 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_cst : Ref sig .tc := ⟨.hbm, 50, rfl⟩
abbrev main_call0_v6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32_0 : Ref sig .tc := ⟨.hbm, 61, rfl⟩
abbrev main_v32_1 : Ref sig .tc := ⟨.hbm, 62, rfl⟩
abbrev main_v32_2 : Ref sig .tc := ⟨.hbm, 63, rfl⟩
abbrev main_v32_3 : Ref sig .tc := ⟨.hbm, 64, rfl⟩
abbrev main_v32_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Proof.Conv.Math.lean ====
/- One column of the convolution and its gradient, as functions of the row. -/
module

public import Idealize.ShloMosaic.PureOps.Ideal
public import Idealize.ShloMosaic.Lib.Pipeline.ValueKit
public import Idealize.ShloMosaic.Lib.KernelVsHost
public import Idealize.ShloMosaic.Lib.IdealHost

@[expose] public section

noncomputable section

namespace Cert.Conv

open Idealize.ShloMosaic

/-- A column of the convolution's input with its three taps and its bias. -/
structure Col where
  /-- The input, by row. -/
  u : ℕ → EReal
  /-- The taps, the oldest row's first. -/
  w : Fin 3 → EReal
  /-- The bias. -/
  b : EReal

/-- The column with eight rows of zeros above it. -/
def padded (u : ℕ → EReal) (n : ℕ) : EReal := if n < 8 then 0 else u (n - 8)

theorem padded_lt {u : ℕ → EReal} {n : ℕ} (h : n < 8) : padded u n = 0 := if_pos h

theorem padded_ge {u : ℕ → EReal} {n k : ℕ} (h : n = k + 8) : padded u n = u k := by
  subst h
  exact (if_neg (by omega)).trans (by simp)

/-- The causal convolution at row `t`: rows `t - 2`, `t - 1` and `t` weighted by the taps, and the bias. -/
def Col.conv (C : Col) (t : ℕ) : EReal :=
  C.w 0 * padded C.u (t + 6) + C.w 1 * padded C.u (t + 7) + C.w 2 * padded C.u (t + 8) + C.b

/-- The sigmoid as the kernel writes it. -/
def sg (x : EReal) : EReal := Ideal.ofBits .f32 1056964608#32 * Ideal.tanh (Ideal.ofBits .f32 1056964608#32 * x) + Ideal.ofBits .f32 1056964608#32

/-- The cotangent of the gate's convolution at row `t`, the cotangent of the product `silu gate * val` being `a`. -/
def dGate (G V : Col) (a : ℕ → EReal) (t : ℕ) : EReal :=
  a t * V.conv t * (sg (G.conv t) * (1 + G.conv t * (1 - sg (G.conv t))))

/-- The cotangent of the value's convolution at row `t`. -/
def dVal (G : Col) (a : ℕ → EReal) (t : ℕ) : EReal := a t * (G.conv t * sg (G.conv t))

/-- The cotangent of the input at row `t`: rows `t`, `t + 1` and `t + 2` of the convolution's, by the taps. -/
def back (w : Fin 3 → EReal) (d : ℕ → EReal) (t : ℕ) : EReal := w 2 * d t + w 1 * d (t + 1) + w 0 * d (t + 2)

/-- The term of row `t` in the cotangent of tap `k`. -/
def tapTerm (u d : ℕ → EReal) (k : Fin 3) (t : ℕ) : EReal := d t * padded u (t + 6 + k)

theorem dGate_zero (G V : Col) (a : ℕ → EReal) (t : ℕ) (h : a t = 0) : dGate G V a t = 0 := by simp [dGate, h]

theorem dVal_zero (G : Col) (a : ℕ → EReal) (t : ℕ) (h : a t = 0) : dVal G a t = 0 := by simp [dVal, h]

end Cert.Conv
end
-- ==== Proof.Conv.Block.lean ====
/- What one block of the kernel computes, column by column. -/
module

public import proofs.«01_k».proof.Proof.Gen.KernelIdeal.Skeleton
public import proofs.«01_k».proof.Proof.Conv.Math

@[expose] public section

set_option maxRecDepth 16384

noncomputable section

namespace Cert.KernelIdeal.Conv

open Cert.KernelIdeal Cert.KernelIdeal.Gen Idealize.ShloMosaic Idealize.ShloMosaic.TcCoe Cert.Conv

variable {i : grid0.Coords} {l : Fin 256} {R : ℕ}

/-- Column `l` of a tile and of its two halos holds rows of `u`: the tile's 1024 from row `1024 R`, the sixteen
    before and the sixteen after where they exist. -/
structure Halo (i : grid0.Coords) (l : Fin 256) (R : ℕ) (u : ℕ → EReal)
    (p n : Vec Ideal S16x256 .bf16) (x : Vec Ideal S1024x256 .bf16) : Prop where
  coord : ((i 1 : Fin _) : ℕ) = R
  prev : R ≠ 0 → ∀ k : Fin 16, p (ix2 k l) = u (1024 * R - 16 + k)
  next : R ≠ 7 → ∀ k : Fin 16, n (ix2 k l) = u (1024 * R + 1024 + k)
  cur : ∀ k : Fin 1024, x (ix2 k l) = u (1024 * R + k)

/-- Column `l` of a tile of the cotangent and of its halo after it holds rows of `a`, which is zero past the array. -/
structure Ct (i : grid0.Coords) (l : Fin 256) (R : ℕ) (a : ℕ → EReal)
    (x : Vec Ideal S1024x256 .f32) (n : Vec Ideal S8x256 .f32) : Prop where
  coord : ((i 1 : Fin _) : ℕ) = R
  next : R ≠ 7 → ∀ k : Fin 8, n (ix2 k l) = a (1024 * R + 1024 + k)
  cur : ∀ k : Fin 1024, x (ix2 k l) = a (1024 * R + k)
  beyond : ∀ t, 8192 ≤ t → a t = 0

/-- Column `l` of the taps and of the bias. -/
structure Par (l : Fin 256) (C : Col) (w : Vec Ideal S3x256 .f32) (b : Vec Ideal S1x256 .f32) : Prop where
  tap : ∀ k : Fin 3, w (ix2 k l) = C.w k
  bias : b (ix2 0 l) = C.b

/-- A select on whether a coordinate, as a word, is a given word. -/
theorem sel_eq (k : ℕ) (c : BitVec 32) (hk : k < 2 ^ 32) (x y : EReal) :
    Scalar.select (Scalar.cmpi CmpIPredicate.eq (BitVec.ofNat 32 k) c) x y = if k = c.toNat then x else y := by
  have e : (BitVec.ofNat 32 k = c) = (k = c.toNat) := by
    apply propext
    constructor
    · rintro rfl
      rw [BitVec.toNat_ofNat, Nat.mod_eq_of_lt hk]
    · rintro rfl
      simp
  show (if BitVec.ofBool (BitVec.ofNat 32 k == c) = 1#1 then x else y) = _
  by_cases h : k = c.toNat
  · rw [if_pos h, if_pos]
    rw [← e] at h
    simp [h]
  · rw [if_neg h, if_neg]
    rw [← e] at h
    rw [beq_eq_false_iff_ne.mpr h]
    decide

/-- The tile between its halos is the column with eight rows of zeros above it, read from row `1024 R`. -/
theorem pay4_apply {u : ℕ → EReal} {p n : Vec Ideal S16x256 .bf16} {x : Vec Ideal S1024x256 .bf16}
    (H : Halo i l R u p n x) (k : Fin 1040) (hk : (k : ℕ) < 1032 ∨ R ≠ 7) :
    k0_pay4 i p n x (ix2 k l) = padded u (1024 * R + k) := by
  unfold k0_pay4
  pointwise
  have h7 := H.coord
  have hR : R < 8 := h7 ▸ (i 1).isLt
  by_cases h8 : (k : ℕ) < 8
  · rw [dif_pos h8]
    refine (sel_eq _ _ (by omega) _ _).trans ?_
    by_cases h0 : R = 0
    · exact (if_pos (by rw [h7, h0]; rfl)).trans (padded_lt (by omega)).symm
    · refine (if_neg (by rw [h7]; exact h0)).trans ?_
      refine (H.prev h0 _).trans (padded_ge ?_).symm
      show 1024 * R + (k : ℕ) = 1024 * R - 16 + (8 + k) + 8
      omega
  · rw [dif_neg h8]
    by_cases h10 : (k : ℕ) - 8 < 1024
    · rw [dif_pos h10]
      refine (H.cur _).trans (padded_ge ?_).symm
      show 1024 * R + (k : ℕ) = 1024 * R + (k - 8) + 8
      omega
    · rw [dif_neg h10]
      refine (H.next (by omega) _).trans (padded_ge ?_).symm
      show 1024 * R + (k : ℕ) = 1024 * R + 1024 + (k - 8 - 1024) + 8
      omega

theorem pay5_eq (p n : Vec Ideal S16x256 .bf16) (x : Vec Ideal S1024x256 .bf16) :
    k0_pay5 i p n x = k0_pay4 i p n x := rfl

theorem pay6_apply {p n : Vec Ideal S16x256 .bf16} {x : Vec Ideal S1024x256 .bf16} (k : Fin 1040) :
    k0_pay6 i p n x (ix2 k l) = k0_pay4 i p n x (ix2 ⟨((k : ℕ) + 1040 - 1) % 1040, by omega⟩ l) := by
  unfold k0_pay6
  pointwise

/-- The cotangent's rows, with zeros past the array. -/
theorem pay3_apply {a : ℕ → EReal} {x : Vec Ideal S1024x256 .f32} {n : Vec Ideal S8x256 .f32}
    (H : Ct i l R a x n) (k : Fin 1032) : k0_pay3 i x n (ix2 k l) = a (1024 * R + k) := by
  unfold k0_pay3
  pointwise
  have h7 := H.coord
  have hR : R < 8 := h7 ▸ (i 1).isLt
  by_cases h8 : (k : ℕ) < 1024
  · rw [dif_pos h8]
    exact H.cur _
  · rw [dif_neg h8]
    refine (sel_eq _ _ (by omega) _ _).trans ?_
    by_cases h0 : R = 7
    · exact (if_pos (by rw [h7, h0]; rfl)).trans (H.beyond _ (by omega)).symm
    · refine (if_neg (by rw [h7]; exact h0)).trans ?_
      refine (H.next h0 _).trans (congrArg a ?_)
      show 1024 * R + 1024 + ((k : ℕ) - 1024) = 1024 * R + k
      omega

/-- The tile's convolution. -/
theorem pay11_apply {C : Col} {p n : Vec Ideal S16x256 .bf16} {x : Vec Ideal S1024x256 .bf16} {w : Vec Ideal S3x256 .f32}
    {b : Vec Ideal S1x256 .f32} (H : Halo i l R C.u p n x) (Q : Par l C w b) (r : Fin 1032) (hr : (r : ℕ) < 1024 ∨ R ≠ 7) :
    k0_pay11 (k0_pay4 i p n x) w (k0_pay6 i p n x) b (ix2 r l) = C.conv (1024 * R + r) := by
  unfold k0_pay11 k0_pay7 k0_pay8
  pointwise
  rw [pay6_apply, pay4_apply H _ (by dsimp only; omega), pay4_apply H _ (by dsimp only; omega),
    pay4_apply H _ (by dsimp only; omega), Q.tap, Q.tap, Q.tap, Q.bias]
  unfold Col.conv
  dsimp only
  rw [show 1024 * R + (8 + (r : ℕ) + 1040 - 2) % 1040 = 1024 * R + r + 6 by omega,
    show 1024 * R + (8 + (r : ℕ) + 1040 - 1) % 1040 = 1024 * R + r + 7 by omega,
    show 1024 * R + (8 + (r : ℕ)) = 1024 * R + r + 8 by omega]

theorem pay12_apply (v17 : FVec Ideal S1040x256 .f32) (v29 : Vec Ideal S3x256 .f32) (v31 : FVec Ideal S1040x256 .f32)
    (v51 : Vec Ideal S1x256 .f32) (r : Fin 1032) (l : Fin 256) :
    k0_pay12 v17 v29 v31 v51 (ix2 r l) = sg (k0_pay11 v17 v29 v31 v51 (ix2 r l)) := by
  unfold k0_pay12
  pointwise
  rfl

theorem pay14_apply (v17 : FVec Ideal S1040x256 .f32) (v29 : Vec Ideal S3x256 .f32) (v31 : FVec Ideal S1040x256 .f32)
    (v51 : Vec Ideal S1x256 .f32) (r : Fin 1032) (l : Fin 256) :
    k0_pay14 v17 v29 v31 v51 (ix2 r l) = 1 - sg (k0_pay11 v17 v29 v31 v51 (ix2 r l)) := by
  rw [← pay12_apply]
  unfold k0_pay14
  pointwise

/-- The cotangent times the tile's other convolution. -/
theorem pay13_apply {C : Col} {p n : Vec Ideal S16x256 .bf16} {x : Vec Ideal S1024x256 .bf16} {w : Vec Ideal S3x256 .f32}
    {b : Vec Ideal S1x256 .f32} (H : Halo i l R C.u p n x) (Q : Par l C w b) (v6 : FVec Ideal S1032x256 .f32) (r : Fin 1032)
    (hr : (r : ℕ) < 1024 ∨ R ≠ 7) :
    k0_pay13 v6 (k0_pay5 i p n x) w b (ix2 r l) = v6 (ix2 r l) * C.conv (1024 * R + r) := by
  unfold k0_pay13 k0_pay9 k0_pay10
  rw [pay5_eq]
  pointwise
  rw [pay4_apply H _ (by dsimp only; omega), pay4_apply H _ (by dsimp only; omega),
    pay4_apply H _ (by dsimp only; omega), Q.tap, Q.tap, Q.tap, Q.bias]
  unfold Col.conv
  dsimp only
  rw [show 1024 * R + (8 + (r : ℕ) + 1040 - 2) % 1040 = 1024 * R + r + 6 by omega,
    show 1024 * R + (8 + (r : ℕ) + 1040 - 1) % 1040 = 1024 * R + r + 7 by omega,
    show 1024 * R + (8 + (r : ℕ)) = 1024 * R + r + 8 by omega]

theorem pay13_zero (v6 : FVec Ideal S1032x256 .f32) (v28 : FVec Ideal S1040x256 .f32) (w : Vec Ideal S3x256 .f32)
    (b : Vec Ideal S1x256 .f32) (r : Fin 1032) (h : v6 (ix2 r l) = 0) : k0_pay13 v6 v28 w b (ix2 r l) = 0 := by
  unfold k0_pay13
  pointwise
  rw [h, zero_mul]

theorem pay15_apply (v54 v77 v78 v80 : FVec Ideal S1032x256 .f32) (r : Fin 1032) :
    k0_pay15 v54 v77 v78 v80 (ix2 r l) = v78 (ix2 r l) * (v77 (ix2 r l) * (1 + v54 (ix2 r l) * v80 (ix2 r l))) := by
  unfold k0_pay15
  pointwise

theorem pay16_apply (v6 v54 v77 : FVec Ideal S1032x256 .f32) (r : Fin 1032) :
    k0_pay16 v6 v54 v77 (ix2 r l) = v6 (ix2 r l) * (v54 (ix2 r l) * v77 (ix2 r l)) := by
  unfold k0_pay16
  pointwise

section
variable {G V : Col} {a : ℕ → EReal} {gp gn vp vn : Vec Ideal S16x256 .bf16} {gx vx : Vec Ideal S1024x256 .bf16}
  {wg wv : Vec Ideal S3x256 .f32} {bg bv : Vec Ideal S1x256 .f32} {ax : Vec Ideal S1024x256 .f32} {an : Vec Ideal S8x256 .f32}

/-- The cotangent of the gate's convolution on the tile and the eight rows after it. -/
theorem gate_apply (HG : Halo i l R G.u gp gn gx) (HV : Halo i l R V.u vp vn vx) (QG : Par l G wg bg) (QV : Par l V wv bv)
    (HA : Ct i l R a ax an) (r : Fin 1032) :
    k0_pay15 (k0_pay11 (k0_pay4 i gp gn gx) wg (k0_pay6 i gp gn gx) bg) (k0_pay12 (k0_pay4 i gp gn gx) wg (k0_pay6 i gp gn gx) bg)
      (k0_pay13 (k0_pay3 i ax an) (k0_pay5 i vp vn vx) wv bv) (k0_pay14 (k0_pay4 i gp gn gx) wg (k0_pay6 i gp gn gx) bg) (ix2 r l)
      = dGate G V a (1024 * R + r) := by
  rw [pay15_apply]
  by_cases hr : (r : ℕ) < 1024 ∨ R ≠ 7
  · rw [pay12_apply, pay14_apply, pay11_apply HG QG r hr, pay13_apply HV QV _ r hr, pay3_apply HA]; rfl
  · have h0 : a (1024 * R + r) = 0 := HA.beyond _ (by omega)
    rw [pay13_zero _ _ _ _ r (by rw [pay3_apply HA, h0]), zero_mul, dGate_zero _ _ _ _ h0]

/-- The cotangent of the value's convolution on the tile and the eight rows after it. -/
theorem val_apply (HG : Halo i l R G.u gp gn gx) (QG : Par l G wg bg) (HA : Ct i l R a ax an) (r : Fin 1032) :
    k0_pay16 (k0_pay3 i ax an) (k0_pay11 (k0_pay4 i gp gn gx) wg (k0_pay6 i gp gn gx) bg)
      (k0_pay12 (k0_pay4 i gp gn gx) wg (k0_pay6 i gp gn gx) bg) (ix2 r l) = dVal G a (1024 * R + r) := by
  rw [pay16_apply, pay3_apply HA]
  by_cases hr : (r : ℕ) < 1024 ∨ R ≠ 7
  · rw [pay12_apply, pay11_apply HG QG r hr]; rfl
  · have h0 : a (1024 * R + r) = 0 := HA.beyond _ (by omega)
    rw [h0, zero_mul, dVal_zero _ _ _ h0]

end

/-- The rows of the input's cotangent from the rows of the convolution's. -/
theorem pay17_apply {w : Vec Ideal S3x256 .f32} {v54 v77 v78 v80 : FVec Ideal S1032x256 .f32} {W : Fin 3 → EReal} {d : ℕ → EReal}
    (hw : ∀ k, w (ix2 k l) = W k) (hd : ∀ r : Fin 1032, k0_pay15 v54 v77 v78 v80 (ix2 r l) = d (1024 * R + r)) (r : Fin 1024) :
    k0_pay17 w v54 v77 v78 v80 (ix3 0 r l) = back W d (1024 * R + r) := by
  unfold k0_pay17
  pointwise
  rw [hd, hd, hd, hw, hw, hw]
  unfold back
  dsimp only
  rw [show 1024 * R + ((r : ℕ) + 1032 - 1031) % 1032 = 1024 * R + r + 1 by omega,
    show 1024 * R + ((r : ℕ) + 1032 - 1030) % 1032 = 1024 * R + r + 2 by omega]

theorem pay18_apply {w : Vec Ideal S3x256 .f32} {v6 v54 v77 : FVec Ideal S1032x256 .f32} {W : Fin 3 → EReal} {d : ℕ → EReal}
    (hw : ∀ k, w (ix2 k l) = W k) (hd : ∀ r : Fin 1032, k0_pay16 v6 v54 v77 (ix2 r l) = d (1024 * R + r)) (r : Fin 1024) :
    k0_pay18 v6 w v54 v77 (ix3 0 r l) = back W d (1024 * R + r) := by
  unfold k0_pay18
  pointwise
  rw [hd, hd, hd, hw, hw, hw]
  unfold back
  dsimp only
  rw [show 1024 * R + ((r : ℕ) + 1032 - 1031) % 1032 = 1024 * R + r + 1 by omega,
    show 1024 * R + ((r : ℕ) + 1032 - 1030) % 1032 = 1024 * R + r + 2 by omega]

/-- The tile's part of the gate taps' cotangent. -/
theorem pay28_apply {p n : Vec Ideal S16x256 .bf16} {x : Vec Ideal S1024x256 .bf16} {v54 v77 v78 v80 : FVec Ideal S1032x256 .f32}
    {u d : ℕ → EReal} (H : Halo i l R u p n x) (hd : ∀ r : Fin 1032, k0_pay15 v54 v77 v78 v80 (ix2 r l) = d (1024 * R + r))
    (v158 : Vec Ideal S3x256 .f32) (k : Fin 3) :
    k0_pay28 (k0_pay4 i p n x) (k0_pay7 (k0_pay6 i p n x)) (k0_pay19 v54 v77 v78 v80)
      (k0_pay20 (k0_pay8 (k0_pay4 i p n x)) v54 v77 v78 v80) v158 (ix2 k l)
      = v158 (ix2 k l) + ∑ r : Fin 1024, tapTerm u d k (1024 * R + r) := by
  unfold k0_pay28 k0_pay20 k0_pay19 k0_pay7 k0_pay8
  pointwise
  congr 1
  fin_cases k
  · rw [dif_pos (by decide)]
    refine Finset.sum_congr rfl fun r _ => ?_
    rw [hd, pay4_apply H _ (by dsimp only; omega)]
    unfold tapTerm
    dsimp only
    rw [show 1024 * R + (8 + (r : ℕ) + 1040 - 2) % 1040 = 1024 * R + r + 6 + 0 by omega]
  · rw [dif_neg (by decide), dif_pos (by decide)]
    refine Finset.sum_congr rfl fun r _ => ?_
    rw [hd, pay6_apply, pay4_apply H _ (by dsimp only; omega)]
    unfold tapTerm
    dsimp only
    rw [show 1024 * R + (8 + (r : ℕ) + 1040 - 1) % 1040 = 1024 * R + r + 6 + 1 by omega]
  · rw [dif_neg (by decide), dif_neg (by decide)]
    refine Finset.sum_congr rfl fun r _ => ?_
    rw [hd, pay4_apply H _ (by dsimp only; omega)]
    unfold tapTerm
    dsimp only
    rw [show 1024 * R + (8 + (r : ℕ)) = 1024 * R + r + 6 + 2 by omega]

/-- The tile's part of the value taps' cotangent. -/
theorem pay29_apply {p n : Vec Ideal S16x256 .bf16} {x : Vec Ideal S1024x256 .bf16} {v6 v54 v77 : FVec Ideal S1032x256 .f32}
    {u d : ℕ → EReal} (H : Halo i l R u p n x) (hd : ∀ r : Fin 1032, k0_pay16 v6 v54 v77 (ix2 r l) = d (1024 * R + r))
    (v162 : Vec Ideal S3x256 .f32) (k : Fin 3) :
    k0_pay29 (k0_pay5 i p n x) (k0_pay9 (k0_pay5 i p n x)) (k0_pay10 (k0_pay5 i p n x)) (k0_pay16 v6 v54 v77) v162 (ix2 k l)
      = v162 (ix2 k l) + ∑ r : Fin 1024, tapTerm u d k (1024 * R + r) := by
  rw [pay5_eq]
  unfold k0_pay29 k0_pay22 k0_pay9 k0_pay10
  pointwise
  congr 1
  fin_cases k
  · rw [dif_pos (by decide)]
    refine Finset.sum_congr rfl fun r _ => ?_
    rw [hd, pay4_apply H _ (by dsimp only; omega)]
    unfold tapTerm
    dsimp only
    rw [show 1024 * R + (8 + (r : ℕ) + 1040 - 2) % 1040 = 1024 * R + r + 6 + 0 by omega]
  · rw [dif_neg (by decide), dif_pos (by decide)]
    refine Finset.sum_congr rfl fun r _ => ?_
    rw [hd, pay4_apply H _ (by dsimp only; omega)]
    unfold tapTerm
    dsimp only
    rw [show 1024 * R + (8 + (r : ℕ) + 1040 - 1) % 1040 = 1024 * R + r + 6 + 1 by omega]
  · rw [dif_neg (by decide), dif_neg (by decide)]
    refine Finset.sum_congr rfl fun r _ => ?_
    rw [hd, pay4_apply H _ (by dsimp only; omega)]
    unfold tapTerm
    dsimp only
    rw [show 1024 * R + (8 + (r : ℕ)) = 1024 * R + r + 6 + 2 by omega]

/-- The tile's part of the gate bias's cotangent. -/
theorem pay21_apply {v54 v77 v78 v80 : FVec Ideal S1032x256 .f32} {d : ℕ → EReal}
    (hd : ∀ r : Fin 1032, k0_pay15 v54 v77 v78 v80 (ix2 r l) = d (1024 * R + r)) (v166 : Vec Ideal S1x256 .f32) :
    k0_pay1 (k0_pay21 (k0_pay19 v54 v77 v78 v80)) v166 (ix2 0 l) = v166 (ix2 0 l) + ∑ r : Fin 1024, d (1024 * R + r) := by
  unfold k0_pay1 k0_pay21 k0_pay19
  pointwise
  congr 1
  refine Finset.sum_congr rfl fun r _ => ?_
  rw [hd]

/-- The tile's part of the value bias's cotangent. -/
theorem pay23_apply {v6 v54 v77 : FVec Ideal S1032x256 .f32} {d : ℕ → EReal}
    (hd : ∀ r : Fin 1032, k0_pay16 v6 v54 v77 (ix2 r l) = d (1024 * R + r)) (v170 : Vec Ideal S1x256 .f32) :
    k0_pay2 (k0_pay23 (k0_pay16 v6 v54 v77)) v170 (ix2 0 l) = v170 (ix2 0 l) + ∑ r : Fin 1024, d (1024 * R + r) := by
  unfold k0_pay2 k0_pay23 k0_pay22
  pointwise
  congr 1
  refine Finset.sum_congr rfl fun r _ => ?_
  rw [hd]

end Cert.KernelIdeal.Conv
end
-- ==== Proof.Conv.Array.lean ====
/- The columns that each grid point reads, and the arrays that the kernel leaves. -/
module

public import proofs.«01_k».proof.Proof.Gen.KernelIdeal.Value
public import proofs.«01_k».proof.Proof.Conv.Block

@[expose] public section

set_option maxRecDepth 16384

noncomputable section

namespace Cert.KernelIdeal.Conv

open Cert.KernelIdeal Cert.KernelIdeal.Gen Idealize.ShloMosaic Idealize.ShloMosaic.TcCoe Cert.Conv

variable (m : (ℓ : Loc nD τ sig) → Buf (Elt Ideal) ℓ) (c : Dev nD)

/-- Column `q` of the convolution's input, taps and bias. -/
def col (up : Vec Ideal S8192x5632 .bf16) (w : Vec Ideal S3x5632 .f32) (b : Vec Ideal S5632 .f32) (q : Fin 5632) : Col where
  u t := if h : t < 8192 then up (ix2 ⟨t, h⟩ q) else 0
  w k := w (ix2 k q)
  b := b (ix1 q)

/-- Column `q` of the cotangent, zero past the array. -/
def ctCol (a : Vec Ideal S8192x2816 .f32) (q : Fin 2816) (t : ℕ) : EReal := if h : t < 8192 then a (ix2 ⟨t, h⟩ q) else 0

theorem idx : ∀ t : Fin cfg0.N,
    ((grid0.coords t 1 : Fin _) : ℕ) = (t : ℕ) % 8 ∧
    win0_0.index t = ![(t : ℕ) % 8, (t : ℕ) / 8] ∧ win0_1.index t = ![64 * ((t : ℕ) % 8) - 1, (t : ℕ) / 8] ∧
    win0_2.index t = ![min (64 * ((t : ℕ) % 8) + 64) 511, (t : ℕ) / 8] ∧
    win0_3.index t = ![(t : ℕ) % 8, 11 + (t : ℕ) / 8] ∧ win0_4.index t = ![64 * ((t : ℕ) % 8) - 1, 11 + (t : ℕ) / 8] ∧
    win0_5.index t = ![min (64 * ((t : ℕ) % 8) + 64) 511, 11 + (t : ℕ) / 8] ∧
    win0_6.index t = ![(t : ℕ) % 8, (t : ℕ) / 8] ∧ win0_7.index t = ![min (128 * ((t : ℕ) % 8) + 128) 1023, (t : ℕ) / 8] ∧
    win0_8.index t = ![0, (t : ℕ) / 8] ∧ win0_9.index t = ![0, 11 + (t : ℕ) / 8] ∧
    win0_10.index t = ![0, (t : ℕ) / 8] ∧ win0_11.index t = ![0, 11 + (t : ℕ) / 8] ∧
    win0_12.index t = ![0, (t : ℕ) % 8, (t : ℕ) / 8] ∧ win0_13.index t = ![0, (t : ℕ) / 8] ∧ win0_14.index t = ![0, (t : ℕ) / 8] ∧
    win0_15.index t = ![0, (t : ℕ) / 8] ∧ win0_16.index t = ![0, (t : ℕ) / 8] :=
  (by decide +kernel : ∀ t : Fin grid0.N, _)

/-- The gate's column `q` of the launch's arguments. -/
def gateCol (q : Fin 2816) : Col :=
  col (m ((c : Thread nD τ).loc main_arg0)) (m ((c : Thread nD τ).loc main_arg1)) (m ((c : Thread nD τ).loc main_arg2)) ⟨q, by omega⟩

/-- The value's column `q`. -/
def valCol (q : Fin 2816) : Col :=
  col (m ((c : Thread nD τ).loc main_arg0)) (m ((c : Thread nD τ).loc main_arg1)) (m ((c : Thread nD τ).loc main_arg2)) ⟨2816 + q, by omega⟩

/-- The cotangent's column `q`. -/
def ct (q : Fin 2816) : ℕ → EReal := ctCol (m ((c : Thread nD τ).loc main_arg3)) q

/-- The gate's tile and halos at a point. -/
theorem haloG (t : Fin cfg0.N) (l : Fin 256) (q : Fin 2816) (hq : (q : ℕ) = 256 * ((t : ℕ) / 8) + l) :
    Halo (grid0.coords t) l ((t : ℕ) % 8) (gateCol m c q).u (iblk m c 1 t) (iblk m c 2 t) (iblk m c 0 t) where
  coord := (idx t).1
  prev h0 k := by
    unfold gateCol col
    dsimp only
    rw [dif_pos (by omega)]
    blk_ext [iblk, V, idx t]
  next h7 k := by
    unfold gateCol col
    dsimp only
    rw [dif_pos (by omega)]
    blk_ext [iblk, V, idx t]
  cur k := by
    unfold gateCol col
    dsimp only
    rw [dif_pos (by omega)]
    blk_ext [iblk, V, idx t]

/-- The value's tile and halos at a point. -/
theorem haloV (t : Fin cfg0.N) (l : Fin 256) (q : Fin 2816) (hq : (q : ℕ) = 256 * ((t : ℕ) / 8) + l) :
    Halo (grid0.coords t) l ((t : ℕ) % 8) (valCol m c q).u (iblk m c 4 t) (iblk m c 5 t) (iblk m c 3 t) where
  coord := (idx t).1
  prev h0 k := by
    unfold valCol col
    dsimp only
    rw [dif_pos (by omega)]
    blk_ext [iblk, V, idx t]
  next h7 k := by
    unfold valCol col
    dsimp only
    rw [dif_pos (by omega)]
    blk_ext [iblk, V, idx t]
  cur k := by
    unfold valCol col
    dsimp only
    rw [dif_pos (by omega)]
    blk_ext [iblk, V, idx t]

theorem parG (t : Fin cfg0.N) (l : Fin 256) (q : Fin 2816) (hq : (q : ℕ) = 256 * ((t : ℕ) / 8) + l) :
    Par l (gateCol m c q) (iblk m c 8 t) (iblk m c 10 t) where
  tap k := by
    unfold gateCol col
    dsimp only
    blk_ext [iblk, V, idx t]
  bias := by
    unfold gateCol col
    dsimp only
    blk_point [iblk, V, idx t]

theorem parV (t : Fin cfg0.N) (l : Fin 256) (q : Fin 2816) (hq : (q : ℕ) = 256 * ((t : ℕ) / 8) + l) :
    Par l (valCol m c q) (iblk m c 9 t) (iblk m c 11 t) where
  tap k := by
    unfold valCol col
    dsimp only
    blk_ext [iblk, V, idx t]
  bias := by
    unfold valCol col
    dsimp only
    blk_point [iblk, V, idx t]

/-- The cotangent's tile and halo at a point. -/
theorem ctA (t : Fin cfg0.N) (l : Fin 256) (q : Fin 2816) (hq : (q : ℕ) = 256 * ((t : ℕ) / 8) + l) :
    Ct (grid0.coords t) l ((t : ℕ) % 8) (ct m c q) (iblk m c 6 t) (iblk m c 7 t) where
  coord := (idx t).1
  next h7 k := by
    unfold ct ctCol
    rw [dif_pos (by omega)]
    blk_ext [iblk, V, idx t]
  cur k := by
    unfold ct ctCol
    rw [dif_pos (by omega)]
    blk_ext [iblk, V, idx t]
  beyond k hk := dif_neg (by omega)

/-- The column that lane `l` of a point's blocks is. -/
def lane (t : Fin cfg0.N) (l : Fin 256) : Fin 2816 :=
  ⟨256 * ((t : ℕ) / 8) + l, by have h : (t : ℕ) < 88 := lt_of_lt_of_le t.isLt (le_of_eq N_0); omega⟩

/-- The gate's half of the convolution's cotangent at column `q`. -/
def dG (q : Fin 2816) : ℕ → EReal := dGate (gateCol m c q) (valCol m c q) (ct m c q)

/-- The value's half. -/
def dV (q : Fin 2816) : ℕ → EReal := dVal (gateCol m c q) (ct m c q)

/-- The input's cotangent. -/
def duArr : Vec Ideal S2x8192x2816 .bf16 := fun y =>
  if ((y 0 : Fin _) : ℕ) = 0 then back (gateCol m c (y 2)).w (dG m c (y 2)) (y 1 : Fin _) else back (valCol m c (y 2)).w (dV m c (y 2)) (y 1 : Fin _)

/-- The gate taps' cotangent. -/
def dwgArr : Vec Ideal S3x2816 .f32 := fun y => ∑ n : Fin 8192, tapTerm (gateCol m c (y 1)).u (dG m c (y 1)) (y 0) n

/-- The value taps' cotangent. -/
def dwvArr : Vec Ideal S3x2816 .f32 := fun y => ∑ n : Fin 8192, tapTerm (valCol m c (y 1)).u (dV m c (y 1)) (y 0) n

/-- The gate bias's cotangent. -/
def dbgArr : Vec Ideal S1x2816 .f32 := fun y => ∑ n : Fin 8192, dG m c (y 1) n

/-- The value bias's cotangent. -/
def dbvArr : Vec Ideal S1x2816 .f32 := fun y => ∑ n : Fin 8192, dV m c (y 1) n

/-- The sums over the tiles of a column's blocks are the sum over the column. -/
theorem point_sum (t : Fin cfg0.N) (l : Fin 256) (f : Fin 2816 → ℕ → EReal) (H : ∀ s : Fin 8, 8 * ((t : ℕ) / 8) + s < cfg0.N) :
    0 + ∑ s : Fin 8, ∑ r : Fin 1024, f (lane ⟨8 * ((t : ℕ) / 8) + s, H s⟩ l) (1024 * ((8 * ((t : ℕ) / 8) + s) % 8) + r)
      = ∑ n : Fin 8192, f (lane t l) n := by
  rw [zero_add]
  refine Eq.trans ?_ (Fin.sum_univ_univ_mul_add 8 1024 (f (lane t l)))
  refine Finset.sum_congr rfl fun s _ => Finset.sum_congr rfl fun r _ => ?_
  have e : lane ⟨8 * ((t : ℕ) / 8) + s, H s⟩ l = lane t l := by
    apply Fin.ext
    show 256 * ((8 * ((t : ℕ) / 8) + (s : ℕ)) / 8) + (l : ℕ) = 256 * ((t : ℕ) / 8) + l
    omega
  rw [e, show (8 * ((t : ℕ) / 8) + (s : ℕ)) % 8 = s by omega, mul_comm]

section
variable (t : Fin cfg0.N)

theorem outs13 (y : S3x256.Idx) (hf : (t : ℕ) % 8 = 8 - 1) :
    (outsAt0 m c t.val t.isLt).2.1 y = ∑ n : Fin 8192, tapTerm (gateCol m c (lane t (y 1))).u (dG m c (lane t (y 1))) (y 0) n := by
  rw [Pipeline.eq_sum_fin_of_reset_step_apply_of_flush (fun n h => (outsAt0 m c n h).2.1) 8 (fun _ => 0)
    (fun t y => ∑ r : Fin 1024, tapTerm (gateCol m c (lane t (y 1))).u (dG m c (lane t (y 1))) (y 0) (1024 * ((t : ℕ) % 8) + r))
    (fun t h y => by
      obtain ⟨k, l, rfl⟩ : ∃ k l, y = ix2 k l := ⟨_, _, eq_ix2 y⟩
      rw [outsAt0_A m c t h]
      frame_out
      refine (pay28_apply (haloG m c t l (lane t l) rfl) (gate_apply (haloG m c t l (lane t l) rfl) (haloV m c t l (lane t l) rfl) (parG m c t l (lane t l) rfl)
        (parV m c t l (lane t l) rfl) (ctA m c t l (lane t l) rfl)) _ k).trans ?_
      congr 1
      unfold k0_pay24
      pointwise)
    (fun t h y => by
      obtain ⟨k, l, rfl⟩ : ∃ k l, y = ix2 k l := ⟨_, _, eq_ix2 y⟩
      rw [outsAt0_B m c t h]
      frame_out
      exact pay28_apply (haloG m c t l (lane t l) rfl) (gate_apply (haloG m c t l (lane t l) rfl) (haloV m c t l (lane t l) rfl) (parG m c t l (lane t l) rfl)
        (parV m c t l (lane t l) rfl) (ctA m c t l (lane t l) rfl)) _ k) t hf y]
  exact point_sum t (y 1) (fun q => tapTerm (gateCol m c q).u (dG m c q) (y 0)) (Pipeline.run_point_lt_of_flush t hf)

theorem outs14 (y : S3x256.Idx) (hf : (t : ℕ) % 8 = 8 - 1) :
    (outsAt0 m c t.val t.isLt).2.2.1 y = ∑ n : Fin 8192, tapTerm (valCol m c (lane t (y 1))).u (dV m c (lane t (y 1))) (y 0) n := by
  rw [Pipeline.eq_sum_fin_of_reset_step_apply_of_flush (fun n h => (outsAt0 m c n h).2.2.1) 8 (fun _ => 0)
    (fun t y => ∑ r : Fin 1024, tapTerm (valCol m c (lane t (y 1))).u (dV m c (lane t (y 1))) (y 0) (1024 * ((t : ℕ) % 8) + r))
    (fun t h y => by
      obtain ⟨k, l, rfl⟩ : ∃ k l, y = ix2 k l := ⟨_, _, eq_ix2 y⟩
      rw [outsAt0_A m c t h]
      frame_out
      refine (pay29_apply (haloV m c t l (lane t l) rfl) (val_apply (haloG m c t l (lane t l) rfl) (parG m c t l (lane t l) rfl) (ctA m c t l (lane t l) rfl)) _ k).trans ?_
      congr 1
      unfold k0_pay25
      pointwise)
    (fun t h y => by
      obtain ⟨k, l, rfl⟩ : ∃ k l, y = ix2 k l := ⟨_, _, eq_ix2 y⟩
      rw [outsAt0_B m c t h]
      frame_out
      exact pay29_apply (haloV m c t l (lane t l) rfl) (val_apply (haloG m c t l (lane t l) rfl) (parG m c t l (lane t l) rfl) (ctA m c t l (lane t l) rfl)) _ k) t hf y]
  exact point_sum t (y 1) (fun q => tapTerm (valCol m c q).u (dV m c q) (y 0)) (Pipeline.run_point_lt_of_flush t hf)

theorem outs15 (y : S1x256.Idx) (hf : (t : ℕ) % 8 = 8 - 1) :
    (outsAt0 m c t.val t.isLt).2.2.2.1 y = ∑ n : Fin 8192, dG m c (lane t (y 1)) n := by
  rw [Pipeline.eq_sum_fin_of_reset_step_apply_of_flush (fun n h => (outsAt0 m c n h).2.2.2.1) 8 (fun _ => 0)
    (fun t y => ∑ r : Fin 1024, dG m c (lane t (y 1)) (1024 * ((t : ℕ) % 8) + r))
    (fun t h y => by
      obtain ⟨l, rfl⟩ : ∃ l, y = ix2 0 l := ⟨y 1, by rw [eq_ix2 y]; congr 1; exact Subsingleton.elim _ _⟩
      rw [outsAt0_A m c t h]
      frame_out
      refine (pay21_apply (gate_apply (haloG m c t l (lane t l) rfl) (haloV m c t l (lane t l) rfl) (parG m c t l (lane t l) rfl)
        (parV m c t l (lane t l) rfl) (ctA m c t l (lane t l) rfl)) _).trans ?_
      congr 1
      unfold k0_pay26
      pointwise)
    (fun t h y => by
      obtain ⟨l, rfl⟩ : ∃ l, y = ix2 0 l := ⟨y 1, by rw [eq_ix2 y]; congr 1; exact Subsingleton.elim _ _⟩
      rw [outsAt0_B m c t h]
      frame_out
      exact pay21_apply (gate_apply (haloG m c t l (lane t l) rfl) (haloV m c t l (lane t l) rfl) (parG m c t l (lane t l) rfl)
        (parV m c t l (lane t l) rfl) (ctA m c t l (lane t l) rfl)) _) t hf y]
  exact point_sum t (y 1) (fun q => dG m c q) (Pipeline.run_point_lt_of_flush t hf)

theorem outs16 (y : S1x256.Idx) (hf : (t : ℕ) % 8 = 8 - 1) :
    (outsAt0 m c t.val t.isLt).2.2.2.2 y = ∑ n : Fin 8192, dV m c (lane t (y 1)) n := by
  rw [Pipeline.eq_sum_fin_of_reset_step_apply_of_flush (fun n h => (outsAt0 m c n h).2.2.2.2) 8 (fun _ => 0)
    (fun t y => ∑ r : Fin 1024, dV m c (lane t (y 1)) (1024 * ((t : ℕ) % 8) + r))
    (fun t h y => by
      obtain ⟨l, rfl⟩ : ∃ l, y = ix2 0 l := ⟨y 1, by rw [eq_ix2 y]; congr 1; exact Subsingleton.elim _ _⟩
      rw [outsAt0_A m c t h]
      frame_out
      refine (pay23_apply (val_apply (haloG m c t l (lane t l) rfl) (parG m c t l (lane t l) rfl) (ctA m c t l (lane t l) rfl)) _).trans ?_
      congr 1
      unfold k0_pay27
      pointwise)
    (fun t h y => by
      obtain ⟨l, rfl⟩ : ∃ l, y = ix2 0 l := ⟨y 1, by rw [eq_ix2 y]; congr 1; exact Subsingleton.elim _ _⟩
      rw [outsAt0_B m c t h]
      frame_out
      exact pay23_apply (val_apply (haloG m c t l (lane t l) rfl) (parG m c t l (lane t l) rfl) (ctA m c t l (lane t l) rfl)) _) t hf y]
  exact point_sum t (y 1) (fun q => dV m c q) (Pipeline.run_point_lt_of_flush t hf)

theorem outs12 (p : Fin 2) (r : Fin 1024) (l : Fin 256) : (outsAt0 m c t.val t.isLt).1 (ix3 p r l)
    = if p = 0 then back (gateCol m c (lane t l)).w (dG m c (lane t l)) (1024 * ((t : ℕ) % 8) + r)
      else back (valCol m c (lane t l)).w (dV m c (lane t l)) (1024 * ((t : ℕ) % 8) + r) := by
  have hg : ∀ (r : Fin 1024) (l : Fin 256), _ := fun r l => pay17_apply (parG m c t l (lane t l) rfl).tap
    (gate_apply (haloG m c t l (lane t l) rfl) (haloV m c t l (lane t l) rfl) (parG m c t l (lane t l) rfl)
        (parV m c t l (lane t l) rfl) (ctA m c t l (lane t l) rfl)) r
  have hv : ∀ (r : Fin 1024) (l : Fin 256), _ := fun r l => pay18_apply (parV m c t l (lane t l) rfl).tap
    (val_apply (haloG m c t l (lane t l) rfl) (parG m c t l (lane t l) rfl) (ctA m c t l (lane t l) rfl)) r
  by_cases hA : (t : ℕ) % 8 = 0
  · rw [outsAt0_A m c t hA]
    frame_out
    canon_tiles x h
    · refine (congrArg _ (?_ : x = ix3 0 r l)).trans ((hv r l).trans (if_neg ?_).symm)
      · rw [eq_ix3 x]
        exact congr (congrArg₂ ix3 (Subsingleton.elim _ _) (Fin.ext h1.symm)) (Fin.ext h2.symm)
      · intro e
        subst e
        change 0 = 1 + _ at h0
        omega
    · refine (congrArg _ (?_ : x = ix3 0 r l)).trans ((hg r l).trans (if_pos ?_).symm)
      · rw [eq_ix3 x]
        exact congr (congrArg₂ ix3 (Subsingleton.elim _ _) (Fin.ext h1.symm)) (Fin.ext h2.symm)
      · apply Fin.ext
        change (p : ℕ) = _ at h0
        have hz : ((0 : Fin 2) : ℕ) = 0 := rfl
        omega
  · rw [outsAt0_B m c t hA]
    frame_out
    canon_tiles x h
    · refine (congrArg _ (?_ : x = ix3 0 r l)).trans ((hv r l).trans (if_neg ?_).symm)
      · rw [eq_ix3 x]
        exact congr (congrArg₂ ix3 (Subsingleton.elim _ _) (Fin.ext h1.symm)) (Fin.ext h2.symm)
      · intro e
        subst e
        change 0 = 1 + _ at h0
        omega
    · refine (congrArg _ (?_ : x = ix3 0 r l)).trans ((hg r l).trans (if_pos ?_).symm)
      · rw [eq_ix3 x]
        exact congr (congrArg₂ ix3 (Subsingleton.elim _ _) (Fin.ext h1.symm)) (Fin.ext h2.symm)
      · apply Fin.ext
        change (p : ℕ) = _ at h0
        have hz : ((0 : Fin 2) : ℕ) = 0 := rfl
        omega

end

/-- The first result after the run. -/
theorem final12 : (dats m 0 c).arrAt 12 cfg0.N = duArr m c := by
  refine (dats m 0 c).arrAt_eq_of_covers 12 _ (by decide +kernel) fun t hf y => ?_
  blk_simp
  rw [after0_12]
  obtain ⟨p, r, l, rfl⟩ : ∃ p r l, y = ix3 p r l := ⟨_, _, _, eq_ix3 y⟩
  refine (outs12 m c t p r l).trans ?_
  have e : (win0_12.blk t).view.emb (ix3 p r l) = ix3 p ⟨1024 * ((t : ℕ) % 8) + r, by omega⟩ (lane t l) := by
    unfold lane
    blk_ext [idx t]
  rw [e]
  unfold duArr
  refine if_congr ⟨fun h => by rw [h]; rfl, fun h => Fin.ext h⟩ rfl rfl

theorem final13 : (dats m 0 c).arrAt 13 cfg0.N = dwgArr m c := by
  refine (dats m 0 c).arrAt_eq_of_covers 13 _ (by decide +kernel) fun t hf y => ?_
  blk_simp
  rw [after0_13]
  refine (outs13 m c t y ((flush0_13 t).mp hf)).trans ?_
  have e : (win0_13.blk t).view.emb y = ix2 (y 0) (lane t (y 1)) := by
    unfold lane
    blk_ext [idx t]
  rw [e]
  rfl

theorem final14 : (dats m 0 c).arrAt 14 cfg0.N = dwvArr m c := by
  refine (dats m 0 c).arrAt_eq_of_covers 14 _ (by decide +kernel) fun t hf y => ?_
  blk_simp
  rw [after0_14]
  refine (outs14 m c t y ((flush0_14 t).mp hf)).trans ?_
  have e : (win0_14.blk t).view.emb y = ix2 (y 0) (lane t (y 1)) := by
    unfold lane
    blk_ext [idx t]
  rw [e]
  rfl

theorem final15 : (dats m 0 c).arrAt 15 cfg0.N = dbgArr m c := by
  refine (dats m 0 c).arrAt_eq_of_covers 15 _ (by decide +kernel) fun t hf y => ?_
  blk_simp
  rw [after0_15]
  refine (outs15 m c t y ((flush0_15 t).mp hf)).trans ?_
  have e : (win0_15.blk t).view.emb y = ix2 (y 0) (lane t (y 1)) := by
    unfold lane
    blk_ext [idx t]
  rw [e]
  rfl

theorem final16 : (dats m 0 c).arrAt 16 cfg0.N = dbvArr m c := by
  refine (dats m 0 c).arrAt_eq_of_covers 16 _ (by decide +kernel) fun t hf y => ?_
  blk_simp
  rw [after0_16]
  refine (outs16 m c t y ((flush0_16 t).mp hf)).trans ?_
  have e : (win0_16.blk t).view.emb y = ix2 (y 0) (lane t (y 1)) := by
    unfold lane
    blk_ext [idx t]
  rw [e]
  rfl

end Cert.KernelIdeal.Conv
end
-- ==== Proof.Conv.Real.lean ====
/- The gradient of the gated product on finite values: the kernel's factored form is the derivative's sum. -/
module

public import proofs.«01_k».proof.Proof.Conv.Math

@[expose] public section

noncomputable section

namespace Cert.Conv

open Idealize.ShloMosaic

/-- The value is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, by norm_num⟩

theorem half : Ideal.ofBits .f32 1056964608#32 = (((1 : ℝ) / 2 : ℝ) : EReal) := by
  simp [Ideal.ofBits, Ideal.ieee, -EReal.coe_mul]; norm_num

theorem real_sigmoid (x : ℝ) : 1 / 2 * Real.tanh (1 / 2 * x) + 1 / 2 = 1 / (1 + Real.exp (-x)) := by
  have e : Real.exp (-x) = Real.exp (-(1 / 2 * x)) * Real.exp (-(1 / 2 * x)) := by
    rw [← Real.exp_add]; congr 1; ring
  have e1 : Real.exp (1 / 2 * x) * Real.exp (-(1 / 2 * x)) = 1 := by
    rw [← Real.exp_add, add_neg_cancel, Real.exp_zero]
  rw [Real.tanh_eq_sinh_div_cosh, Real.sinh_eq, Real.cosh_eq, e]
  have p := Real.exp_pos (1 / 2 * x)
  have q := Real.exp_pos (-(1 / 2 * x))
  generalize Real.exp (1 / 2 * x) = a at *
  generalize Real.exp (-(1 / 2 * x)) = b at *
  have h1 : (a + b) ≠ 0 := by positivity
  have h2 : (1 + b * b) ≠ 0 := by positivity
  field_simp
  nlinarith

/-- The kernel's sigmoid of a real is the reference's. -/
theorem sg_coe (x : ℝ) : sg (x : EReal) = ((1 / (1 + Real.exp (-x)) : ℝ) : EReal) := by
  unfold sg
  rw [half, ← EReal.coe_mul, Ideal.tanh_coe, ← EReal.coe_mul, ← EReal.coe_add, real_sigmoid]

/-- The sigmoid as the reference writes it. -/
def logistic (x : EReal) : EReal := Ideal.div 1 (1 + Ideal.exp (-x))

theorem logistic_coe (x : ℝ) : logistic (x : EReal) = ((1 / (1 + Real.exp (-x)) : ℝ) : EReal) := by
  unfold logistic
  rw [← EReal.coe_neg, Ideal.exp_coe, show (1 : EReal) = ((1 : ℝ) : EReal) by norm_cast, ← EReal.coe_add,
    Ideal.div_coe (by positivity), ← EReal.coe_mul, one_mul]

theorem gate_eq {a v g : EReal} (ha : IsReal a) (hv : IsReal v) (hg : IsReal g) :
    a * v * (sg g * (1 + g * (1 - sg g))) = a * v * logistic g + g * (a * v) * (logistic g * (1 - logistic g)) := by
  obtain ⟨a, rfl⟩ := ha
  obtain ⟨v, rfl⟩ := hv
  obtain ⟨g, rfl⟩ := hg
  rw [sg_coe, logistic_coe, show (1 : EReal) = ((1 : ℝ) : EReal) by norm_cast]
  generalize (1 / (1 + Real.exp (-g)) : ℝ) = s
  norm_cast
  ring

theorem val_eq {g : EReal} (a : EReal) (hg : IsReal g) : a * (g * sg g) = g * logistic g * a := by
  obtain ⟨g, rfl⟩ := hg
  rw [sg_coe, logistic_coe, mul_comm]

/-- A convolution of finite columns is finite. -/
theorem Col.conv_real (C : Col) (hu : ∀ n, IsReal (C.u n)) (hw : ∀ k, IsReal (C.w k)) (hb : IsReal C.b) (t : ℕ) :
    IsReal (C.conv t) := by
  have hp : ∀ n, IsReal (padded C.u n) := fun n => by
    unfold padded
    split
    · exact IsReal.zero
    · exact hu _
  exact (((hw 0).mul (hp _)).add ((hw 1).mul (hp _))).add ((hw 2).mul (hp _)) |>.add hb

/-- A magnitude below the infinity is a real's. -/
theorem isReal_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

end Cert.Conv
end
-- ==== Proof.Conv.Reference.lean ====
/- What the reference's results hold, column by column. -/
module

public import proofs.«01_k».proof.Proof.Gen.ReferenceIdeal.Read
public import proofs.«01_k».proof.Proof.Conv.Real

@[expose] public section

set_option maxRecDepth 16384

noncomputable section

namespace Cert.ReferenceIdeal.Conv

open Cert.ReferenceIdeal Cert.ReferenceIdeal.Gen Cert.ReferenceIdeal.Read Idealize.ShloMosaic Idealize.ShloMosaic.TcCoe Cert.Conv

variable (x0 : Vec Ideal S8192x5632 .bf16) (x1 : Vec Ideal S3x5632 .f32) (x2 : Vec Ideal S5632 .f32) (x3 : Vec Ideal S8192x2816 .f32)

/-- Column `q` of the convolution's input, taps and bias. -/
def col (q : Fin 5632) : Col where
  u t := if h : t < 8192 then x0 (ix2 ⟨t, h⟩ q) else 0
  w k := x1 (ix2 k q)
  b := x2 (ix1 q)

/-- Column `q` of the convolution's cotangent, zero past the array. -/
def dRef (q : Fin 5632) (t : ℕ) : EReal := if h : t < 8192 then val_main_v34 (F := Ideal) x0 x1 x2 x3 (ix2 ⟨t, h⟩ q) else 0

theorem dRef_apply (t : Fin 8192) (q : Fin 5632) :
    val_main_v34 (F := Ideal) x0 x1 x2 x3 (ix2 t q) = dRef x0 x1 x2 x3 q t := by
  unfold dRef
  rw [dif_pos t.isLt]

theorem v2_apply (n : Fin 8194) (q : Fin 5632) :
    val_main_v2 (F := Ideal) x0 (ix2 n q) = padded (col x0 x1 x2 q).u (n + 6) := by
  unfold val_main_v2 val_main_v1 val_main_v0 val_main_cst
  pointwise
  by_cases h : (n : ℕ) < 2
  · rw [dif_pos h, padded_lt (by omega)]
  · rw [dif_neg h, padded_ge (k := n - 2) (by omega)]
    unfold col
    dsimp only
    rw [dif_pos (show (n : ℕ) - 2 < 8192 by omega)]

/-- The reference's convolution. -/
theorem v26_apply (t : Fin 8192) (q : Fin 5632) :
    val_main_v26 (F := Ideal) x0 x1 x2 (ix2 t q) = (col x0 x1 x2 q).conv t := by
  unfold val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6 val_main_v5 val_main_v4
  pointwise
  rw [v2_apply x0 x1 x2, v2_apply x0 x1 x2, v2_apply x0 x1 x2]
  unfold Col.conv
  dsimp only
  rw [show 1 + (t : ℕ) + 6 = t + 7 by omega, show 2 + (t : ℕ) + 6 = t + 8 by omega]
  rfl

/-- The gate's cotangent. -/
theorem v34_gate (t : Fin 8192) (q : Fin 2816) :
    val_main_v34 (F := Ideal) x0 x1 x2 x3 (ix2 t ⟨q, by omega⟩)
      = x3 (ix2 t q) * (col x0 x1 x2 ⟨2816 + q, by omega⟩).conv t * logistic ((col x0 x1 x2 ⟨q, by omega⟩).conv t)
        + (col x0 x1 x2 ⟨q, by omega⟩).conv t * (x3 (ix2 t q) * (col x0 x1 x2 ⟨2816 + q, by omega⟩).conv t)
          * (logistic ((col x0 x1 x2 ⟨q, by omega⟩).conv t) * (1 - logistic ((col x0 x1 x2 ⟨q, by omega⟩).conv t))) := by
  unfold val_main_v34 val_main_v33 val_main_call1_v2 val_main_call1_v1 val_main_call1_v0 val_main_v32 val_main_v29_1
    val_main_call0_v7 val_main_call0_v6 val_main_call0_cst_1 val_main_v29_2 val_main_call0_v4 val_main_call0_cst_0 val_main_call0_v3 val_main_call0_v2
    val_main_call0_cst val_main_call0_v1 val_main_call0_v0 val_main_v28 val_main_v27
  pointwise
  rw [v26_apply, v26_apply]
  rfl

/-- The value's cotangent. -/
theorem v34_val (t : Fin 8192) (q : Fin 2816) :
    val_main_v34 (F := Ideal) x0 x1 x2 x3 (ix2 t ⟨2816 + q, by omega⟩)
      = (col x0 x1 x2 ⟨q, by omega⟩).conv t * logistic ((col x0 x1 x2 ⟨q, by omega⟩).conv t) * x3 (ix2 t q) := by
  unfold val_main_v34 val_main_v31 val_main_v29_0 val_main_v29_2
    val_main_call0_v4 val_main_call0_cst_0 val_main_call0_v3 val_main_call0_v2
    val_main_call0_cst val_main_call0_v1 val_main_call0_v0 val_main_v27
  pointwise
  rw [v26_apply]
  rfl

/-- The input's cotangent, two rows of zeros' cotangent above it. -/
theorem v64_apply (t : Fin 8192) (q : Fin 5632) :
    val_main_v64 (F := Ideal) x0 x1 x2 x3 (ix2 ⟨2 + t, by omega⟩ q) = back (col x0 x1 x2 q).w (dRef x0 x1 x2 x3 q) t := by
  unfold val_main_v64 val_main_v63 val_main_v53 val_main_v52 val_main_v43 val_main_cst_4 val_main_cst_8 val_main_cst_12
    val_main_v39 val_main_v48 val_main_v59 val_main_v58 val_main_v47 val_main_v38 val_main_v19 val_main_v12 val_main_v6 val_main_v18 val_main_v11 val_main_v5 val_main_v17 val_main_v10 val_main_v4
  pointwise
  have h2 : ∀ (k : ℕ), (if h : k < 8192 then x1 (ix2 0 q) * val_main_v34 (F := Ideal) x0 x1 x2 x3 (ix2 ⟨k, h⟩ q) else 0)
      = x1 (ix2 0 q) * dRef x0 x1 x2 x3 q k := fun k => by
    unfold dRef
    split
    · rfl
    · rw [mul_zero]
  have h1 : (if h : 1 ≤ 2 + (t : ℕ) ∧ 2 + (t : ℕ) - 1 < 8192 then
        x1 (ix2 1 q) * val_main_v34 (F := Ideal) x0 x1 x2 x3 (ix2 ⟨2 + t - 1, h.2⟩ q) else 0)
      = x1 (ix2 1 q) * dRef x0 x1 x2 x3 q (t + 1) := by
    unfold dRef
    by_cases h : (t : ℕ) + 1 < 8192
    · rw [dif_pos h, dif_pos ⟨by omega, by omega⟩]
      simp only [show 2 + (t : ℕ) - 1 = t + 1 by omega]
    · rw [dif_neg h, dif_neg (by omega), mul_zero]
  refine (congrArg₂ (· + ·) (congrArg₂ (· + ·) (congrArg (x1 (ix2 2 q) * ·) (dRef_apply x0 x1 x2 x3 t q)) h1) (h2 (2 + t))).trans ?_
  unfold back col
  dsimp only
  rw [show 2 + (t : ℕ) = t + 2 by omega]

theorem v76_apply (p : Fin 2) (t : Fin 8192) (q : Fin 2816) : val_main_v76 (F := Ideal) x0 x1 x2 x3 (ix3 p t q)
    = if p = 0 then back (col x0 x1 x2 ⟨q, by omega⟩).w (dRef x0 x1 x2 x3 ⟨q, by omega⟩) t
      else back (col x0 x1 x2 ⟨2816 + q, by omega⟩).w (dRef x0 x1 x2 x3 ⟨2816 + q, by omega⟩) t := by
  unfold val_main_v76 val_main_v75 val_main_v74 val_main_v73 val_main_v72 val_main_v71 val_main_v70
  pointwise
  by_cases hp : p = 0
  · rw [if_pos hp, dif_pos (by rw [hp]; decide), v64_apply]
  · rw [if_neg hp, dif_neg (fun h => hp (Fin.ext (by omega))), v64_apply]

theorem v68_apply (k : Fin 3) (q : Fin 5632) : val_main_v68 (F := Ideal) x0 x1 x2 x3 (ix2 k q)
    = ∑ n : Fin 8192, tapTerm (col x0 x1 x2 q).u (dRef x0 x1 x2 x3 q) k n := by
  unfold val_main_v68 val_main_v67 val_main_v66 val_main_v65 val_main_v62 val_main_v61 val_main_v57 val_main_v56 val_main_v55 val_main_v54 val_main_v51 val_main_v50 val_main_v46 val_main_v45 val_main_v44 val_main_v42 val_main_v41
    val_main_v60 val_main_v49 val_main_v40 val_main_v20 val_main_v13 val_main_v7 val_main_cst_3 val_main_cst_5 val_main_cst_6 val_main_cst_7 val_main_cst_9 val_main_cst_10 val_main_cst_11 val_main_cst_13 val_main_cst_14
  pointwise
  unfold tapTerm
  match k with
  | 0 =>
    rw [dif_neg (by simp), dif_neg (by simp), dif_pos (by simp), zero_add, zero_add, Fin.sum_univ_one]
    exact Finset.sum_congr rfl fun x _ => by rw [v2_apply x0 x1 x2, dRef_apply]; rfl
  | 1 =>
    rw [dif_neg (by simp), dif_pos (by simp), dif_neg (by simp), zero_add, add_zero, Fin.sum_univ_one]
    exact Finset.sum_congr rfl fun x _ => by
      rw [v2_apply x0 x1 x2, dRef_apply]
      dsimp only
      rw [show 1 + (x : ℕ) + 6 = x + 6 + 1 by omega]
      rfl
  | 2 =>
    rw [dif_pos (by simp), dif_neg (by simp), dif_neg (by simp), add_zero, add_zero, Fin.sum_univ_one]
    exact Finset.sum_congr rfl fun x _ => by
      rw [v2_apply x0 x1 x2, dRef_apply]
      dsimp only
      rw [show 2 + (x : ℕ) + 6 = x + 6 + 2 by omega]
      rfl

theorem v37_apply (q : Fin 5632) : val_main_v37 (F := Ideal) x0 x1 x2 x3 (ix1 q) = ∑ n : Fin 8192, dRef x0 x1 x2 x3 q n := by
  unfold val_main_v37 val_main_v36 val_main_v35 val_main_cst_1 val_main_cst_2
  pointwise
  rw [Fin.sum_univ_one]
  exact Finset.sum_congr rfl fun x _ => dRef_apply x0 x1 x2 x3 x q

end Cert.ReferenceIdeal.Conv
end
-- ==== Proof.Conv.Equation.lean ====
/- On finite arrays the reference's five results are the kernel's. -/
module

public import proofs.«01_k».proof.Proof.Conv.Array
public import proofs.«01_k».proof.Proof.Conv.Reference

@[expose] public section

set_option maxRecDepth 16384

noncomputable section

namespace Cert.Conv.Equation

open Cert.KernelIdeal Cert.KernelIdeal.Conv Idealize.ShloMosaic Idealize.ShloMosaic.TcCoe Cert.Conv
open Cert.ReferenceIdeal.Read (val_main_v76 val_main_v77 val_main_v78 val_main_v80 val_main_v82 val_main_v68 val_main_v37 val_main_v34
  val_main_v79 val_main_v81)

variable (m : (ℓ : Loc nD τ sig) → Buf (Elt Ideal) ℓ) (c : Dev nD)

/-- The arguments on device `c`. -/
abbrev a0 : Vec Ideal S8192x5632 .bf16 := m ((c.tc : Thread nD τ).loc main_arg0)
abbrev a1 : Vec Ideal S3x5632 .f32 := m ((c.tc : Thread nD τ).loc main_arg1)
abbrev a2 : Vec Ideal S5632 .f32 := m ((c.tc : Thread nD τ).loc main_arg2)
abbrev a3 : Vec Ideal S8192x2816 .f32 := m ((c.tc : Thread nD τ).loc main_arg3)

/-- Every element of the arguments is a real number. -/
structure Finite : Prop where
  h0 : ∀ i, IsReal (a0 m c i)
  h1 : ∀ i, IsReal (a1 m c i)
  h2 : ∀ i, IsReal (a2 m c i)
  h3 : ∀ i, IsReal (a3 m c i)

variable {m c} (H : Finite m c)

include H

theorem conv_real (q : Fin 5632) (t : ℕ) : IsReal ((Cert.ReferenceIdeal.Conv.col (a0 m c) (a1 m c) (a2 m c) q).conv t) := by
  refine Col.conv_real _ (fun n => ?_) (fun k => H.h1 _) (H.h2 _) t
  unfold Cert.ReferenceIdeal.Conv.col
  dsimp only
  split
  · exact H.h0 _
  · exact IsReal.zero

theorem gate_d (q : Fin 2816) :
    Cert.ReferenceIdeal.Conv.dRef (a0 m c) (a1 m c) (a2 m c) (a3 m c) ⟨q, by omega⟩ = dG m c q := by
  funext t
  by_cases h : t < 8192
  · have e := Cert.ReferenceIdeal.Conv.v34_gate (a0 m c) (a1 m c) (a2 m c) (a3 m c) ⟨t, h⟩ q
    rw [← gate_eq (H.h3 _) (conv_real H _ _) (conv_real H _ _)] at e
    refine (dif_pos h).trans (e.trans ?_)
    unfold dG dGate ct ctCol
    rw [dif_pos h]
    rfl
  · refine (dif_neg h).trans ?_
    unfold dG dGate ct ctCol
    rw [dif_neg h, zero_mul, zero_mul]

theorem val_d (q : Fin 2816) :
    Cert.ReferenceIdeal.Conv.dRef (a0 m c) (a1 m c) (a2 m c) (a3 m c) ⟨2816 + q, by omega⟩ = dV m c q := by
  funext t
  by_cases h : t < 8192
  · have e := Cert.ReferenceIdeal.Conv.v34_val (a0 m c) (a1 m c) (a2 m c) (a3 m c) ⟨t, h⟩ q
    rw [← val_eq _ (conv_real H _ _)] at e
    refine (dif_pos h).trans (e.trans ?_)
    unfold dV dVal ct ctCol
    rw [dif_pos h]
    rfl
  · refine (dif_neg h).trans ?_
    unfold dV dVal ct ctCol
    rw [dif_neg h, zero_mul]

/-- The input's gradient. -/
theorem du : val_main_v76 (F := Ideal) (a0 m c) (a1 m c) (a2 m c) (a3 m c) = duArr m c := by
  funext y
  obtain ⟨p, t, q, rfl⟩ : ∃ (p : Fin 2) (t : Fin 8192) (q : Fin 2816), y = ix3 p t q := ⟨y 0, y 1, y 2, by funext k; match k with | 0 => rfl | 1 => rfl | 2 => rfl⟩
  refine (Cert.ReferenceIdeal.Conv.v76_apply (a0 m c) (a1 m c) (a2 m c) (a3 m c) p t q).trans ?_
  rw [gate_d H, val_d H]
  by_cases hp : p = 0
  · rw [if_pos hp]; exact (if_pos (congrArg Fin.val hp)).symm
  · rw [if_neg hp]; exact (if_neg (fun h => hp (Fin.ext h))).symm

/-- The gradient of the gate's taps. -/
theorem dwg : val_main_v77 (F := Ideal) (a0 m c) (a1 m c) (a2 m c) (a3 m c) = dwgArr m c := by
  funext y
  obtain ⟨k, q, rfl⟩ : ∃ (k : Fin 3) (q : Fin 2816), y = ix2 k q := ⟨y 0, y 1, by funext k; match k with | 0 => rfl | 1 => rfl⟩
  have e : val_main_v77 (F := Ideal) (a0 m c) (a1 m c) (a2 m c) (a3 m c) (ix2 k q)
      = val_main_v68 (F := Ideal) (a0 m c) (a1 m c) (a2 m c) (a3 m c) (ix2 k ⟨q, by omega⟩) := by
    unfold val_main_v77
    pointwise
  refine e.trans ((Cert.ReferenceIdeal.Conv.v68_apply _ _ _ _ _ _).trans ?_)
  rw [gate_d H]
  rfl

/-- The gradient of the value's taps. -/
theorem dwv : val_main_v78 (F := Ideal) (a0 m c) (a1 m c) (a2 m c) (a3 m c) = dwvArr m c := by
  funext y
  obtain ⟨k, q, rfl⟩ : ∃ (k : Fin 3) (q : Fin 2816), y = ix2 k q := ⟨y 0, y 1, by funext k; match k with | 0 => rfl | 1 => rfl⟩
  have e : val_main_v78 (F := Ideal) (a0 m c) (a1 m c) (a2 m c) (a3 m c) (ix2 k q)
      = val_main_v68 (F := Ideal) (a0 m c) (a1 m c) (a2 m c) (a3 m c) (ix2 k ⟨2816 + q, by omega⟩) := by
    unfold val_main_v78
    pointwise
  refine e.trans ((Cert.ReferenceIdeal.Conv.v68_apply _ _ _ _ _ _).trans ?_)
  rw [val_d H]
  rfl

/-- The gradient of the gate's bias. -/
theorem dbg : val_main_v80 (F := Ideal) (a0 m c) (a1 m c) (a2 m c) (a3 m c) = dbgArr m c := by
  funext y
  obtain ⟨k, q, rfl⟩ : ∃ (k : Fin 1) (q : Fin 2816), y = ix2 k q := ⟨y 0, y 1, by funext k; match k with | 0 => rfl | 1 => rfl⟩
  have e : val_main_v80 (F := Ideal) (a0 m c) (a1 m c) (a2 m c) (a3 m c) (ix2 k q)
      = val_main_v37 (F := Ideal) (a0 m c) (a1 m c) (a2 m c) (a3 m c) (ix1 ⟨q, by omega⟩) := by
    unfold val_main_v80 val_main_v79
    pointwise
  refine e.trans ((Cert.ReferenceIdeal.Conv.v37_apply _ _ _ _ _).trans ?_)
  rw [gate_d H]
  rfl

/-- The gradient of the value's bias. -/
theorem dbv : val_main_v82 (F := Ideal) (a0 m c) (a1 m c) (a2 m c) (a3 m c) = dbvArr m c := by
  funext y
  obtain ⟨k, q, rfl⟩ : ∃ (k : Fin 1) (q : Fin 2816), y = ix2 k q := ⟨y 0, y 1, by funext k; match k with | 0 => rfl | 1 => rfl⟩
  have e : val_main_v82 (F := Ideal) (a0 m c) (a1 m c) (a2 m c) (a3 m c) (ix2 k q)
      = val_main_v37 (F := Ideal) (a0 m c) (a1 m c) (a2 m c) (a3 m c) (ix1 ⟨2816 + q, by omega⟩) := by
    unfold val_main_v82 val_main_v81
    pointwise
  refine e.trans ((Cert.ReferenceIdeal.Conv.v37_apply _ _ _ _ _).trans ?_)
  rw [val_d H]
  rfl

end Cert.Conv.Equation
end
-- ==== Proof.Conv.Finite.lean ====
/- The precondition: its facts, and what it says of each element. -/
module

public import proofs.«01_k».proof.Pre_finite
public import proofs.«01_k».proof.Proof.Conv.Real
public import Idealize.ShloMosaic.Lib.Affine
public import Idealize.ShloMosaic.Lib.ReduceAll
public import Idealize.ShloMosaic.Lib.Pipeline.ValueKit

@[expose] public section

noncomputable section

namespace Cert.Pre_finite.Conv

open Idealize.ShloMosaic Cert.Conv

/-- The side conditions the precondition's operations take. -/
instance facts : Cert.Pre_finite.Facts where
  bitsLt_bf16_f32 := by decide
  bcast_S_S8192x5632 := by decide
  reducesTo_S8192x5632_S_d0_1 := by decide
  h_S_ := by decide
  bcast_S_S3x5632 := by decide
  reducesTo_S3x5632_S_d0_1 := by decide
  bcast_S_S5632 := by decide
  reducesTo_S5632_S_d0 := by decide
  bcast_S_S8192x2816 := by decide
  reducesTo_S8192x2816_S_d0_1 := by decide

/-- The four arrays hold real numbers where the precondition holds. -/
theorem real (x0 : FVec Ideal S8192x5632 .bf16) (x1 : FVec Ideal S3x5632 .f32) (x2 : FVec Ideal S5632 .f32) (x3 : FVec Ideal S8192x2816 .f32)
    (h : Cert.Pre_finite.fn (F := Ideal) x0 x1 x2 x3 = fun _ => 1#1) :
    (∀ i, IsReal (x0 i)) ∧ (∀ i, IsReal (x1 i)) ∧ (∀ i, IsReal (x2 i)) ∧ ∀ i, IsReal (x3 i) := by
  haveI : Subsingleton S_.Idx := ⟨fun _ _ => funext fun k => k.elim0⟩
  have e := congrFun h (fun k => k.elim0)
  unfold Cert.Pre_finite.fn Cert.Pre_finite.fn_part1 at e
  obtain ⟨e, e3⟩ := IntOp.andi_eq_one.mp e
  obtain ⟨e, e2⟩ := IntOp.andi_eq_one.mp e
  obtain ⟨e0, e1⟩ := IntOp.andi_eq_one.mp e
  exact ⟨fun i => isReal_of_lt (Host.reduce_andi_all _ _ _ _ _ e0 i), fun i => isReal_of_lt (Host.reduce_andi_all _ _ _ _ _ e1 i),
    fun i => isReal_of_lt (Host.reduce_andi_all _ _ _ _ _ e2 i), fun i => isReal_of_lt (Host.reduce_andi_all _ _ _ _ _ e3 i)⟩

end Cert.Pre_finite.Conv
end
-- ==== Proof.Conv.Claim.lean ====
/- The claims about the gradient of the convolution's gated product. -/
module

public import proofs.«01_k».proof.Defs
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Conv.Equation
public import proofs.«01_k».proof.Proof.Conv.Finite

@[expose] public section

set_option maxRecDepth 16384

noncomputable section

namespace Cert.Conv

open Idealize.ShloMosaic Idealize.SL.Sem

/-- The arguments' elements are real numbers where the precondition holds. -/
theorem finite (m : (ℓ : Loc Cert.KernelIdeal.nD Cert.KernelIdeal.τ Cert.KernelIdeal.sig) → Buf (Elt Ideal) ℓ)
    (h : Pre_KernelIdeal_finite m) (c : Dev Cert.KernelIdeal.nD) : Equation.Finite m c :=
  have e := Cert.Pre_finite.Conv.real _ _ _ _ (h c)
  ⟨e.1, e.2.1, e.2.2.1, e.2.2.2⟩

/-- The reference's run, its arguments and counters. -/
theorem frame_reference : quiescent_ReferenceIdeal := fun m g _ =>
  (θ_run (Cert.ReferenceIdeal.defs (F := Ideal)) _ _).mono
    (fun r h => ⟨fun c => (h c).2.2.2.2.2, sem_eq_zero_of_no_sems (by decide) r.2⟩)
    (Cert.ReferenceIdeal.Value.run m g)

theorem frame_reference_finite : quiescent_ReferenceIdeal_pre_finite := fun m g _ =>
  (θ_run (Cert.ReferenceIdeal.defs (F := Ideal)) _ _).mono
    (fun r h => ⟨fun c => (h c).2.2.2.2.2, sem_eq_zero_of_no_sems (by decide) r.2⟩)
    (Cert.ReferenceIdeal.Value.run m g)

/-- The kernel's five gradients are the reference's on finite arrays. -/
theorem algebraic : algebraic_KernelIdeal_ReferenceIdeal_pre_finite := by
  intro m g m' g' hp ha
  refine ⟨Cert.KernelIdeal.Conv.duArr m, Cert.KernelIdeal.Conv.dwgArr m, Cert.KernelIdeal.Conv.dwvArr m,
    Cert.KernelIdeal.Conv.dbgArr m, Cert.KernelIdeal.Conv.dbvArr m, ?_, ?_⟩
  · exact (θ_run _ _ _).mono (fun r h c => ⟨(h c).1.trans (Cert.KernelIdeal.Conv.final12 m c),
      (h c).2.1.trans (Cert.KernelIdeal.Conv.final13 m c), (h c).2.2.1.trans (Cert.KernelIdeal.Conv.final14 m c),
      (h c).2.2.2.1.trans (Cert.KernelIdeal.Conv.final15 m c), (h c).2.2.2.2.1.trans (Cert.KernelIdeal.Conv.final16 m c),
      (h c).2.2.2.2.2⟩) (Cert.KernelIdeal.Value.run_blocks m g)
  · refine (θ_run _ _ _).mono (fun r h c => ?_) (Cert.ReferenceIdeal.Value.run m' g')
    have H := finite m hp c
    obtain ⟨h0, h1, h2, h3⟩ := ha c
    refine ⟨(h c).1.trans ?_, (h c).2.1.trans ?_, (h c).2.2.1.trans ?_, (h c).2.2.2.1.trans ?_, (h c).2.2.2.2.1.trans ?_, (h c).2.2.2.2.2⟩
    · refine (Cert.ReferenceIdeal.Read.val_main_v76_eq (F := Ideal) _).trans ?_
      refine Eq.trans ?_ (Equation.du H)
      exact congr (congr (congr (congrArg _ h0) h1) h2) h3
    · refine (Cert.ReferenceIdeal.Read.val_main_v77_eq (F := Ideal) _).trans ?_
      refine Eq.trans ?_ (Equation.dwg H)
      exact congr (congr (congr (congrArg _ h0) h1) h2) h3
    · refine (Cert.ReferenceIdeal.Read.val_main_v78_eq (F := Ideal) _).trans ?_
      refine Eq.trans ?_ (Equation.dwv H)
      exact congr (congr (congr (congrArg _ h0) h1) h2) h3
    · refine (Cert.ReferenceIdeal.Read.val_main_v80_eq (F := Ideal) _).trans ?_
      refine Eq.trans ?_ (Equation.dbg H)
      exact congr (congr (congr (congrArg _ h0) h1) h2) h3
    · refine (Cert.ReferenceIdeal.Read.val_main_v82_eq (F := Ideal) _).trans ?_
      refine Eq.trans ?_ (Equation.dbv H)
      exact congr (congr (congr (congrArg _ h0) h1) h2) h3

end Cert.Conv
end
-- ==== Proof.Project.InProjIdeal.lean ====
/- What the projection out of a norm (`l0_in_proj`, one row tile's four column tiles in turn) leaves behind it: the
   row tile is normed at its first column tile, the normed rows stay in place for the other three, and each column
   tile's product is taken of them. From this the whole run follows: every array of the pipeline at the end, and the
   arguments unchanged. -/
module

public import proofs.«01_k».proof.Proof.Gen.InProjIdeal.Frame
public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.ValueKit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InProjIdeal.Whole

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions the body is proved in. -/
abbrev Assertion (F : FTy → Type) [FloatOps F] : Type := sProp (MT nD τ sig Unit (Elt F) ℕ (UR sig nD τ) ℕ)

variable (m : (ℓ : Loc nD τ sig) → Buf (Elt F) ℓ) (ρ : Dev nD → PrngReg)

/-! ## The points at which the rows are normed -/

/-- The body norms the row tile at its first column tile. -/
abbrev first (i : grid0.Coords) : Prop := k0_cond1 i = 1#1

theorem first_iff (t : Fin cfg0.N) : first (grid0.coords t) ↔ t.val % 4 = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [first, k0_cond1, e0, e1]
  word_cmp

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

theorem live4 : ∀ t : Fin cfg0.N, first (grid0.coords t) → cfg0.idle 4 (grid0.coords t) = false := by decide +kernel
theorem idle4 : ∀ t : Fin cfg0.N, ¬first (grid0.coords t) → cfg0.idle 4 (grid0.coords t) = true := by decide +kernel

/-- Whether the normed rows' buffer holds nothing yet: only when a row tile begins. -/
def freshTable : ℕ → Bool
  | 0 => true
  | n + 1 => (0x88888888 : ℕ).testBit n

theorem freshTable_step : ∀ t : Fin cfg0.N,
    freshTable (t.val + 1) = ((cfg0.win 4).flush t || (cfg0.idle 4 (cfg0.grid.coords t) && freshTable t.val)) := by
  decide +kernel

theorem fresh_eq (t : Fin cfg0.N) : cfg0.fresh 4 t.val = freshTable t.val :=
  Pipeline.Cfg.fresh_tab cfg0 4 freshTable rfl freshTable_step t.val (Nat.le_of_lt t.isLt)

theorem not_fresh : ∀ t : Fin cfg0.N, ¬first (grid0.coords t) → cfg0.fresh 4 t.val = false := by
  intro t; rw [fresh_eq t]; revert t; decide +kernel

/-! ## The body on any buffers -/

abbrev viewZ : View sig .tc .vmem S1024x1152 .bf16 := (Memref.whole cc0_stg3_0 : Memref sig .tc .vmem S1024x1152 .bf16).view
abbrev viewH : View sig .tc .vmem S1024x1024 .bf16 := (Memref.whole cc0_stg4_0 : Memref sig .tc .vmem S1024x1024 .bf16).view

abbrev buf0 (t : Fin cfg0.N) : Memref sig .tc .vmem S1024x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x1024 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x1024x1152 .bf16 := win0_2.stage (cfg0.slots t 2)
abbrev whole2 (t : Fin cfg0.N) : (buf2 t).IsWhole := hstage0_2 ((cfg0.slots t 2).cast nbuf0_2)
abbrev buf3 (t : Fin cfg0.N) : Memref sig .tc .vmem S1024x1152 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S1024x1024 .bf16 := win0_4.stage (cfg0.slots t 4)
abbrev whole4 (t : Fin cfg0.N) : (buf4 t).IsWhole := hstage0_4 ((cfg0.slots t 4).cast nbuf0_4)

set_option maxHeartbeats 800000 in
/-- At a row tile's first column tile: what is stored over the product's buffer, and over the normed rows'. -/
def runFirst (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x1024x1152 .bf16) (harg4 : arg4.IsWhole)
    (arg5 : Memref sig .tc .vmem S1024x1152 .bf16) (harg5 : arg5.IsWhole)
    (arg6 : Memref sig .tc .vmem S1024x1024 .bf16) (harg6 : arg6.IsWhole) (hc0 : first i)
    (x0 : Vec F S1024x1024 .f32) (x1 : Vec F S1x1024 .f32) (x2 : Vec F S1x1024x1152 .bf16) :
    Σ' (L3 : List (View.Piece (Elt F) S1024x1152 .bf16)), { L4 : List (View.Piece (Elt F) S1024x1024 .bf16) //
      ∀ (E : Set ℕ) (K : PUnit → Assertion F),
        iprop(owns (c : Thread nD τ) arg2 fullShare x0 ∗ owns (c : Thread nD τ) arg3 fullShare x1
            ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E
              (cc0_l0_in_proj i arg2 harg2 arg3 harg3 arg4 harg4 arg5 harg5 arg6 harg6) K } := by
  refine ⟨?_, ?_, fun E K => ?run⟩
  case run =>
    simp only [cc0_l0_in_proj_eq_skeleton]; unfold cc0_l0_in_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 800000 in
/-- At a later column tile: what is stored over the product's buffer, the normed rows read where they lie. -/
def runLater (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x1024x1152 .bf16) (harg4 : arg4.IsWhole)
    (arg5 : Memref sig .tc .vmem S1024x1152 .bf16) (harg5 : arg5.IsWhole)
    (arg6 : Memref sig .tc .vmem S1024x1024 .bf16) (harg6 : arg6.IsWhole) (hc0 : ¬first i)
    (x2 : Vec F S1x1024x1152 .bf16) (x4 : Vec F S1024x1024 .bf16) :
    { L3 : List (View.Piece (Elt F) S1024x1152 .bf16) //
      ∀ (E : Set ℕ) (K : PUnit → Assertion F),
        iprop(owns (c : Thread nD τ) arg4 fullShare x2
            ∗ (∃ d, owns (c : Thread nD τ) arg5 fullShare d) ∗ owns (c : Thread nD τ) arg6 fullShare x4
            ∗ (iprop(owns (c : Thread nD τ) arg4 fullShare x2
                ∗ (∃ f, arg5.view.loc (c : Thread nD τ) ↦[arg5.view.set]{fullShare} arg5.view.writes (Elt F) f L3)
                ∗ owns (c : Thread nD τ) arg6 fullShare x4) -∗ K ⟨⟩))
          ⊢ wp frame (wpE (defs₀ (F := F)) Variants.none c none) E
              (cc0_l0_in_proj i arg2 harg2 arg3 harg3 arg4 harg4 arg5 harg5 arg6 harg6) K } := by
  refine ⟨?_, fun E K => ?run⟩
  case run =>
    simp only [cc0_l0_in_proj_eq_skeleton]; unfold cc0_l0_in_proj_skel
    unfold owns
    iintro ⟨⟨%f2, %hf2, H2⟩, ⟨%d3, %f3, -, H3⟩, ⟨%f4, %hf4, H4⟩, Hk⟩
    obtain rfl := harg4.eq_unread hf2; obtain rfl := harg6.eq_unread hf4
    sl_exec (disch := first | sl_exact hc0)
    sl_step
    iapply Hk
    isplitl [H2]
    · iexists _; isplitr; · ipureintro; exact harg4.read_unread _
      iexact H2
    isplitl [H3]; · iexists _; iexact H3
    iexists _; isplitr; · ipureintro; exact harg6.read_unread _
    iexact H4

section Left
variable (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x1024x1152 .bf16) (harg4 : arg4.IsWhole)
    (arg5 : Memref sig .tc .vmem S1024x1152 .bf16) (harg5 : arg5.IsWhole)
    (arg6 : Memref sig .tc .vmem S1024x1024 .bf16) (harg6 : arg6.IsWhole)
    (x0 : Vec F S1024x1024 .f32) (x1 : Vec F S1x1024 .f32) (x2 : Vec F S1x1024x1152 .bf16) (x4 : Vec F S1024x1024 .bf16)

theorem cover_first_z (hc0 : first i) (y : S1024x1152.Idx) :
    ∃ pc ∈ (runFirst c i arg2 harg2 arg3 harg3 arg4 harg4 arg5 harg5 arg6 harg6 hc0 x0 x1 x2).1, y ∈ pc.1.set :=
  View.cover_of_tiledL (runFirst c i arg2 harg2 arg3 harg3 arg4 harg4 arg5 harg5 arg6 harg6 hc0 x0 x1 x2).1 S1024x1152.size (by sl_kernel_rfl) y

theorem cover_first_h (hc0 : first i) (y : S1024x1024.Idx) :
    ∃ pc ∈ (runFirst c i arg2 harg2 arg3 harg3 arg4 harg4 arg5 harg5 arg6 harg6 hc0 x0 x1 x2).2.1, y ∈ pc.1.set :=
  View.cover_of_tiledL (runFirst c i arg2 harg2 arg3 harg3 arg4 harg4 arg5 harg5 arg6 harg6 hc0 x0 x1 x2).2.1 S1024x1024.size (by sl_kernel_rfl) y

theorem cover_later_z (hc0 : ¬first i) (y : S1024x1152.Idx) :
    ∃ pc ∈ (runLater c i arg2 harg2 arg3 harg3 arg4 harg4 arg5 harg5 arg6 harg6 hc0 x2 x4).1, y ∈ pc.1.set :=
  View.cover_of_tiledL (runLater c i arg2 harg2 arg3 harg3 arg4 harg4 arg5 harg5 arg6 harg6 hc0 x2 x4).1 S1024x1152.size (by sl_kernel_rfl) y

/-- The product's buffer after a row tile's first column tile. -/
def firstZ (hc0 : first i) : Vec F S1024x1152 .bf16 :=
  viewZ.read (Elt F) (viewZ.writes (Elt F) viewZ.junk (runFirst c i arg2 harg2 arg3 harg3 arg4 harg4 arg5 harg5 arg6 harg6 hc0 x0 x1 x2).1)

/-- The normed rows' buffer after a row tile's first column tile. -/
def firstH (hc0 : first i) : Vec F S1024x1024 .bf16 :=
  viewH.read (Elt F) (viewH.writes (Elt F) viewH.junk (runFirst c i arg2 harg2 arg3 harg3 arg4 harg4 arg5 harg5 arg6 harg6 hc0 x0 x1 x2).2.1)

/-- The product's buffer after a later column tile. -/
def laterZ (hc0 : ¬first i) : Vec F S1024x1152 .bf16 :=
  viewZ.read (Elt F) (viewZ.writes (Elt F) viewZ.junk (runLater c i arg2 harg2 arg3 harg3 arg4 harg4 arg5 harg5 arg6 harg6 hc0 x2 x4).1)

/-- The product stored at a row tile's first column tile is of the rows just normed. -/
theorem firstZ_eq (hc0 : first i) :
    firstZ c i arg2 harg2 arg3 harg3 arg4 harg4 arg5 harg5 arg6 harg6 x0 x1 x2 hc0 = k0_pay2 (k0_pay1 x0 x1) x2 := by
  unfold firstZ runFirst
  frame_out

theorem firstH_eq (hc0 : first i) :
    firstH c i arg2 harg2 arg3 harg3 arg4 harg4 arg5 harg5 arg6 harg6 x0 x1 x2 hc0 = k0_pay1 x0 x1 := by
  unfold firstH runFirst
  frame_out

theorem laterZ_eq (hc0 : ¬first i) :
    laterZ c i arg2 harg2 arg3 harg3 arg4 harg4 arg5 harg5 arg6 harg6 x2 x4 hc0 = k0_pay2 x4 x2 := by
  unfold laterZ runLater
  frame_out

end Left

/-! ## What the buffers hold, point by point -/

/-- The first point of the row tile point `t` is in. -/
def start (t : Fin cfg0.N) : Fin cfg0.N := ⟨t.val / 4 * 4, Nat.lt_of_le_of_lt (Nat.div_mul_le_self _ _) t.isLt⟩

/-- The rows normed at the row tile's first point. -/
def rows (c : Dev nD) (t : Fin cfg0.N) : Vec F S1024x1024 .bf16 := k0_pay1 (iblk m c 0 (start t)) (iblk m c 1 (start t))

/-- The product taken at a point. -/
def prod (c : Dev nD) (t : Fin cfg0.N) : Vec F S1024x1152 .bf16 := k0_pay2 (rows m c t) (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = prod m c t := by dsimp only [dats]
theorem after4 (c : Dev nD) (t : Fin cfg0.N) : (dats m 0 c).after 4 t = rows m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem start_of_first (t : Fin cfg0.N) (h : t.val % 4 = 0) : start t = t := Fin.ext (by simp only [start]; omega)

theorem start_of_later (t : Fin cfg0.N) (h : ¬t.val % 4 = 0) (hp : t.val - 1 < cfg0.N) : start t = start ⟨t.val - 1, hp⟩ :=
  Fin.ext (by simp only [start]; omega)

theorem rows_later (c : Dev nD) (t : Fin cfg0.N) (h : ¬t.val % 4 = 0) (hp : t.val - 1 < cfg0.N) :
    rows m c t = rows m c ⟨t.val - 1, hp⟩ := by
  unfold rows; rw [start_of_later t h hp]

theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h0 : t.val % 4 = 0
  · rw [live4 t ((first_iff t).mpr h0)] at hi
    exact absurd hi Bool.false_ne_true
  · exact rows_later m c t h0 _

theorem before4_later (c : Dev nD) (t : Fin cfg0.N) (h0 : ¬t.val % 4 = 0) (d) : (dats m 0 c).before 4 t d = rows m c t := by
  rw [Dat.before_out_traj _ 4 rfl (fun _ _ => rfl) (carry4 m c) t.val t rfl d,
    if_neg (by rw [not_fresh t (fun h => h0 ((first_iff t).mp h))]; exact Bool.false_ne_true),
    rows_later m c t h0 (Nat.lt_of_le_of_lt (Nat.sub_le _ _) t.isLt)]
  dsimp only [dats]

/-- At a later column tile the normed rows are left as they were. -/
theorem leaves4_later (c : Dev nD) (t : Fin cfg0.N) (h0 : ¬t.val % 4 = 0) :
    owns (c : Thread nD τ) (buf4 t) fullShare (rows m c t) ⊢ (dats m 0 c).leavesExact 4 t := by
  by_cases hf : (cfg0.win 4).flush t = true
  · rw [show (dats m 0 c).leavesExact 4 t = owns (c : Thread nD τ) (buf4 t) fullShare ((dats m 0 c).after 4 t) from by
      unfold Dat.leavesExact; rw [idle4 t (fun h => h0 ((first_iff t).mp h)), hf], after4]
  · rw [show (dats m 0 c).leavesExact 4 t = iprop(∃ d, owns (c : Thread nD τ) (buf4 t) fullShare ((dats m 0 c).before 4 t d)) from
      Dat.leavesExact_idle _ 4 t (idle4 t (fun h => h0 ((first_iff t).mp h))) (by simpa using hf)]
    simp only [before4_later m c t h0]
    iintro H
    iexists (rows m c t)
    iexact H

/-! ## The body at a point -/

def bodyPre (c : Dev nD) (t : Fin cfg0.N) : Assertion F :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

def bodyPost (c : Dev nD) (t : Fin cfg0.N) : Assertion F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem prod_first (c : Dev nD) (t : Fin cfg0.N) (h0 : t.val % 4 = 0) : prod m c t =
    firstZ c (grid0.coords t) (buf0 t) (whole0 t) (buf1 t) (whole1 t) (buf2 t) (whole2 t) (buf3 t) (whole3 t) (buf4 t) (whole4 t)
      (iblk m c 0 t) (iblk m c 1 t) (iblk m c 2 t) ((first_iff t).mpr h0) := by
  rw [firstZ_eq]; unfold prod rows; rw [start_of_first t h0]

theorem rows_first (c : Dev nD) (t : Fin cfg0.N) (h0 : t.val % 4 = 0) : rows m c t =
    firstH c (grid0.coords t) (buf0 t) (whole0 t) (buf1 t) (whole1 t) (buf2 t) (whole2 t) (buf3 t) (whole3 t) (buf4 t) (whole4 t)
      (iblk m c 0 t) (iblk m c 1 t) (iblk m c 2 t) ((first_iff t).mpr h0) := by
  rw [firstH_eq]; unfold rows; rw [start_of_first t h0]

theorem prod_later (c : Dev nD) (t : Fin cfg0.N) (h0 : ¬t.val % 4 = 0) : prod m c t =
    laterZ c (grid0.coords t) (buf0 t) (whole0 t) (buf1 t) (whole1 t) (buf2 t) (whole2 t) (buf3 t) (whole3 t) (buf4 t) (whole4 t)
      (iblk m c 2 t) (rows m c t) (fun h => h0 ((first_iff t).mp h)) := by
  rw [laterZ_eq]; unfold prod; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (buf0 t) fullShare ((dats m 0 c).after 0 t) from by
    unfold Dat.leavesExact; rw [live0 t], after0]
  rw [show (dats m 0 c).leavesExact 1 t = owns (c : Thread nD τ) (buf1 t) fullShare ((dats m 0 c).after 1 t) from by
    unfold Dat.leavesExact; rw [live1 t], after1]
  rw [show (dats m 0 c).leavesExact 2 t = owns (c : Thread nD τ) (buf2 t) fullShare ((dats m 0 c).after 2 t) from by
    unfold Dat.leavesExact; rw [live2 t], after2]
  rw [show (dats m 0 c).leavesExact 3 t = owns (c : Thread nD τ) (buf3 t) fullShare ((dats m 0 c).after 3 t) from by
    unfold Dat.leavesExact; rw [live3 t], after3]
  by_cases h0 : t.val % 4 = 0
  · rw [show (dats m 0 c).leavesExact 4 t = owns (c : Thread nD τ) (buf4 t) fullShare ((dats m 0 c).after 4 t) from by
      unfold Dat.leavesExact; rw [live4 t ((first_iff t).mpr h0)], after4]
    rw [prod_first m c t h0, rows_first m c t h0]
    unfold firstZ firstH
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_first_z c _ _ _ _ _ _ _ _ _ _ _ _ _ _ _)
    unfold owns; iexists _; isplitr
    swap; · iexact H4
    ipureintro; exact View.read_writes_of_cover _ _ _ _ _ (cover_first_h c _ _ _ _ _ _ _ _ _ _ _ _ _ _ _)
  · simp only [before4_later m c t h0]
    rw [prod_later m c t h0]
    unfold laterZ
    iintro ⟨HΦ, Ho, ⟨%d0, H0⟩, ⟨%d1, H1⟩, ⟨%d2, H2⟩, ⟨%d3, H3⟩, ⟨%d4, H4⟩⟩
    iapply ((runLater c (grid0.coords t) (buf0 t) (whole0 t) (buf1 t) (whole1 t) _ _ _ _ _ _ (fun h => h0 ((first_iff t).mp h)) (iblk m c 2 t) (rows m c t)).2 Set.univ _)
    isplitl [H2]; · iexact H2
    isplitl [H3]; · iexists _; iexact H3
    isplitl [H4]; · iexact H4
    iintro ⟨H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_later_z c _ _ _ _ _ _ _ _ _ _ _ _ _ _)
    iapply (leaves4_later m c t h0)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with each array of the pipeline where the body's stores put it, every other buffer as it was, and
    every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InProjIdeal.Whole

end
-- ==== Proof.Project.UpProjIdeal.lean ====
/- What the projection out of a norm (`l0_up_proj`, one row tile's four column tiles in turn) leaves behind it: the
   row tile is normed at its first column tile, the normed rows stay in place for the other three, and each column
   tile's product is taken of them. From this the whole run follows: every array of the pipeline at the end, and the
   arguments unchanged. -/
module

public import proofs.«01_k».proof.Proof.Gen.UpProjIdeal.Frame
public import proofs.«01_k».proof.Proof.Gen.UpProjIdeal.Launch
public import proofs.«01_k».proof.Proof.Gen.UpProjIdeal.Skeleton
public import proofs.«01_k».proof.Proof.Gen.UpProjIdeal.Points
public import Idealize.ShloMosaic.Lib.Pipeline.ValueKit
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.UpProjIdeal.Whole

open Cert.UpProjIdeal Cert.UpProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions the body is proved in. -/
abbrev Assertion (F : FTy → Type) [FloatOps F] : Type := sProp (MT nD τ sig Unit (Elt F) ℕ (UR sig nD τ) ℕ)

variable (m : (ℓ : Loc nD τ sig) → Buf (Elt F) ℓ) (ρ : Dev nD → PrngReg)

/-! ## The points at which the rows are normed -/

/-- The body norms the row tile at its first column tile. -/
abbrev first (i : grid0.Coords) : Prop := k0_cond1 i = 1#1

theorem first_iff (t : Fin cfg0.N) : first (grid0.coords t) ↔ t.val % 4 = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [first, k0_cond1, e0, e1]
  word_cmp

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

theorem live4 : ∀ t : Fin cfg0.N, first (grid0.coords t) → cfg0.idle 4 (grid0.coords t) = false := by decide +kernel
theorem idle4 : ∀ t : Fin cfg0.N, ¬first (grid0.coords t) → cfg0.idle 4 (grid0.coords t) = true := by decide +kernel

/-- Whether the normed rows' buffer holds nothing yet: only when a row tile begins. -/
def freshTable : ℕ → Bool
  | 0 => true
  | n + 1 => (0x88888888 : ℕ).testBit n

theorem freshTable_step : ∀ t : Fin cfg0.N,
    freshTable (t.val + 1) = ((cfg0.win 4).flush t || (cfg0.idle 4 (cfg0.grid.coords t) && freshTable t.val)) := by
  decide +kernel

theorem fresh_eq (t : Fin cfg0.N) : cfg0.fresh 4 t.val = freshTable t.val :=
  Pipeline.Cfg.fresh_tab cfg0 4 freshTable rfl freshTable_step t.val (Nat.le_of_lt t.isLt)

theorem not_fresh : ∀ t : Fin cfg0.N, ¬first (grid0.coords t) → cfg0.fresh 4 t.val = false := by
  intro t; rw [fresh_eq t]; revert t; decide +kernel

/-! ## The body on any buffers -/

abbrev viewZ : View sig .tc .vmem S1024x1408 .bf16 := (Memref.whole cc0_stg3_0 : Memref sig .tc .vmem S1024x1408 .bf16).view
abbrev viewH : View sig .tc .vmem S1024x1024 .bf16 := (Memref.whole cc0_stg4_0 : Memref sig .tc .vmem S1024x1024 .bf16).view

abbrev buf0 (t : Fin cfg0.N) : Memref sig .tc .vmem S1024x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x1024 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x1024x1408 .bf16 := win0_2.stage (cfg0.slots t 2)
abbrev whole2 (t : Fin cfg0.N) : (buf2 t).IsWhole := hstage0_2 ((cfg0.slots t 2).cast nbuf0_2)
abbrev buf3 (t : Fin cfg0.N) : Memref sig .tc .vmem S1024x1408 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S1024x1024 .bf16 := win0_4.stage (cfg0.slots t 4)
abbrev whole4 (t : Fin cfg0.N) : (buf4 t).IsWhole := hstage0_4 ((cfg0.slots t 4).cast nbuf0_4)

set_option maxHeartbeats 800000 in
/-- At a row tile's first column tile: what is stored over the product's buffer, and over the normed rows'. -/
def runFirst (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x1024x1408 .bf16) (harg4 : arg4.IsWhole)
    (arg5 : Memref sig .tc .vmem S1024x1408 .bf16) (harg5 : arg5.IsWhole)
    (arg6 : Memref sig .tc .vmem S1024x1024 .bf16) (harg6 : arg6.IsWhole) (hc0 : first i)
    (x0 : Vec F S1024x1024 .f32) (x1 : Vec F S1x1024 .f32) (x2 : Vec F S1x1024x1408 .bf16) :
    Σ' (L3 : List (View.Piece (Elt F) S1024x1408 .bf16)), { L4 : List (View.Piece (Elt F) S1024x1024 .bf16) //
      ∀ (E : Set ℕ) (K : PUnit → Assertion F),
        iprop(owns (c : Thread nD τ) arg2 fullShare x0 ∗ owns (c : Thread nD τ) arg3 fullShare x1
            ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E
              (cc0_l0_up_proj i arg2 harg2 arg3 harg3 arg4 harg4 arg5 harg5 arg6 harg6) K } := by
  refine ⟨?_, ?_, fun E K => ?run⟩
  case run =>
    simp only [cc0_l0_up_proj_eq_skeleton]; unfold cc0_l0_up_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 800000 in
/-- At a later column tile: what is stored over the product's buffer, the normed rows read where they lie. -/
def runLater (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x1024x1408 .bf16) (harg4 : arg4.IsWhole)
    (arg5 : Memref sig .tc .vmem S1024x1408 .bf16) (harg5 : arg5.IsWhole)
    (arg6 : Memref sig .tc .vmem S1024x1024 .bf16) (harg6 : arg6.IsWhole) (hc0 : ¬first i)
    (x2 : Vec F S1x1024x1408 .bf16) (x4 : Vec F S1024x1024 .bf16) :
    { L3 : List (View.Piece (Elt F) S1024x1408 .bf16) //
      ∀ (E : Set ℕ) (K : PUnit → Assertion F),
        iprop(owns (c : Thread nD τ) arg4 fullShare x2
            ∗ (∃ d, owns (c : Thread nD τ) arg5 fullShare d) ∗ owns (c : Thread nD τ) arg6 fullShare x4
            ∗ (iprop(owns (c : Thread nD τ) arg4 fullShare x2
                ∗ (∃ f, arg5.view.loc (c : Thread nD τ) ↦[arg5.view.set]{fullShare} arg5.view.writes (Elt F) f L3)
                ∗ owns (c : Thread nD τ) arg6 fullShare x4) -∗ K ⟨⟩))
          ⊢ wp frame (wpE (defs₀ (F := F)) Variants.none c none) E
              (cc0_l0_up_proj i arg2 harg2 arg3 harg3 arg4 harg4 arg5 harg5 arg6 harg6) K } := by
  refine ⟨?_, fun E K => ?run⟩
  case run =>
    simp only [cc0_l0_up_proj_eq_skeleton]; unfold cc0_l0_up_proj_skel
    unfold owns
    iintro ⟨⟨%f2, %hf2, H2⟩, ⟨%d3, %f3, -, H3⟩, ⟨%f4, %hf4, H4⟩, Hk⟩
    obtain rfl := harg4.eq_unread hf2; obtain rfl := harg6.eq_unread hf4
    sl_exec (disch := first | sl_exact hc0)
    sl_step
    iapply Hk
    isplitl [H2]
    · iexists _; isplitr; · ipureintro; exact harg4.read_unread _
      iexact H2
    isplitl [H3]; · iexists _; iexact H3
    iexists _; isplitr; · ipureintro; exact harg6.read_unread _
    iexact H4

section Left
variable (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1x1024x1408 .bf16) (harg4 : arg4.IsWhole)
    (arg5 : Memref sig .tc .vmem S1024x1408 .bf16) (harg5 : arg5.IsWhole)
    (arg6 : Memref sig .tc .vmem S1024x1024 .bf16) (harg6 : arg6.IsWhole)
    (x0 : Vec F S1024x1024 .f32) (x1 : Vec F S1x1024 .f32) (x2 : Vec F S1x1024x1408 .bf16) (x4 : Vec F S1024x1024 .bf16)

theorem cover_first_z (hc0 : first i) (y : S1024x1408.Idx) :
    ∃ pc ∈ (runFirst c i arg2 harg2 arg3 harg3 arg4 harg4 arg5 harg5 arg6 harg6 hc0 x0 x1 x2).1, y ∈ pc.1.set :=
  View.cover_of_tiledL (runFirst c i arg2 harg2 arg3 harg3 arg4 harg4 arg5 harg5 arg6 harg6 hc0 x0 x1 x2).1 S1024x1408.size (by sl_kernel_rfl) y

theorem cover_first_h (hc0 : first i) (y : S1024x1024.Idx) :
    ∃ pc ∈ (runFirst c i arg2 harg2 arg3 harg3 arg4 harg4 arg5 harg5 arg6 harg6 hc0 x0 x1 x2).2.1, y ∈ pc.1.set :=
  View.cover_of_tiledL (runFirst c i arg2 harg2 arg3 harg3 arg4 harg4 arg5 harg5 arg6 harg6 hc0 x0 x1 x2).2.1 S1024x1024.size (by sl_kernel_rfl) y

theorem cover_later_z (hc0 : ¬first i) (y : S1024x1408.Idx) :
    ∃ pc ∈ (runLater c i arg2 harg2 arg3 harg3 arg4 harg4 arg5 harg5 arg6 harg6 hc0 x2 x4).1, y ∈ pc.1.set :=
  View.cover_of_tiledL (runLater c i arg2 harg2 arg3 harg3 arg4 harg4 arg5 harg5 arg6 harg6 hc0 x2 x4).1 S1024x1408.size (by sl_kernel_rfl) y

/-- The product's buffer after a row tile's first column tile. -/
def firstZ (hc0 : first i) : Vec F S1024x1408 .bf16 :=
  viewZ.read (Elt F) (viewZ.writes (Elt F) viewZ.junk (runFirst c i arg2 harg2 arg3 harg3 arg4 harg4 arg5 harg5 arg6 harg6 hc0 x0 x1 x2).1)

/-- The normed rows' buffer after a row tile's first column tile. -/
def firstH (hc0 : first i) : Vec F S1024x1024 .bf16 :=
  viewH.read (Elt F) (viewH.writes (Elt F) viewH.junk (runFirst c i arg2 harg2 arg3 harg3 arg4 harg4 arg5 harg5 arg6 harg6 hc0 x0 x1 x2).2.1)

/-- The product's buffer after a later column tile. -/
def laterZ (hc0 : ¬first i) : Vec F S1024x1408 .bf16 :=
  viewZ.read (Elt F) (viewZ.writes (Elt F) viewZ.junk (runLater c i arg2 harg2 arg3 harg3 arg4 harg4 arg5 harg5 arg6 harg6 hc0 x2 x4).1)

/-- The product stored at a row tile's first column tile is of the rows just normed. -/
theorem firstZ_eq (hc0 : first i) :
    firstZ c i arg2 harg2 arg3 harg3 arg4 harg4 arg5 harg5 arg6 harg6 x0 x1 x2 hc0 = k0_pay2 (k0_pay1 x0 x1) x2 := by
  unfold firstZ runFirst
  frame_out

theorem firstH_eq (hc0 : first i) :
    firstH c i arg2 harg2 arg3 harg3 arg4 harg4 arg5 harg5 arg6 harg6 x0 x1 x2 hc0 = k0_pay1 x0 x1 := by
  unfold firstH runFirst
  frame_out

theorem laterZ_eq (hc0 : ¬first i) :
    laterZ c i arg2 harg2 arg3 harg3 arg4 harg4 arg5 harg5 arg6 harg6 x2 x4 hc0 = k0_pay2 x4 x2 := by
  unfold laterZ runLater
  frame_out

end Left

/-! ## What the buffers hold, point by point -/

/-- The first point of the row tile point `t` is in. -/
def start (t : Fin cfg0.N) : Fin cfg0.N := ⟨t.val / 4 * 4, Nat.lt_of_le_of_lt (Nat.div_mul_le_self _ _) t.isLt⟩

/-- The rows normed at the row tile's first point. -/
def rows (c : Dev nD) (t : Fin cfg0.N) : Vec F S1024x1024 .bf16 := k0_pay1 (iblk m c 0 (start t)) (iblk m c 1 (start t))

/-- The product taken at a point. -/
def prod (c : Dev nD) (t : Fin cfg0.N) : Vec F S1024x1408 .bf16 := k0_pay2 (rows m c t) (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = prod m c t := by dsimp only [dats]
theorem after4 (c : Dev nD) (t : Fin cfg0.N) : (dats m 0 c).after 4 t = rows m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem start_of_first (t : Fin cfg0.N) (h : t.val % 4 = 0) : start t = t := Fin.ext (by simp only [start]; omega)

theorem start_of_later (t : Fin cfg0.N) (h : ¬t.val % 4 = 0) (hp : t.val - 1 < cfg0.N) : start t = start ⟨t.val - 1, hp⟩ :=
  Fin.ext (by simp only [start]; omega)

theorem rows_later (c : Dev nD) (t : Fin cfg0.N) (h : ¬t.val % 4 = 0) (hp : t.val - 1 < cfg0.N) :
    rows m c t = rows m c ⟨t.val - 1, hp⟩ := by
  unfold rows; rw [start_of_later t h hp]

theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h0 : t.val % 4 = 0
  · rw [live4 t ((first_iff t).mpr h0)] at hi
    exact absurd hi Bool.false_ne_true
  · exact rows_later m c t h0 _

theorem before4_later (c : Dev nD) (t : Fin cfg0.N) (h0 : ¬t.val % 4 = 0) (d) : (dats m 0 c).before 4 t d = rows m c t := by
  rw [Dat.before_out_traj _ 4 rfl (fun _ _ => rfl) (carry4 m c) t.val t rfl d,
    if_neg (by rw [not_fresh t (fun h => h0 ((first_iff t).mp h))]; exact Bool.false_ne_true),
    rows_later m c t h0 (Nat.lt_of_le_of_lt (Nat.sub_le _ _) t.isLt)]
  dsimp only [dats]

/-- At a later column tile the normed rows are left as they were. -/
theorem leaves4_later (c : Dev nD) (t : Fin cfg0.N) (h0 : ¬t.val % 4 = 0) :
    owns (c : Thread nD τ) (buf4 t) fullShare (rows m c t) ⊢ (dats m 0 c).leavesExact 4 t := by
  by_cases hf : (cfg0.win 4).flush t = true
  · rw [show (dats m 0 c).leavesExact 4 t = owns (c : Thread nD τ) (buf4 t) fullShare ((dats m 0 c).after 4 t) from by
      unfold Dat.leavesExact; rw [idle4 t (fun h => h0 ((first_iff t).mp h)), hf], after4]
  · rw [show (dats m 0 c).leavesExact 4 t = iprop(∃ d, owns (c : Thread nD τ) (buf4 t) fullShare ((dats m 0 c).before 4 t d)) from
      Dat.leavesExact_idle _ 4 t (idle4 t (fun h => h0 ((first_iff t).mp h))) (by simpa using hf)]
    simp only [before4_later m c t h0]
    iintro H
    iexists (rows m c t)
    iexact H

/-! ## The body at a point -/

def bodyPre (c : Dev nD) (t : Fin cfg0.N) : Assertion F :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

def bodyPost (c : Dev nD) (t : Fin cfg0.N) : Assertion F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem prod_first (c : Dev nD) (t : Fin cfg0.N) (h0 : t.val % 4 = 0) : prod m c t =
    firstZ c (grid0.coords t) (buf0 t) (whole0 t) (buf1 t) (whole1 t) (buf2 t) (whole2 t) (buf3 t) (whole3 t) (buf4 t) (whole4 t)
      (iblk m c 0 t) (iblk m c 1 t) (iblk m c 2 t) ((first_iff t).mpr h0) := by
  rw [firstZ_eq]; unfold prod rows; rw [start_of_first t h0]

theorem rows_first (c : Dev nD) (t : Fin cfg0.N) (h0 : t.val % 4 = 0) : rows m c t =
    firstH c (grid0.coords t) (buf0 t) (whole0 t) (buf1 t) (whole1 t) (buf2 t) (whole2 t) (buf3 t) (whole3 t) (buf4 t) (whole4 t)
      (iblk m c 0 t) (iblk m c 1 t) (iblk m c 2 t) ((first_iff t).mpr h0) := by
  rw [firstH_eq]; unfold rows; rw [start_of_first t h0]

theorem prod_later (c : Dev nD) (t : Fin cfg0.N) (h0 : ¬t.val % 4 = 0) : prod m c t =
    laterZ c (grid0.coords t) (buf0 t) (whole0 t) (buf1 t) (whole1 t) (buf2 t) (whole2 t) (buf3 t) (whole3 t) (buf4 t) (whole4 t)
      (iblk m c 2 t) (rows m c t) (fun h => h0 ((first_iff t).mp h)) := by
  rw [laterZ_eq]; unfold prod; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (buf0 t) fullShare ((dats m 0 c).after 0 t) from by
    unfold Dat.leavesExact; rw [live0 t], after0]
  rw [show (dats m 0 c).leavesExact 1 t = owns (c : Thread nD τ) (buf1 t) fullShare ((dats m 0 c).after 1 t) from by
    unfold Dat.leavesExact; rw [live1 t], after1]
  rw [show (dats m 0 c).leavesExact 2 t = owns (c : Thread nD τ) (buf2 t) fullShare ((dats m 0 c).after 2 t) from by
    unfold Dat.leavesExact; rw [live2 t], after2]
  rw [show (dats m 0 c).leavesExact 3 t = owns (c : Thread nD τ) (buf3 t) fullShare ((dats m 0 c).after 3 t) from by
    unfold Dat.leavesExact; rw [live3 t], after3]
  by_cases h0 : t.val % 4 = 0
  · rw [show (dats m 0 c).leavesExact 4 t = owns (c : Thread nD τ) (buf4 t) fullShare ((dats m 0 c).after 4 t) from by
      unfold Dat.leavesExact; rw [live4 t ((first_iff t).mpr h0)], after4]
    rw [prod_first m c t h0, rows_first m c t h0]
    unfold firstZ firstH
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_first_z c _ _ _ _ _ _ _ _ _ _ _ _ _ _ _)
    unfold owns; iexists _; isplitr
    swap; · iexact H4
    ipureintro; exact View.read_writes_of_cover _ _ _ _ _ (cover_first_h c _ _ _ _ _ _ _ _ _ _ _ _ _ _ _)
  · simp only [before4_later m c t h0]
    rw [prod_later m c t h0]
    unfold laterZ
    iintro ⟨HΦ, Ho, ⟨%d0, H0⟩, ⟨%d1, H1⟩, ⟨%d2, H2⟩, ⟨%d3, H3⟩, ⟨%d4, H4⟩⟩
    iapply ((runLater c (grid0.coords t) (buf0 t) (whole0 t) (buf1 t) (whole1 t) _ _ _ _ _ _ (fun h => h0 ((first_iff t).mp h)) (iblk m c 2 t) (rows m c t)).2 Set.univ _)
    isplitl [H2]; · iexact H2
    isplitl [H3]; · iexists _; iexact H3
    isplitl [H4]; · iexact H4
    iintro ⟨H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_later_z c _ _ _ _ _ _ _ _ _ _ _ _ _ _)
    iapply (leaves4_later m c t h0)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with each array of the pipeline where the body's stores put it, every other buffer as it was, and
    every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.UpProjIdeal.Whole

end
-- ==== Proof.Norm.Math.lean ====
/- The gradient of the root-mean-square norm of one row: the kernel's factored form is the derivative's sum on finite rows. -/
module

public import proofs.«01_k».proof.Proof.Conv.Real

@[expose] public section

noncomputable section

namespace Cert.Norm

open Idealize.ShloMosaic Cert.Conv

/-- The mean of the squares of a row, with the norm's small constant added. -/
def var (X : Fin 1024 → EReal) : EReal :=
  Ideal.div (∑ i, X i * X i) (Ideal.ofBits .f32 1149239296#32) + Ideal.ofBits .f32 897988541#32

/-- The reciprocal of the row's root mean square. -/
def invRms (X : Fin 1024 → EReal) : EReal := Ideal.rsqrt (var X)

/-- The gradient as the kernel writes it: `d` is the cotangent of the norm's output, `e` the one the row takes from elsewhere. -/
def kernelForm (X g d : Fin 1024 → EReal) (e : EReal) (q : Fin 1024) : EReal :=
  invRms X * (d q * g q - X q * invRms X * Ideal.div (∑ i, X i * invRms X * (d i * g i)) (Ideal.ofBits .f32 1149239296#32)) + e

/-- The share of the mean of squares in the derivative. -/
def share (X g d : Fin 1024 → EReal) : EReal :=
  ∑ _i : Fin 1, Ideal.div ((∑ i, X i * (d i * g i)) * (Ideal.ofBits .f32 3204448256#32 * Ideal.div (invRms X) (var X)))
    (Ideal.ofBits .f32 1149239296#32)

/-- The gradient as the derivative of the written-out norm. -/
def derivative (X g d : Fin 1024 → EReal) (e : EReal) (q : Fin 1024) : EReal :=
  e + d q * g q * invRms X + X q * share X g d + share X g d * X q

theorem count : Ideal.ofBits .f32 1149239296#32 = ((1024 : ℝ) : EReal) := by
  simp [Ideal.ofBits, Ideal.ieee, -EReal.coe_mul]; norm_num

theorem minus_half : Ideal.ofBits .f32 3204448256#32 = ((-1 / 2 : ℝ) : EReal) := by
  simp [Ideal.ofBits, Ideal.ieee, -EReal.coe_mul]; norm_num

theorem small : ∃ r : ℝ, 0 < r ∧ Ideal.ofBits .f32 897988541#32 = (r : EReal) := by
  refine ⟨8796093 / 2 ^ 43, by positivity, ?_⟩
  simp [Ideal.ofBits, Ideal.ieee, -EReal.coe_mul]; norm_num

theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem real_sum {ι : Type} (s : Finset ι) (f : ι → EReal) (h : ∀ i, IsReal (f i)) : IsReal (∑ i ∈ s, f i) := by
  choose r hr using h
  exact ⟨∑ i ∈ s, r i, by rw [← sum_coe]; exact Finset.sum_congr rfl fun i _ => hr i⟩

/-- A finite row's mean of squares and its reciprocal root. -/
theorem var_coe (x : Fin 1024 → ℝ) : ∃ v : ℝ, 0 < v ∧ var (fun i => (x i : EReal)) = (v : EReal) := by
  obtain ⟨r, hr, e⟩ := small
  refine ⟨(∑ i, x i * x i) * (1 / 1024) + r, ?_, ?_⟩
  · have : 0 ≤ ∑ i, x i * x i := Finset.sum_nonneg fun i _ => mul_self_nonneg _
    positivity
  · unfold var
    rw [e, count, Ideal.div_coe (by norm_num)]
    simp only [← EReal.coe_mul, sum_coe, ← EReal.coe_add]

/-- The kernel's factored form is the derivative on finite rows. -/
theorem form_eq {X g d : Fin 1024 → EReal} (hX : ∀ i, IsReal (X i)) (hg : ∀ i, IsReal (g i)) (hd : ∀ i, IsReal (d i))
    (e : EReal) (q : Fin 1024) : kernelForm X g d e q = derivative X g d e q := by
  choose x hx using hX
  choose γ hγ using hg
  choose δ hδ using hd
  obtain rfl : X = fun i => (x i : EReal) := funext hx
  obtain rfl : g = fun i => (γ i : EReal) := funext hγ
  obtain rfl : d = fun i => (δ i : EReal) := funext hδ
  obtain ⟨v, hv, ev⟩ := var_coe x
  have hs := Real.sqrt_pos.mpr hv
  have e2 : (Real.sqrt v)⁻¹ * (Real.sqrt v)⁻¹ = 1 / v := by
    rw [← mul_inv, Real.mul_self_sqrt hv.le, one_div]
  have ei : invRms (fun i => (x i : EReal)) = (((Real.sqrt v)⁻¹ : ℝ) : EReal) := by
    unfold invRms
    rw [ev, Ideal.rsqrt_coe, if_neg (not_lt.mpr hv.le), if_neg hv.ne']
  unfold kernelForm derivative share
  rw [ei, ev, count, minus_half]
  generalize (Real.sqrt v)⁻¹ = r at e2
  simp only [Finset.univ_unique, Finset.sum_singleton, Ideal.div_coe hv.ne', Ideal.div_coe (show (1024 : ℝ) ≠ 0 by norm_num),
    ← EReal.coe_mul, sum_coe, ← EReal.coe_sub]
  rw [add_assoc, add_assoc, ← EReal.coe_add, ← EReal.coe_add, add_comm]
  congr 2
  have es : ∑ i, x i * r * (δ i * γ i) = r * ∑ i, x i * (δ i * γ i) := by
    rw [Finset.mul_sum]
    exact Finset.sum_congr rfl fun i _ => by ring
  rw [es]
  generalize ∑ i, x i * (δ i * γ i) = p
  linear_combination (-(x q * p * r / 1024)) * e2

end Cert.Norm
end
-- ==== Proof.Up.Array.lean ====
/- The rows that each grid point reads, and the arrays that the gradient of the up projection's norm leaves. -/
module

public import proofs.«01_k».proof.Proof.Gen.UpDxIdeal.Value
public import proofs.«01_k».proof.Proof.Norm.Math
public import Idealize.ShloMosaic.Lib.Pipeline.ValueKit

@[expose] public section

set_option maxRecDepth 16384

noncomputable section

namespace Cert.UpDxIdeal.Norm

open Cert.UpDxIdeal Cert.UpDxIdeal.Gen Idealize.ShloMosaic Idealize.ShloMosaic.TcCoe Cert.Norm

variable (m : (ℓ : Loc nD τ sig) → Buf (Elt Ideal) ℓ) (c : Dev nD)

theorem idx : ∀ t : Fin cfg0.N, win0_0.index t = ![0, (t : ℕ), 0] ∧ win0_1.index t = ![0, 0, 0] ∧ win0_2.index t = ![(t : ℕ), 0] ∧
    win0_3.index t = ![0, 0] ∧ win0_4.index t = ![(t : ℕ), 0] ∧ win0_5.index t = ![(t : ℕ), 0] ∧ win0_6.index t = ![(t : ℕ), 0] ∧
    win0_7.index t = ![0, 0] :=
  (by decide +kernel : ∀ t : Fin grid0.N, _)

/-- The array row that row `k` of a point's blocks is. -/
def row (t : Fin cfg0.N) (k : Fin 512) : Fin 8192 :=
  ⟨512 * (t : ℕ) + k, by have := lt_of_lt_of_le t.isLt (le_of_eq N_0); omega⟩

/-- The cotangent of the norm's output, from the projection's two column halves and four weight shards. -/
def dh (a : Vec Ideal S2x8192x2816 .bf16) (w : Vec Ideal S4x1024x1408 .bf16) (n : Fin 8192) (q : Fin 1024) : EReal :=
  ∑ j : Fin 1408, a (ix3 0 n ⟨j, by omega⟩) * w (ix3 0 q j) + ∑ j : Fin 1408, a (ix3 0 n ⟨1408 + j, by omega⟩) * w (ix3 1 q j)
    + ∑ j : Fin 1408, a (ix3 1 n ⟨j, by omega⟩) * w (ix3 2 q j) + ∑ j : Fin 1408, a (ix3 1 n ⟨1408 + j, by omega⟩) * w (ix3 3 q j)

/-- The launch's cotangent of the norm's output. -/
def D : Fin 8192 → Fin 1024 → EReal := dh (m ((c : Thread nD τ).loc main_arg0)) (m ((c : Thread nD τ).loc main_arg1))

/-- The launch's rows. -/
def X (n : Fin 8192) (q : Fin 1024) : EReal := m ((c : Thread nD τ).loc main_arg2) (ix2 n q)

/-- The launch's gain. -/
def G (q : Fin 1024) : EReal := m ((c : Thread nD τ).loc main_arg3) (ix1 q)

/-- The launch's other cotangent of the rows. -/
def R (n : Fin 8192) (q : Fin 1024) : EReal := m ((c : Thread nD τ).loc main_arg4) (ix2 n q)

/-- The rows' gradient. -/
def dxArr : Vec Ideal S8192x1024 .f32 := fun y => kernelForm (X m c (y 0)) (G m c) (D m c (y 0)) (R m c (y 0) (y 1)) (y 1)

/-- The gain's gradient. -/
def dgArr : Vec Ideal S1x1024 .f32 := fun y => ∑ n : Fin 8192, D m c n (y 1) * (X m c n (y 1) * invRms (X m c n))

section
variable (t : Fin cfg0.N)

theorem rows (k : Fin 512) (q : Fin 1024) : iblk m c 2 t (ix2 k q) = X m c (row t k) q := by
  unfold X row
  blk_ext [iblk, V, idx t]

theorem gain (q : Fin 1024) : iblk m c 3 t (ix2 0 q) = G m c q := by
  unfold G
  blk_point [iblk, V, idx t]

theorem other (k : Fin 512) (q : Fin 1024) : iblk m c 4 t (ix2 k q) = R m c (row t k) q := by
  unfold R row
  blk_ext [iblk, V, idx t]

/-- The point's product block. -/
def prod : FVec Ideal S512x1024 .f32 :=
  k0_pay7 (View.ld (iblk m c 0 t) (Rect.unit ![0, 0, 0] ![1, 512, 1408] inb_S2x512x2816_S1x512x1408_0_0_0))
    (View.ld (iblk m c 1 t) (Rect.unit ![0, 0, 0] ![1, 1024, 1408] inb_S4x1024x1408_S1x1024x1408_0_0_0))
    (View.ld (iblk m c 0 t) (Rect.unit ![0, 0, 1408] ![1, 512, 1408] inb_S2x512x2816_S1x512x1408_0_0_1408))
    (View.ld (iblk m c 1 t) (Rect.unit ![1, 0, 0] ![1, 1024, 1408] inb_S4x1024x1408_S1x1024x1408_1_0_0))
    (View.ld (iblk m c 0 t) (Rect.unit ![1, 0, 0] ![1, 512, 1408] inb_S2x512x2816_S1x512x1408_1_0_0))
    (View.ld (iblk m c 1 t) (Rect.unit ![2, 0, 0] ![1, 1024, 1408] inb_S4x1024x1408_S1x1024x1408_2_0_0))
    (View.ld (iblk m c 0 t) (Rect.unit ![1, 0, 1408] ![1, 512, 1408] inb_S2x512x2816_S1x512x1408_1_0_1408))
    (View.ld (iblk m c 1 t) (Rect.unit ![3, 0, 0] ![1, 1024, 1408] inb_S4x1024x1408_S1x1024x1408_3_0_0))

theorem prod_apply (k : Fin 512) (q : Fin 1024) : prod m c t (ix2 k q) = D m c (row t k) q := by
  unfold prod k0_pay7 D dh row
  pointwise
  refine congr (congrArg _ (congr (congrArg _ (congr (congrArg _ ?_) ?_)) ?_)) ?_ <;>
  refine Finset.sum_congr rfl fun j _ => congr (congrArg _ ?_) ?_ <;>
  blk_ext [iblk, V, idx t]

theorem factor {A : FVec Ideal S512x1024 .f32} {x : Vec Ideal S512x1024 .f32} {g : Vec Ideal S1x1024 .f32} {r : Vec Ideal S512x1024 .f32}
    (hA : ∀ k q, A (ix2 k q) = D m c (row t k) q) (hx : ∀ k q, x (ix2 k q) = X m c (row t k) q) (hg : ∀ q, g (ix2 0 q) = G m c q)
    (hr : ∀ k q, r (ix2 k q) = R m c (row t k) q) (k : Fin 512) (q : Fin 1024) :
    k0_pay3 A x (k0_pay8 g) r (ix2 k q) = kernelForm (X m c (row t k)) (G m c) (D m c (row t k)) (R m c (row t k) q) q := by
  unfold kernelForm invRms var k0_pay3 k0_pay2 k0_pay1 k0_pay8
  pointwise
  simp only [hA, hx, hg, hr]

theorem scaled {A : FVec Ideal S512x1024 .f32} {x : Vec Ideal S512x1024 .f32} (b : Vec Ideal S1x1024 .f32)
    (hA : ∀ k q, A (ix2 k q) = D m c (row t k) q) (hx : ∀ k q, x (ix2 k q) = X m c (row t k) q) (k : Fin 1) (q : Fin 1024) :
    k0_pay6 A x b (ix2 k q) = b (ix2 k q) + ∑ l : Fin 512, D m c (row t l) q * (X m c (row t l) q * invRms (X m c (row t l))) := by
  unfold invRms var k0_pay6 k0_pay2 k0_pay1
  pointwise
  simp only [hA, hx]

/-- What a point leaves of the rows' gradient. -/
theorem outs5 (k : Fin 512) (q : Fin 1024) : (outsAt0 m c t.val t.isLt).1 (ix2 k q) = dxArr m c (ix2 (row t k) q) := by
  by_cases h : (t : ℕ) % 16 = 0
  · rw [outsAt0_A m c t h]
    frame_out
    exact factor m c t (A := prod m c t) (prod_apply m c t) (rows m c t) (gain m c t) (other m c t) k q
  · rw [outsAt0_B m c t h]
    frame_out
    exact factor m c t (A := prod m c t) (prod_apply m c t) (rows m c t) (gain m c t) (other m c t) k q

theorem outs6 (k : Fin 512) (q : Fin 1024) : (outsAt0 m c t.val t.isLt).2.1 (ix2 k q) = dxArr m c (ix2 (row t k) q) := by
  by_cases h : (t : ℕ) % 16 = 0
  · rw [outsAt0_A m c t h]
    frame_out
    exact factor m c t (A := prod m c t) (prod_apply m c t) (rows m c t) (gain m c t) (other m c t) k q
  · rw [outsAt0_B m c t h]
    frame_out
    exact factor m c t (A := prod m c t) (prod_apply m c t) (rows m c t) (gain m c t) (other m c t) k q

theorem outs7 (y : S1x1024.Idx) (hf : (t : ℕ) % 16 = 16 - 1) : (outsAt0 m c t.val t.isLt).2.2 y = dgArr m c y := by
  rw [Pipeline.eq_sum_fin_of_reset_step_apply_of_flush (fun n h => (outsAt0 m c n h).2.2) 16 (fun _ => 0)
    (fun t y => ∑ l : Fin 512, D m c (row t l) (y 1) * (X m c (row t l) (y 1) * invRms (X m c (row t l))))
    (fun t h y => by
      obtain ⟨k, l, rfl⟩ : ∃ k l, y = ix2 k l := ⟨_, _, eq_ix2 y⟩
      rw [outsAt0_A m c t h]
      frame_out
      refine (scaled m c t (A := prod m c t) _ (prod_apply m c t) (rows m c t) k l).trans ?_
      congr 1
      unfold k0_pay5
      pointwise)
    (fun t h y => by
      obtain ⟨k, l, rfl⟩ : ∃ k l, y = ix2 k l := ⟨_, _, eq_ix2 y⟩
      rw [outsAt0_B m c t h]
      frame_out
      exact scaled m c t (A := prod m c t) _ (prod_apply m c t) (rows m c t) k l) t hf y]
  rw [zero_add]
  unfold dgArr
  have e := Fin.sum_univ_univ_mul_add 16 512 (fun n => if h : n < 8192 then D m c ⟨n, h⟩ (y 1) * (X m c ⟨n, h⟩ (y 1) * invRms (X m c ⟨n, h⟩)) else 0)
  refine Eq.trans ?_ (e.trans ?_)
  · refine Finset.sum_congr rfl fun s _ => Finset.sum_congr rfl fun r _ => ?_
    rw [dif_pos (by omega)]
    have er : ∀ H, row ⟨16 * ((t : ℕ) / 16) + s, H⟩ r = ⟨s * 512 + r, by omega⟩ := fun H => by
      apply Fin.ext
      show 512 * (16 * ((t : ℕ) / 16) + (s : ℕ)) + (r : ℕ) = s * 512 + r
      have := lt_of_lt_of_le t.isLt (le_of_eq N_0)
      omega
    rw [er]
  · refine Finset.sum_congr rfl fun n _ => ?_
    rw [dif_pos n.isLt]

end

theorem final5 : (dats m 0 c).arrAt 5 cfg0.N = dxArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  refine (outs5 m c t k q).trans ?_
  congr 1
  unfold row
  symm
  blk_ext [idx t]

theorem final6 : (dats m 0 c).arrAt 6 cfg0.N = dxArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  refine (outs6 m c t k q).trans ?_
  congr 1
  unfold row
  symm
  blk_ext [idx t]

theorem final7 : (dats m 0 c).arrAt 7 cfg0.N = dgArr m c := by
  refine (dats m 0 c).arrAt_eq_of_covers 7 _ (by decide +kernel) fun t hf y => ?_
  blk_simp
  rw [after0_7]
  refine (outs7 m c t y ((flush0_7 t).mp hf)).trans ?_
  congr 1
  symm
  blk_ext [idx t]

end Cert.UpDxIdeal.Norm
end
-- ==== Proof.Up.Equation.lean ====
/- The kernel's three gradients are the written-out derivative's on finite arrays. -/
module

public import proofs.«01_k».proof.Proof.Up.Array
public import proofs.«01_k».proof.Proof.Gen.UpDxRefIdeal.Read

@[expose] public section

set_option maxRecDepth 16384

noncomputable section

namespace Cert.UpDxRefIdeal.Norm

open Cert.UpDxRefIdeal Cert.UpDxRefIdeal.Gen Cert.UpDxRefIdeal.Read Idealize.ShloMosaic Idealize.ShloMosaic.TcCoe Cert.Norm Cert.Conv

variable (x0 : Vec Ideal S2x8192x2816 .bf16) (x1 : Vec Ideal S4x1024x1408 .bf16) (x2 : Vec Ideal S8192x1024 .f32) (x3 : Vec Ideal S1024 .f32)
  (x4 : Vec Ideal S8192x1024 .f32)

/-- The four shards side by side. -/
theorem weights (d : Fin 1024) (q : Fin 5632) : val_main_v9 (F := Ideal) x1 (ix2 d q) =
    if h : (q : ℕ) < 1408 then x1 (ix3 0 d ⟨q, h⟩)
    else if h : (q : ℕ) - 1408 < 1408 then x1 (ix3 1 d ⟨(q : ℕ) - 1408, h⟩)
    else if h : (q : ℕ) - 1408 - 1408 < 1408 then x1 (ix3 2 d ⟨(q : ℕ) - 1408 - 1408, h⟩)
    else x1 (ix3 3 d ⟨(q : ℕ) - 1408 - 1408 - 1408, by omega⟩) := by
  unfold val_main_v9 val_main_v8 val_main_v7 val_main_v6 val_main_v5 val_main_v4 val_main_v3 val_main_v2 val_main_v1 val_main_v0
  pointwise

/-- The two column halves side by side. -/
theorem halves (n : Fin 8192) (q : Fin 5632) : val_main_v15 (F := Ideal) x0 (ix2 n q) =
    if h : (q : ℕ) < 2816 then x0 (ix3 0 n ⟨q, h⟩) else x0 (ix3 1 n ⟨(q : ℕ) - 2816, by omega⟩) := by
  unfold val_main_v15 val_main_v14 val_main_v13 val_main_v12 val_main_v11 val_main_v10
  pointwise

/-- The cotangent of the norm's output, summed shard by shard. -/
theorem cotangent (n : Fin 8192) (q : Fin 1024) : val_main_v33 (F := Ideal) x0 x1 (ix2 n q) = Cert.UpDxIdeal.Norm.dh x0 x1 n q := by
  have e : val_main_v33 (F := Ideal) x0 x1 (ix2 n q)
      = ∑ x : Fin (1408 + 1408 + 1408 + 1408), val_main_v15 (F := Ideal) x0 (ix2 n (x : Fin 5632)) * val_main_v9 (F := Ideal) x1 (ix2 q (x : Fin 5632)) := by
    unfold val_main_v33
    pointwise
  rw [e, Fin.sum_univ_add, Fin.sum_univ_add, Fin.sum_univ_add]
  unfold Cert.UpDxIdeal.Norm.dh
  refine congr (congrArg _ (congr (congrArg _ (congr (congrArg _ ?_) ?_)) ?_)) ?_ <;> refine Finset.sum_congr rfl fun j _ => ?_ <;>
    rw [weights, halves] <;> refine congr (congrArg _ ?_) ?_
  · exact dif_pos (show (j : ℕ) < 2816 by omega)
  · exact dif_pos (show (j : ℕ) < 1408 by omega)
  · exact dif_pos (show 1408 + (j : ℕ) < 2816 by omega)
  · refine (dif_neg (show ¬ 1408 + (j : ℕ) < 1408 by omega)).trans ((dif_pos (show 1408 + (j : ℕ) - 1408 < 1408 by omega)).trans ?_)
    exact congrArg x1 (congrArg (ix3 1 q) (Fin.ext (show 1408 + (j : ℕ) - 1408 = j by omega)))
  · refine (dif_neg (show ¬ 1408 + 1408 + (j : ℕ) < 2816 by omega)).trans ?_
    exact congrArg x0 (congrArg (ix3 1 n) (Fin.ext (show 1408 + 1408 + (j : ℕ) - 2816 = j by omega)))
  · refine (dif_neg (show ¬ 1408 + 1408 + (j : ℕ) < 1408 by omega)).trans ((dif_neg (show ¬ 1408 + 1408 + (j : ℕ) - 1408 < 1408 by omega)).trans
      ((dif_pos (show 1408 + 1408 + (j : ℕ) - 1408 - 1408 < 1408 by omega)).trans ?_))
    exact congrArg x1 (congrArg (ix3 2 q) (Fin.ext (show 1408 + 1408 + (j : ℕ) - 1408 - 1408 = j by omega)))
  · refine (dif_neg (show ¬ 1408 + 1408 + 1408 + (j : ℕ) < 2816 by omega)).trans ?_
    exact congrArg x0 (congrArg (ix3 1 n) (Fin.ext (show 1408 + 1408 + 1408 + (j : ℕ) - 2816 = 1408 + j by omega)))
  · refine (dif_neg (show ¬ 1408 + 1408 + 1408 + (j : ℕ) < 1408 by omega)).trans ((dif_neg (show ¬ 1408 + 1408 + 1408 + (j : ℕ) - 1408 < 1408 by omega)).trans
      ((dif_neg (show ¬ 1408 + 1408 + 1408 + (j : ℕ) - 1408 - 1408 < 1408 by omega)).trans ?_))
    exact congrArg x1 (congrArg (ix3 3 q) (Fin.ext (show 1408 + 1408 + 1408 + (j : ℕ) - 1408 - 1408 - 1408 = j by omega)))

/-- The rows' gradient is the derivative of the norm. -/
theorem dx (n : Fin 8192) (q : Fin 1024) : val_main_v54 (F := Ideal) x0 x1 x2 x3 x4 (ix2 n q) =
    derivative (fun i => x2 (ix2 n i)) (fun i => x3 (ix1 i)) (Cert.UpDxIdeal.Norm.dh x0 x1 n) (x4 (ix2 n q)) q := by
  unfold val_main_v54 val_main_v53 val_main_v52 val_main_v51 val_main_v50 val_main_v49 val_main_v48 val_main_v47 val_main_v46 val_main_v45
    val_main_v44 val_main_v43 val_main_v42 val_main_v41 val_main_v40 val_main_v38 val_main_v37 val_main_v29 val_main_v26 val_main_v25 val_main_v24
    val_main_v23 val_main_v22 val_main_v21 val_main_v20 val_main_v19 val_main_v18 val_main_v17 val_main_v16 val_main_cst val_main_cst_0
    val_main_cst_1 val_main_cst_2 val_main_cst_5 val_main_cst_6 val_main_cst_7
  pointwise
  simp only [cotangent]
  rfl

/-- The gain's gradient. -/
theorem dg (n : Fin 1) (q : Fin 1024) : val_main_v56 (F := Ideal) x0 x1 x2 (ix2 n q) =
    ∑ i : Fin 8192, Cert.UpDxIdeal.Norm.dh x0 x1 i q * (x2 (ix2 i q) * invRms fun j => x2 (ix2 i j)) := by
  unfold val_main_v56 val_main_v39 val_main_v36 val_main_v35 val_main_v34 val_main_v28 val_main_v27
    val_main_v23 val_main_v22 val_main_v21 val_main_v20 val_main_v19 val_main_v18 val_main_v17 val_main_v16 val_main_cst val_main_cst_0
    val_main_cst_1 val_main_cst_3 val_main_cst_4
  pointwise
  simp only [cotangent, Finset.univ_unique, Finset.sum_singleton]
  exact Finset.sum_congr rfl fun i _ => mul_comm _ _

end Cert.UpDxRefIdeal.Norm

namespace Cert.UpDxIdeal.Norm

open Cert.UpDxIdeal Cert.UpDxIdeal.Gen Idealize.ShloMosaic Idealize.ShloMosaic.TcCoe Cert.Norm Cert.Conv

variable {m : (ℓ : Loc nD τ sig) → Buf (Elt Ideal) ℓ} {c : Dev nD}

/-- The elements of the launch's product operands, rows and gain are real numbers. -/
structure Finite (m : (ℓ : Loc nD τ sig) → Buf (Elt Ideal) ℓ) (c : Dev nD) : Prop where
  cot : ∀ i, IsReal (m ((c : Thread nD τ).loc main_arg0) i)
  weight : ∀ i, IsReal (m ((c : Thread nD τ).loc main_arg1) i)
  rows : ∀ i, IsReal (m ((c : Thread nD τ).loc main_arg2) i)
  gain : ∀ i, IsReal (m ((c : Thread nD τ).loc main_arg3) i)

theorem D_real (H : Finite m c) (n : Fin 8192) (q : Fin 1024) : IsReal (D m c n q) := by
  unfold D dh
  refine ((IsReal.add (IsReal.add ?_ ?_) ?_).add ?_) <;> exact real_sum _ _ fun j => (H.cot _).mul (H.weight _)

theorem dx_eq (H : Finite m c) : Cert.UpDxRefIdeal.Read.val_main_v54 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = dxArr m c := by
  funext y
  obtain ⟨k, q, rfl⟩ : ∃ k q, y = ix2 k q := ⟨_, _, eq_ix2 y⟩
  refine (Cert.UpDxRefIdeal.Norm.dx _ _ _ _ _ k q).trans ?_
  exact (form_eq (fun i => H.rows _) (fun i => H.gain _) (D_real H k) _ q).symm

theorem dxb_eq (H : Finite m c) : Cert.UpDxRefIdeal.Read.val_main_v55 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = dxArr m c :=
  (funext fun y => rfl : _ = Cert.UpDxRefIdeal.Read.val_main_v54 (F := Ideal) _ _ _ _ _).trans (dx_eq H)

theorem dg_eq : Cert.UpDxRefIdeal.Read.val_main_v56 (F := Ideal) (m ((c : Thread nD τ).loc main_arg0)) (m ((c : Thread nD τ).loc main_arg1))
    (m ((c : Thread nD τ).loc main_arg2)) = dgArr m c := by
  funext y
  obtain ⟨k, q, rfl⟩ : ∃ k q, y = ix2 k q := ⟨_, _, eq_ix2 y⟩
  exact Cert.UpDxRefIdeal.Norm.dg _ _ _ k q

end Cert.UpDxIdeal.Norm
end
-- ==== Proof.Up.Claim.lean ====
/- The claims about the gradient of the up projection's norm. -/
module

public import proofs.«01_k».proof.Defs
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.Pre_finite_up
public import proofs.«01_k».proof.Proof.Up.Equation
public import Idealize.ShloMosaic.Lib.Affine
public import Idealize.ShloMosaic.Lib.ReduceAll

@[expose] public section

set_option maxRecDepth 16384

noncomputable section

namespace Cert.Pre_finite_up.Norm

open Idealize.ShloMosaic Cert.Conv

/-- The first four arrays hold real numbers where the precondition holds. -/
theorem real (x0 : FVec Ideal S2x8192x2816 .bf16) (x1 : FVec Ideal S4x1024x1408 .bf16) (x2 : FVec Ideal S8192x1024 .f32) (x3 : FVec Ideal S1024 .f32)
    (x4 : FVec Ideal S8192x1024 .f32) (h : Cert.Pre_finite_up.fn (F := Ideal) x0 x1 x2 x3 x4 = fun _ => 1#1) :
    (∀ i, IsReal (x0 i)) ∧ (∀ i, IsReal (x1 i)) ∧ (∀ i, IsReal (x2 i)) ∧ ∀ i, IsReal (x3 i) := by
  haveI : Subsingleton S_.Idx := ⟨fun _ _ => funext fun k => k.elim0⟩
  have e := congrFun h (fun k => k.elim0)
  unfold Cert.Pre_finite_up.fn Cert.Pre_finite_up.fn_part1 at e
  obtain ⟨e, e3⟩ := IntOp.andi_eq_one.mp e
  obtain ⟨e, e2⟩ := IntOp.andi_eq_one.mp e
  obtain ⟨e0, e1⟩ := IntOp.andi_eq_one.mp e
  exact ⟨fun i => isReal_of_lt (Host.reduce_andi_all _ _ _ _ _ e0 i), fun i => isReal_of_lt (Host.reduce_andi_all _ _ _ _ _ e1 i),
    fun i => isReal_of_lt (Host.reduce_andi_all _ _ _ _ _ e2 i), fun i => isReal_of_lt (Host.reduce_andi_all _ _ _ _ _ e3 i)⟩

end Cert.Pre_finite_up.Norm

namespace Cert.UpDxIdeal.Norm

open Idealize.ShloMosaic Idealize.SL.Sem

/-- The reference's run, its arguments and counters. -/
theorem frame_reference : quiescent_UpDxRefIdeal := fun m g _ =>
  (θ_run (Cert.UpDxRefIdeal.defs (F := Ideal)) _ _).mono
    (fun r h => ⟨fun c => (h c).2.2.2, sem_eq_zero_of_no_sems (by decide) r.2⟩)
    (Cert.UpDxRefIdeal.Value.run m g)

theorem frame_reference_finite : quiescent_UpDxRefIdeal_pre_finite_up := fun m g _ => frame_reference m g trivial

/-- The kernel's three gradients are the reference's on finite arrays. -/
theorem algebraic : algebraic_UpDxIdeal_UpDxRefIdeal_pre_finite_up := by
  intro m g m' g' hp ha
  refine ⟨dxArr m, dxArr m, dgArr m, ?_, ?_⟩
  · exact (θ_run _ _ _).mono (fun r h c => ⟨(h c).1.trans (final5 m c), (h c).2.1.trans (final6 m c), (h c).2.2.1.trans (final7 m c),
      (h c).2.2.2⟩) (Cert.UpDxIdeal.Value.run_blocks m g)
  · refine (θ_run _ _ _).mono (fun r h c => ?_) (Cert.UpDxRefIdeal.Value.run m' g')
    have e := Cert.Pre_finite_up.Norm.real _ _ _ _ _ (hp c)
    have H : Finite m c := ⟨e.1, e.2.1, e.2.2.1, e.2.2.2⟩
    obtain ⟨h0, h1, h2, h3, h4⟩ := ha c
    refine ⟨(h c).1.trans ?_, (h c).2.1.trans ?_, (h c).2.2.1.trans ?_, (h c).2.2.2⟩
    · refine (Cert.UpDxRefIdeal.Read.val_main_v54_eq (F := Ideal) _ _).trans ?_
      refine Eq.trans ?_ (dx_eq H)
      exact congr (congr (congr (congr (congrArg _ h0) h1) h2) h3) h4
    · refine (Cert.UpDxRefIdeal.Read.val_main_v55_eq (F := Ideal) _ _).trans ?_
      refine Eq.trans ?_ (dxb_eq H)
      exact congr (congr (congr (congr (congrArg _ h0) h1) h2) h3) h4
    · refine (Cert.UpDxRefIdeal.Read.val_main_v56_eq (F := Ideal) _ _ _).trans ?_
      refine Eq.trans ?_ (dg_eq (c := c))
      exact congr (congr (congrArg _ h0) h1) h2

end Cert.UpDxIdeal.Norm
end
-- ==== Proof.In.Array.lean ====
/- The rows that each grid point reads, and the arrays that the gradient of the input projection's norm leaves. -/
module

public import proofs.«01_k».proof.Proof.Gen.InDxIdeal.Value
public import proofs.«01_k».proof.Proof.Norm.Math
public import Idealize.ShloMosaic.Lib.Pipeline.ValueKit

@[expose] public section

set_option maxRecDepth 16384

noncomputable section

namespace Cert.InDxIdeal.Norm

open Cert.InDxIdeal Cert.InDxIdeal.Gen Idealize.ShloMosaic Idealize.ShloMosaic.TcCoe Cert.Norm

variable (m : (ℓ : Loc nD τ sig) → Buf (Elt Ideal) ℓ) (c : Dev nD)

theorem idx : ∀ t : Fin cfg0.N, win0_0.index t = ![0, (t : ℕ), 0] ∧ win0_1.index t = ![0, 0, 0] ∧ win0_2.index t = ![(t : ℕ), 0] ∧
    win0_3.index t = ![0, 0] ∧ win0_4.index t = ![(t : ℕ), 0] ∧ win0_5.index t = ![(t : ℕ), 0] ∧ win0_6.index t = ![(t : ℕ), 0] ∧
    win0_7.index t = ![0, 0] :=
  (by decide +kernel : ∀ t : Fin grid0.N, _)

/-- The array row that row `k` of a point's blocks is. -/
def row (t : Fin cfg0.N) (k : Fin 512) : Fin 8192 :=
  ⟨512 * (t : ℕ) + k, by have := lt_of_lt_of_le t.isLt (le_of_eq N_0); omega⟩

/-- The cotangent of the norm's output, from the projection's four weight shards. -/
def dh (a : Vec Ideal S8192x4608 .bf16) (w : Vec Ideal S4x1024x1152 .bf16) (n : Fin 8192) (q : Fin 1024) : EReal :=
  ∑ j : Fin 1152, a (ix2 n ⟨j, by omega⟩) * w (ix3 0 q j) + ∑ j : Fin 1152, a (ix2 n ⟨1152 + j, by omega⟩) * w (ix3 1 q j)
    + ∑ j : Fin 1152, a (ix2 n ⟨2304 + j, by omega⟩) * w (ix3 2 q j) + ∑ j : Fin 1152, a (ix2 n ⟨3456 + j, by omega⟩) * w (ix3 3 q j)

/-- The launch's cotangent of the norm's output. -/
def D : Fin 8192 → Fin 1024 → EReal := dh (m ((c : Thread nD τ).loc main_arg0)) (m ((c : Thread nD τ).loc main_arg1))

/-- The launch's rows. -/
def X (n : Fin 8192) (q : Fin 1024) : EReal := m ((c : Thread nD τ).loc main_arg2) (ix2 n q)

/-- The launch's gain. -/
def G (q : Fin 1024) : EReal := m ((c : Thread nD τ).loc main_arg3) (ix1 q)

/-- The launch's other cotangent of the rows. -/
def R (n : Fin 8192) (q : Fin 1024) : EReal := m ((c : Thread nD τ).loc main_arg4) (ix2 n q)

/-- The rows' gradient. -/
def dxArr : Vec Ideal S8192x1024 .f32 := fun y => kernelForm (X m c (y 0)) (G m c) (D m c (y 0)) (R m c (y 0) (y 1)) (y 1)

/-- The gain's gradient. -/
def dgArr : Vec Ideal S1x1024 .f32 := fun y => ∑ n : Fin 8192, D m c n (y 1) * (X m c n (y 1) * invRms (X m c n))

section
variable (t : Fin cfg0.N)

theorem rows (k : Fin 512) (q : Fin 1024) : iblk m c 2 t (ix2 k q) = X m c (row t k) q := by
  unfold X row
  blk_ext [iblk, V, idx t]

theorem gain (q : Fin 1024) : iblk m c 3 t (ix2 0 q) = G m c q := by
  unfold G
  blk_point [iblk, V, idx t]

theorem other (k : Fin 512) (q : Fin 1024) : iblk m c 4 t (ix2 k q) = R m c (row t k) q := by
  unfold R row
  blk_ext [iblk, V, idx t]

/-- The point's product block. -/
def prod : FVec Ideal S512x1024 .f32 :=
  k0_pay7 (View.ld (iblk m c 0 t) (Rect.unit ![0, 0, 0] ![1, 512, 1152] inb_S1x512x4608_S1x512x1152_0_0_0))
    (View.ld (iblk m c 1 t) (Rect.unit ![0, 0, 0] ![1, 1024, 1152] inb_S4x1024x1152_S1x1024x1152_0_0_0))
    (View.ld (iblk m c 0 t) (Rect.unit ![0, 0, 1152] ![1, 512, 1152] inb_S1x512x4608_S1x512x1152_0_0_1152))
    (View.ld (iblk m c 1 t) (Rect.unit ![1, 0, 0] ![1, 1024, 1152] inb_S4x1024x1152_S1x1024x1152_1_0_0))
    (View.ld (iblk m c 0 t) (Rect.unit ![0, 0, 2304] ![1, 512, 1152] inb_S1x512x4608_S1x512x1152_0_0_2304))
    (View.ld (iblk m c 1 t) (Rect.unit ![2, 0, 0] ![1, 1024, 1152] inb_S4x1024x1152_S1x1024x1152_2_0_0))
    (View.ld (iblk m c 0 t) (Rect.unit ![0, 0, 3456] ![1, 512, 1152] inb_S1x512x4608_S1x512x1152_0_0_3456))
    (View.ld (iblk m c 1 t) (Rect.unit ![3, 0, 0] ![1, 1024, 1152] inb_S4x1024x1152_S1x1024x1152_3_0_0))

theorem prod_apply (k : Fin 512) (q : Fin 1024) : prod m c t (ix2 k q) = D m c (row t k) q := by
  unfold prod k0_pay7 D dh row
  pointwise
  refine congr (congrArg _ (congr (congrArg _ (congr (congrArg _ ?_) ?_)) ?_)) ?_ <;>
  refine Finset.sum_congr rfl fun j _ => congr (congrArg _ ?_) ?_ <;>
  first | blk_ext [iblk, V, idx t] | blk_point [iblk, V, idx t]

theorem factor {A : FVec Ideal S512x1024 .f32} {x : Vec Ideal S512x1024 .f32} {g : Vec Ideal S1x1024 .f32} {r : Vec Ideal S512x1024 .f32}
    (hA : ∀ k q, A (ix2 k q) = D m c (row t k) q) (hx : ∀ k q, x (ix2 k q) = X m c (row t k) q) (hg : ∀ q, g (ix2 0 q) = G m c q)
    (hr : ∀ k q, r (ix2 k q) = R m c (row t k) q) (k : Fin 512) (q : Fin 1024) :
    k0_pay3 A x (k0_pay8 g) r (ix2 k q) = kernelForm (X m c (row t k)) (G m c) (D m c (row t k)) (R m c (row t k) q) q := by
  unfold kernelForm invRms var k0_pay3 k0_pay2 k0_pay1 k0_pay8
  pointwise
  simp only [hA, hx, hg, hr]

theorem scaled {A : FVec Ideal S512x1024 .f32} {x : Vec Ideal S512x1024 .f32} (b : Vec Ideal S1x1024 .f32)
    (hA : ∀ k q, A (ix2 k q) = D m c (row t k) q) (hx : ∀ k q, x (ix2 k q) = X m c (row t k) q) (k : Fin 1) (q : Fin 1024) :
    k0_pay6 A x b (ix2 k q) = b (ix2 k q) + ∑ l : Fin 512, D m c (row t l) q * (X m c (row t l) q * invRms (X m c (row t l))) := by
  unfold invRms var k0_pay6 k0_pay2 k0_pay1
  pointwise
  simp only [hA, hx]

/-- What a point leaves of the rows' gradient. -/
theorem outs5 (k : Fin 512) (q : Fin 1024) : (outsAt0 m c t.val t.isLt).1 (ix2 k q) = dxArr m c (ix2 (row t k) q) := by
  by_cases h : (t : ℕ) % 16 = 0
  · rw [outsAt0_A m c t h]
    frame_out
    exact factor m c t (A := prod m c t) (prod_apply m c t) (rows m c t) (gain m c t) (other m c t) k q
  · rw [outsAt0_B m c t h]
    frame_out
    exact factor m c t (A := prod m c t) (prod_apply m c t) (rows m c t) (gain m c t) (other m c t) k q

theorem outs6 (k : Fin 512) (q : Fin 1024) : (outsAt0 m c t.val t.isLt).2.1 (ix2 k q) = dxArr m c (ix2 (row t k) q) := by
  by_cases h : (t : ℕ) % 16 = 0
  · rw [outsAt0_A m c t h]
    frame_out
    exact factor m c t (A := prod m c t) (prod_apply m c t) (rows m c t) (gain m c t) (other m c t) k q
  · rw [outsAt0_B m c t h]
    frame_out
    exact factor m c t (A := prod m c t) (prod_apply m c t) (rows m c t) (gain m c t) (other m c t) k q

theorem outs7 (y : S1x1024.Idx) (hf : (t : ℕ) % 16 = 16 - 1) : (outsAt0 m c t.val t.isLt).2.2 y = dgArr m c y := by
  rw [Pipeline.eq_sum_fin_of_reset_step_apply_of_flush (fun n h => (outsAt0 m c n h).2.2) 16 (fun _ => 0)
    (fun t y => ∑ l : Fin 512, D m c (row t l) (y 1) * (X m c (row t l) (y 1) * invRms (X m c (row t l))))
    (fun t h y => by
      obtain ⟨k, l, rfl⟩ : ∃ k l, y = ix2 k l := ⟨_, _, eq_ix2 y⟩
      rw [outsAt0_A m c t h]
      frame_out
      refine (scaled m c t (A := prod m c t) _ (prod_apply m c t) (rows m c t) k l).trans ?_
      congr 1
      unfold k0_pay5
      pointwise)
    (fun t h y => by
      obtain ⟨k, l, rfl⟩ : ∃ k l, y = ix2 k l := ⟨_, _, eq_ix2 y⟩
      rw [outsAt0_B m c t h]
      frame_out
      exact scaled m c t (A := prod m c t) _ (prod_apply m c t) (rows m c t) k l) t hf y]
  rw [zero_add]
  unfold dgArr
  have e := Fin.sum_univ_univ_mul_add 16 512 (fun n => if h : n < 8192 then D m c ⟨n, h⟩ (y 1) * (X m c ⟨n, h⟩ (y 1) * invRms (X m c ⟨n, h⟩)) else 0)
  refine Eq.trans ?_ (e.trans ?_)
  · refine Finset.sum_congr rfl fun s _ => Finset.sum_congr rfl fun r _ => ?_
    rw [dif_pos (by omega)]
    have er : ∀ H, row ⟨16 * ((t : ℕ) / 16) + s, H⟩ r = ⟨s * 512 + r, by omega⟩ := fun H => by
      apply Fin.ext
      show 512 * (16 * ((t : ℕ) / 16) + (s : ℕ)) + (r : ℕ) = s * 512 + r
      have := lt_of_lt_of_le t.isLt (le_of_eq N_0)
      omega
    rw [er]
  · refine Finset.sum_congr rfl fun n _ => ?_
    rw [dif_pos n.isLt]

end

theorem final5 : (dats m 0 c).arrAt 5 cfg0.N = dxArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  refine (outs5 m c t k q).trans ?_
  congr 1
  unfold row
  symm
  blk_ext [idx t]

theorem final6 : (dats m 0 c).arrAt 6 cfg0.N = dxArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  refine (outs6 m c t k q).trans ?_
  congr 1
  unfold row
  symm
  blk_ext [idx t]

theorem final7 : (dats m 0 c).arrAt 7 cfg0.N = dgArr m c := by
  refine (dats m 0 c).arrAt_eq_of_covers 7 _ (by decide +kernel) fun t hf y => ?_
  blk_simp
  rw [after0_7]
  refine (outs7 m c t y ((flush0_7 t).mp hf)).trans ?_
  congr 1
  symm
  blk_ext [idx t]

end Cert.InDxIdeal.Norm
end
-- ==== Proof.In.Equation.lean ====
/- The kernel's three gradients are the written-out derivative's on finite arrays. -/
module

public import proofs.«01_k».proof.Proof.In.Array
public import proofs.«01_k».proof.Proof.Gen.InDxRefIdeal.Read

@[expose] public section

set_option maxRecDepth 16384

noncomputable section

namespace Cert.InDxRefIdeal.Norm

open Cert.InDxRefIdeal Cert.InDxRefIdeal.Gen Cert.InDxRefIdeal.Read Idealize.ShloMosaic Idealize.ShloMosaic.TcCoe Cert.Norm Cert.Conv

variable (x0 : Vec Ideal S8192x4608 .bf16) (x1 : Vec Ideal S4x1024x1152 .bf16) (x2 : Vec Ideal S8192x1024 .f32) (x3 : Vec Ideal S1024 .f32)
  (x4 : Vec Ideal S8192x1024 .f32)

/-- The four shards side by side. -/
theorem weights (d : Fin 1024) (q : Fin 4608) : val_main_v9 (F := Ideal) x1 (ix2 d q) =
    if h : (q : ℕ) < 1152 then x1 (ix3 0 d ⟨q, h⟩)
    else if h : (q : ℕ) - 1152 < 1152 then x1 (ix3 1 d ⟨(q : ℕ) - 1152, h⟩)
    else if h : (q : ℕ) - 1152 - 1152 < 1152 then x1 (ix3 2 d ⟨(q : ℕ) - 1152 - 1152, h⟩)
    else x1 (ix3 3 d ⟨(q : ℕ) - 1152 - 1152 - 1152, by omega⟩) := by
  unfold val_main_v9 val_main_v8 val_main_v7 val_main_v6 val_main_v5 val_main_v4 val_main_v3 val_main_v2 val_main_v1 val_main_v0
  pointwise

/-- The projection's cotangent. -/
theorem given (n : Fin 8192) (q : Fin 4608) : val_main_v10 (F := Ideal) x0 (ix2 n q) = x0 (ix2 n q) := by
  unfold val_main_v10
  pointwise

/-- The cotangent of the norm's output, summed shard by shard. -/
theorem cotangent (n : Fin 8192) (q : Fin 1024) : val_main_v28 (F := Ideal) x0 x1 (ix2 n q) = Cert.InDxIdeal.Norm.dh x0 x1 n q := by
  have e : val_main_v28 (F := Ideal) x0 x1 (ix2 n q)
      = ∑ x : Fin (1152 + 1152 + 1152 + 1152), val_main_v10 (F := Ideal) x0 (ix2 n (x : Fin 4608)) * val_main_v9 (F := Ideal) x1 (ix2 q (x : Fin 4608)) := by
    unfold val_main_v28
    pointwise
  rw [e, Fin.sum_univ_add, Fin.sum_univ_add, Fin.sum_univ_add]
  unfold Cert.InDxIdeal.Norm.dh
  refine congr (congrArg _ (congr (congrArg _ (congr (congrArg _ ?_) ?_)) ?_)) ?_ <;> refine Finset.sum_congr rfl fun j _ => ?_ <;>
    rw [weights, given] <;> refine congr (congrArg _ ?_) ?_
  · rfl
  · exact dif_pos (show (j : ℕ) < 1152 by omega)
  · rfl
  · refine (dif_neg (show ¬ 1152 + (j : ℕ) < 1152 by omega)).trans ((dif_pos (show 1152 + (j : ℕ) - 1152 < 1152 by omega)).trans ?_)
    exact congrArg x1 (congrArg (ix3 1 q) (Fin.ext (show 1152 + (j : ℕ) - 1152 = j by omega)))
  · rfl
  · refine (dif_neg (show ¬ 1152 + 1152 + (j : ℕ) < 1152 by omega)).trans ((dif_neg (show ¬ 1152 + 1152 + (j : ℕ) - 1152 < 1152 by omega)).trans
      ((dif_pos (show 1152 + 1152 + (j : ℕ) - 1152 - 1152 < 1152 by omega)).trans ?_))
    exact congrArg x1 (congrArg (ix3 2 q) (Fin.ext (show 1152 + 1152 + (j : ℕ) - 1152 - 1152 = j by omega)))
  · rfl
  · refine (dif_neg (show ¬ 1152 + 1152 + 1152 + (j : ℕ) < 1152 by omega)).trans ((dif_neg (show ¬ 1152 + 1152 + 1152 + (j : ℕ) - 1152 < 1152 by omega)).trans
      ((dif_neg (show ¬ 1152 + 1152 + 1152 + (j : ℕ) - 1152 - 1152 < 1152 by omega)).trans ?_))
    exact congrArg x1 (congrArg (ix3 3 q) (Fin.ext (show 1152 + 1152 + 1152 + (j : ℕ) - 1152 - 1152 - 1152 = j by omega)))

/-- The rows' gradient is the derivative of the norm. -/
theorem dx (n : Fin 8192) (q : Fin 1024) : val_main_v49 (F := Ideal) x0 x1 x2 x3 x4 (ix2 n q) =
    derivative (fun i => x2 (ix2 n i)) (fun i => x3 (ix1 i)) (Cert.InDxIdeal.Norm.dh x0 x1 n) (x4 (ix2 n q)) q := by
  unfold val_main_v49 val_main_v48 val_main_v47 val_main_v46 val_main_v45 val_main_v44 val_main_v43 val_main_v42 val_main_v41 val_main_v40
    val_main_v39 val_main_v38 val_main_v37 val_main_v36 val_main_v35 val_main_v33 val_main_v32 val_main_v24 val_main_v21 val_main_v20 val_main_v19
    val_main_v18 val_main_v17 val_main_v16 val_main_v15 val_main_v14 val_main_v13 val_main_v12 val_main_v11 val_main_cst val_main_cst_0
    val_main_cst_1 val_main_cst_2 val_main_cst_5 val_main_cst_6 val_main_cst_7
  pointwise
  simp only [cotangent]
  rfl

/-- The gain's gradient. -/
theorem dg (n : Fin 1) (q : Fin 1024) : val_main_v51 (F := Ideal) x0 x1 x2 (ix2 n q) =
    ∑ i : Fin 8192, Cert.InDxIdeal.Norm.dh x0 x1 i q * (x2 (ix2 i q) * invRms fun j => x2 (ix2 i j)) := by
  unfold val_main_v51 val_main_v34 val_main_v31 val_main_v30 val_main_v29 val_main_v23 val_main_v22
    val_main_v18 val_main_v17 val_main_v16 val_main_v15 val_main_v14 val_main_v13 val_main_v12 val_main_v11 val_main_cst val_main_cst_0
    val_main_cst_1 val_main_cst_3 val_main_cst_4
  pointwise
  simp only [cotangent, Finset.univ_unique, Finset.sum_singleton]
  exact Finset.sum_congr rfl fun i _ => mul_comm _ _

end Cert.InDxRefIdeal.Norm

namespace Cert.InDxIdeal.Norm

open Cert.InDxIdeal Cert.InDxIdeal.Gen Idealize.ShloMosaic Idealize.ShloMosaic.TcCoe Cert.Norm Cert.Conv

variable {m : (ℓ : Loc nD τ sig) → Buf (Elt Ideal) ℓ} {c : Dev nD}

/-- The elements of the launch's product operands, rows and gain are real numbers. -/
structure Finite (m : (ℓ : Loc nD τ sig) → Buf (Elt Ideal) ℓ) (c : Dev nD) : Prop where
  cot : ∀ i, IsReal (m ((c : Thread nD τ).loc main_arg0) i)
  weight : ∀ i, IsReal (m ((c : Thread nD τ).loc main_arg1) i)
  rows : ∀ i, IsReal (m ((c : Thread nD τ).loc main_arg2) i)
  gain : ∀ i, IsReal (m ((c : Thread nD τ).loc main_arg3) i)

theorem D_real (H : Finite m c) (n : Fin 8192) (q : Fin 1024) : IsReal (D m c n q) := by
  unfold D dh
  refine ((IsReal.add (IsReal.add ?_ ?_) ?_).add ?_) <;> exact real_sum _ _ fun j => (H.cot _).mul (H.weight _)

theorem dx_eq (H : Finite m c) : Cert.InDxRefIdeal.Read.val_main_v49 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = dxArr m c := by
  funext y
  obtain ⟨k, q, rfl⟩ : ∃ k q, y = ix2 k q := ⟨_, _, eq_ix2 y⟩
  refine (Cert.InDxRefIdeal.Norm.dx _ _ _ _ _ k q).trans ?_
  exact (form_eq (fun i => H.rows _) (fun i => H.gain _) (D_real H k) _ q).symm

theorem dxb_eq (H : Finite m c) : Cert.InDxRefIdeal.Read.val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = dxArr m c :=
  (funext fun y => rfl : _ = Cert.InDxRefIdeal.Read.val_main_v49 (F := Ideal) _ _ _ _ _).trans (dx_eq H)

theorem dg_eq : Cert.InDxRefIdeal.Read.val_main_v51 (F := Ideal) (m ((c : Thread nD τ).loc main_arg0)) (m ((c : Thread nD τ).loc main_arg1))
    (m ((c : Thread nD τ).loc main_arg2)) = dgArr m c := by
  funext y
  obtain ⟨k, q, rfl⟩ : ∃ k q, y = ix2 k q := ⟨_, _, eq_ix2 y⟩
  exact Cert.InDxRefIdeal.Norm.dg _ _ _ k q

end Cert.InDxIdeal.Norm
end
-- ==== Proof.In.Claim.lean ====
/- The claims about the gradient of the input projection's norm. -/
module

public import proofs.«01_k».proof.Defs
public import proofs.«01_k».proof.Proof.Gen.InDxIdeal
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.Pre_finite_in
public import proofs.«01_k».proof.Proof.In.Equation
public import Idealize.ShloMosaic.Lib.Affine
public import Idealize.ShloMosaic.Lib.ReduceAll

@[expose] public section

set_option maxRecDepth 16384

noncomputable section

namespace Cert.Pre_finite_in.Norm

open Idealize.ShloMosaic Cert.Conv

/-- The first four arrays hold real numbers where the precondition holds. -/
theorem real (x0 : FVec Ideal S8192x4608 .bf16) (x1 : FVec Ideal S4x1024x1152 .bf16) (x2 : FVec Ideal S8192x1024 .f32) (x3 : FVec Ideal S1024 .f32)
    (x4 : FVec Ideal S8192x1024 .f32) (h : Cert.Pre_finite_in.fn (F := Ideal) x0 x1 x2 x3 x4 = fun _ => 1#1) :
    (∀ i, IsReal (x0 i)) ∧ (∀ i, IsReal (x1 i)) ∧ (∀ i, IsReal (x2 i)) ∧ ∀ i, IsReal (x3 i) := by
  haveI : Subsingleton S_.Idx := ⟨fun _ _ => funext fun k => k.elim0⟩
  have e := congrFun h (fun k => k.elim0)
  unfold Cert.Pre_finite_in.fn Cert.Pre_finite_in.fn_part1 at e
  obtain ⟨e, e3⟩ := IntOp.andi_eq_one.mp e
  obtain ⟨e, e2⟩ := IntOp.andi_eq_one.mp e
  obtain ⟨e0, e1⟩ := IntOp.andi_eq_one.mp e
  exact ⟨fun i => isReal_of_lt (Host.reduce_andi_all _ _ _ _ _ e0 i), fun i => isReal_of_lt (Host.reduce_andi_all _ _ _ _ _ e1 i),
    fun i => isReal_of_lt (Host.reduce_andi_all _ _ _ _ _ e2 i), fun i => isReal_of_lt (Host.reduce_andi_all _ _ _ _ _ e3 i)⟩

end Cert.Pre_finite_in.Norm

namespace Cert.InDxIdeal.Norm

open Idealize.ShloMosaic Idealize.SL.Sem

/-- The reference's run, its arguments and counters. -/
theorem frame_reference : quiescent_InDxRefIdeal := fun m g _ =>
  (θ_run (Cert.InDxRefIdeal.defs (F := Ideal)) _ _).mono
    (fun r h => ⟨fun c => (h c).2.2.2, sem_eq_zero_of_no_sems (by decide) r.2⟩)
    (Cert.InDxRefIdeal.Value.run m g)

theorem frame_reference_finite : quiescent_InDxRefIdeal_pre_finite_in := fun m g _ => frame_reference m g trivial

/-- The kernel's three gradients are the reference's on finite arrays. -/
theorem algebraic : algebraic_InDxIdeal_InDxRefIdeal_pre_finite_in := by
  intro m g m' g' hp ha
  refine ⟨dxArr m, dxArr m, dgArr m, ?_, ?_⟩
  · exact (θ_run _ _ _).mono (fun r h c => ⟨(h c).1.trans (final5 m c), (h c).2.1.trans (final6 m c), (h c).2.2.1.trans (final7 m c),
      (h c).2.2.2⟩) (Cert.InDxIdeal.Value.run_blocks m g)
  · refine (θ_run _ _ _).mono (fun r h c => ?_) (Cert.InDxRefIdeal.Value.run m' g')
    have e := Cert.Pre_finite_in.Norm.real _ _ _ _ _ (hp c)
    have H : Finite m c := ⟨e.1, e.2.1, e.2.2.1, e.2.2.2⟩
    obtain ⟨h0, h1, h2, h3, h4⟩ := ha c
    refine ⟨(h c).1.trans ?_, (h c).2.1.trans ?_, (h c).2.2.1.trans ?_, (h c).2.2.2⟩
    · refine (Cert.InDxRefIdeal.Read.val_main_v49_eq (F := Ideal) _ _).trans ?_
      refine Eq.trans ?_ (dx_eq H)
      exact congr (congr (congr (congr (congrArg _ h0) h1) h2) h3) h4
    · refine (Cert.InDxRefIdeal.Read.val_main_v50_eq (F := Ideal) _ _).trans ?_
      refine Eq.trans ?_ (dxb_eq H)
      exact congr (congr (congr (congr (congrArg _ h0) h1) h2) h3) h4
    · refine (Cert.InDxRefIdeal.Read.val_main_v51_eq (F := Ideal) _ _ _).trans ?_
      refine Eq.trans ?_ (dg_eq (c := c))
      exact congr (congr (congrArg _ h0) h1) h2

end Cert.InDxIdeal.Norm
end
-- ==== Proof.Products.InDw.lean ====
/- The claims about the weight gradient of the input projection: the sums over the row tiles are the sum over all rows. -/
module

public import proofs.«01_k».proof.Defs
public import proofs.«01_k».proof.Proof.Gen.InDwIdeal
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import Idealize.ShloMosaic.Lib.Pipeline.ValueKit

@[expose] public section

set_option maxRecDepth 16384

noncomputable section

namespace Cert.InDwRefIdeal.Product

open Cert.InDwRefIdeal Cert.InDwRefIdeal.Gen Cert.InDwRefIdeal.Read Idealize.ShloMosaic Idealize.ShloMosaic.TcCoe

/-- The reference's product. -/
theorem product (x0 : Vec Ideal S8192x1024 .bf16) (x1 : Vec Ideal S8192x4608 .bf16) (d : Fin 1024) (q : Fin 4608) :
    val_main_v5 (F := Ideal) x0 x1 (ix2 d q) = ∑ n : Fin 8192, x1 (ix2 n q) * x0 (ix2 n d) := by
  unfold val_main_v5 val_main_v4 val_main_v3 val_main_v1
  pointwise

end Cert.InDwRefIdeal.Product

namespace Cert.InDwIdeal.Product

open Cert.InDwIdeal Cert.InDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![(t : ℕ) % 4, 0] ∧ win0_1.index t = ![(t : ℕ) % 4, (t : ℕ) / 4] ∧ win0_2.index t = ![0, (t : ℕ) / 4] :=
  (by decide +kernel : ∀ t : Fin grid0.N, _)

/-- The array row that row `k` of a point's blocks is. -/
def row (t : Fin cfg0.N) (k : Fin 2048) : Fin 8192 := ⟨2048 * ((t : ℕ) % 4) + k, by omega⟩

/-- The result's row that row `k` of a point's block is. -/
def orow (t : Fin cfg0.N) (k : Fin 1024) : Fin 1024 :=
  ⟨1024 * (0) + k, by have := lt_of_lt_of_le t.isLt (le_of_eq N_0); omega⟩

/-- The result's column that column `q` of a point's block is. -/
def ocol (t : Fin cfg0.N) (q : Fin 1152) : Fin 4608 :=
  ⟨1152 * ((t : ℕ) / 4) + q, by have := lt_of_lt_of_le t.isLt (le_of_eq N_0); omega⟩

/-- The launch's left operand. -/
def A (n : Fin 8192) (d : Fin 1024) : EReal := m ((c : Thread nD τ).loc main_arg0) (ix2 n d)

/-- The launch's right operand. -/
def B (n : Fin 8192) (q : Fin 4608) : EReal := m ((c : Thread nD τ).loc main_arg1) (ix2 n q)

/-- The gradient: the product of the transposed left operand with the right one. -/
def dwArr : Vec Ideal S1024x4608 .f32 := fun y => ∑ n : Fin 8192, A m c n (y 0) * B m c n (y 1)

section
variable (t : Fin cfg0.N)

theorem left (k : Fin 2048) (d : Fin 1024) : iblk m c 0 t (ix2 k d) = A m c (row t k) (orow t d) := by
  unfold A row orow
  blk_ext [iblk, V, idx t]

theorem right (k : Fin 2048) (q : Fin 1152) : iblk m c 1 t (ix2 k q) = B m c (row t k) (ocol t q) := by
  unfold B row ocol
  blk_ext [iblk, V, idx t]

theorem first (d : Fin 1024) (q : Fin 1152) :
    k0_pay1 (F := Ideal) (iblk m c 0 t) (iblk m c 1 t) (ix2 d q) = ∑ k : Fin 2048, A m c (row t k) (orow t d) * B m c (row t k) (ocol t q) := by
  have e (a : Vec Ideal S2048x1024 .bf16) (b : Vec Ideal S2048x1152 .bf16) :
      k0_pay1 (F := Ideal) a b (ix2 d q) = ∑ k : Fin 2048, a (ix2 k d) * b (ix2 k q) := by
    unfold k0_pay1
    pointwise
  refine (e _ _).trans (Finset.sum_congr rfl fun k _ => ?_)
  rw [left, right]

theorem next (w : Vec Ideal S1024x1152 .f32) (d : Fin 1024) (q : Fin 1152) :
    k0_pay2 (F := Ideal) (iblk m c 0 t) (iblk m c 1 t) w (ix2 d q)
      = w (ix2 d q) + ∑ k : Fin 2048, A m c (row t k) (orow t d) * B m c (row t k) (ocol t q) := by
  refine Eq.trans ?_ (congrArg _ (first m c t d q))
  unfold k0_pay2
  pointwise

/-- The last step of a block's run leaves the whole sum. -/
theorem outs (y : S1024x1152.Idx) (hf : (t : ℕ) % 4 = 4 - 1) :
    outsAt0 m c t.val t.isLt y = dwArr m c (ix2 (orow t (y 0)) (ocol t (y 1))) := by
  rw [Pipeline.eq_sum_fin_of_reset_step_apply_of_flush (fun n h => outsAt0 m c n h) 4 (fun _ => 0)
    (fun t y => ∑ k : Fin 2048, A m c (row t k) (orow t (y 0)) * B m c (row t k) (ocol t (y 1)))
    (fun t h y => by
      obtain ⟨k, l, rfl⟩ : ∃ k l, y = ix2 k l := ⟨_, _, eq_ix2 y⟩
      rw [outsAt0_A m c t h (by have := lt_of_lt_of_le t.isLt (le_of_eq N_0); omega)]
      frame_out
      exact (first m c t k l).trans (zero_add _).symm)
    (fun t h y => by
      obtain ⟨k, l, rfl⟩ : ∃ k l, y = ix2 k l := ⟨_, _, eq_ix2 y⟩
      rw [outsAt0_B m c t h (by omega)]
      frame_out
      exact next m c t _ k l) t hf y]
  rw [zero_add]
  unfold dwArr
  have e := Fin.sum_univ_univ_mul_add 4 2048 (fun n => if h : n < 8192 then A m c ⟨n, h⟩ (orow t (y 0)) * B m c ⟨n, h⟩ (ocol t (y 1)) else 0)
  refine Eq.trans ?_ (e.trans ?_)
  · refine Finset.sum_congr rfl fun s _ => Finset.sum_congr rfl fun r _ => ?_
    rw [dif_pos (by omega)]
    have er : ∀ H, row ⟨4 * ((t : ℕ) / 4) + s, H⟩ r = ⟨s * 2048 + r, by omega⟩ := fun H => by
      apply Fin.ext
      show 2048 * ((4 * ((t : ℕ) / 4) + (s : ℕ)) % 4) + (r : ℕ) = s * 2048 + r
      omega
    have eo : ∀ H, orow ⟨4 * ((t : ℕ) / 4) + s, H⟩ (y 0) = orow t (y 0) := fun H => rfl
    have ec : ∀ H, ocol ⟨4 * ((t : ℕ) / 4) + s, H⟩ (y 1) = ocol t (y 1) := fun H => Fin.ext (by
      show 1152 * ((4 * ((t : ℕ) / 4) + (s : ℕ)) / 4) + (y 1 : ℕ) = 1152 * ((t : ℕ) / 4) + y 1
      omega)
    rw [er, eo, ec]
  · refine Finset.sum_congr rfl fun n _ => ?_
    rw [dif_pos n.isLt]
    rfl

end

theorem final : (dats m 0 c).arrAt 2 cfg0.N = dwArr m c := by
  refine (dats m 0 c).arrAt_eq_of_covers 2 _ (by decide +kernel) fun t hf y => ?_
  blk_simp
  rw [after0_2]
  refine (outs m c t y ((flush0_2 t).mp hf)).trans ?_
  congr 1
  unfold orow ocol
  symm
  blk_ext [idx t]

/-- The reference's run, its arguments and counters. -/
theorem frame_reference : quiescent_InDwRefIdeal := fun m g _ =>
  (θ_run (Cert.InDwRefIdeal.defs (F := Ideal)) _ _).mono
    (fun r h => ⟨fun c => (h c).2, sem_eq_zero_of_no_sems (by decide) r.2⟩)
    (Cert.InDwRefIdeal.Value.run m g)

theorem reference_eq : Cert.InDwRefIdeal.Read.val_main_v5 (F := Ideal) (m ((c : Thread nD τ).loc main_arg0)) (m ((c : Thread nD τ).loc main_arg1)) = dwArr m c := by
  funext y
  obtain ⟨k, q, rfl⟩ : ∃ k q, y = ix2 k q := ⟨_, _, eq_ix2 y⟩
  refine (Cert.InDwRefIdeal.Product.product _ _ k q).trans ?_
  exact Finset.sum_congr rfl fun n _ => mul_comm _ _

/-- The kernel's weight gradient is the reference's. -/
theorem algebraic : algebraic_InDwIdeal_InDwRefIdeal := by
  intro m g m' g' hp ha
  refine ⟨dwArr m, ?_, ?_⟩
  · exact (θ_run _ _ _).mono (fun r h c => ⟨(h c).1.trans (final m c), (h c).2⟩) (Cert.InDwIdeal.Value.run_blocks m g)
  · refine (θ_run _ _ _).mono (fun r h c => ⟨(h c).1.trans ?_, (h c).2⟩) (Cert.InDwRefIdeal.Value.run m' g')
    obtain ⟨h0, h1⟩ := ha c
    refine (Cert.InDwRefIdeal.Read.val_main_v5_eq (F := Ideal) _ _).trans ?_
    refine Eq.trans ?_ (reference_eq m c)
    exact congr (congrArg _ h0) h1

end Cert.InDwIdeal.Product
end
-- ==== Proof.Products.DownDw.lean ====
/- The claims about the weight gradient of the down projection: the sums over the row tiles are the sum over all rows. -/
module

public import proofs.«01_k».proof.Defs
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import Idealize.ShloMosaic.Lib.Pipeline.ValueKit

@[expose] public section

set_option maxRecDepth 16384

noncomputable section

namespace Cert.DownDwRefIdeal.Product

open Cert.DownDwRefIdeal Cert.DownDwRefIdeal.Gen Cert.DownDwRefIdeal.Read Idealize.ShloMosaic Idealize.ShloMosaic.TcCoe

/-- The reference's product. -/
theorem product (x0 : Vec Ideal S8192x2816 .bf16) (x1 : Vec Ideal S8192x1024 .bf16) (d : Fin 2816) (q : Fin 1024) :
    val_main_v5 (F := Ideal) x0 x1 (ix2 d q) = ∑ n : Fin 8192, x1 (ix2 n q) * x0 (ix2 n d) := by
  unfold val_main_v5 val_main_v4 val_main_v3 val_main_v1
  pointwise

end Cert.DownDwRefIdeal.Product

namespace Cert.DownDwIdeal.Product

open Cert.DownDwIdeal Cert.DownDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![(t : ℕ) % 4, (t : ℕ) / 4] ∧ win0_1.index t = ![(t : ℕ) % 4, 0] ∧ win0_2.index t = ![(t : ℕ) / 4, 0] :=
  (by decide +kernel : ∀ t : Fin grid0.N, _)

/-- The array row that row `k` of a point's blocks is. -/
def row (t : Fin cfg0.N) (k : Fin 2048) : Fin 8192 := ⟨2048 * ((t : ℕ) % 4) + k, by omega⟩

/-- The result's row that row `k` of a point's block is. -/
def orow (t : Fin cfg0.N) (k : Fin 1408) : Fin 2816 :=
  ⟨1408 * ((t : ℕ) / 4) + k, by have := lt_of_lt_of_le t.isLt (le_of_eq N_0); omega⟩

/-- The result's column that column `q` of a point's block is. -/
def ocol (t : Fin cfg0.N) (q : Fin 1024) : Fin 1024 :=
  ⟨1024 * (0) + q, by have := lt_of_lt_of_le t.isLt (le_of_eq N_0); omega⟩

/-- The launch's left operand. -/
def A (n : Fin 8192) (d : Fin 2816) : EReal := m ((c : Thread nD τ).loc main_arg0) (ix2 n d)

/-- The launch's right operand. -/
def B (n : Fin 8192) (q : Fin 1024) : EReal := m ((c : Thread nD τ).loc main_arg1) (ix2 n q)

/-- The gradient: the product of the transposed left operand with the right one. -/
def dwArr : Vec Ideal S2816x1024 .f32 := fun y => ∑ n : Fin 8192, A m c n (y 0) * B m c n (y 1)

section
variable (t : Fin cfg0.N)

theorem left (k : Fin 2048) (d : Fin 1408) : iblk m c 0 t (ix2 k d) = A m c (row t k) (orow t d) := by
  unfold A row orow
  blk_ext [iblk, V, idx t]

theorem right (k : Fin 2048) (q : Fin 1024) : iblk m c 1 t (ix2 k q) = B m c (row t k) (ocol t q) := by
  unfold B row ocol
  blk_ext [iblk, V, idx t]

theorem first (d : Fin 1408) (q : Fin 1024) :
    k0_pay1 (F := Ideal) (iblk m c 0 t) (iblk m c 1 t) (ix2 d q) = ∑ k : Fin 2048, A m c (row t k) (orow t d) * B m c (row t k) (ocol t q) := by
  have e (a : Vec Ideal S2048x1408 .bf16) (b : Vec Ideal S2048x1024 .bf16) :
      k0_pay1 (F := Ideal) a b (ix2 d q) = ∑ k : Fin 2048, a (ix2 k d) * b (ix2 k q) := by
    unfold k0_pay1
    pointwise
  refine (e _ _).trans (Finset.sum_congr rfl fun k _ => ?_)
  rw [left, right]

theorem next (w : Vec Ideal S1408x1024 .f32) (d : Fin 1408) (q : Fin 1024) :
    k0_pay2 (F := Ideal) (iblk m c 0 t) (iblk m c 1 t) w (ix2 d q)
      = w (ix2 d q) + ∑ k : Fin 2048, A m c (row t k) (orow t d) * B m c (row t k) (ocol t q) := by
  refine Eq.trans ?_ (congrArg _ (first m c t d q))
  unfold k0_pay2
  pointwise

/-- The last step of a block's run leaves the whole sum. -/
theorem outs (y : S1408x1024.Idx) (hf : (t : ℕ) % 4 = 4 - 1) :
    outsAt0 m c t.val t.isLt y = dwArr m c (ix2 (orow t (y 0)) (ocol t (y 1))) := by
  rw [Pipeline.eq_sum_fin_of_reset_step_apply_of_flush (fun n h => outsAt0 m c n h) 4 (fun _ => 0)
    (fun t y => ∑ k : Fin 2048, A m c (row t k) (orow t (y 0)) * B m c (row t k) (ocol t (y 1)))
    (fun t h y => by
      obtain ⟨k, l, rfl⟩ : ∃ k l, y = ix2 k l := ⟨_, _, eq_ix2 y⟩
      rw [outsAt0_A m c t h (by have := lt_of_lt_of_le t.isLt (le_of_eq N_0); omega)]
      frame_out
      exact (first m c t k l).trans (zero_add _).symm)
    (fun t h y => by
      obtain ⟨k, l, rfl⟩ : ∃ k l, y = ix2 k l := ⟨_, _, eq_ix2 y⟩
      rw [outsAt0_B m c t h (by omega)]
      frame_out
      exact next m c t _ k l) t hf y]
  rw [zero_add]
  unfold dwArr
  have e := Fin.sum_univ_univ_mul_add 4 2048 (fun n => if h : n < 8192 then A m c ⟨n, h⟩ (orow t (y 0)) * B m c ⟨n, h⟩ (ocol t (y 1)) else 0)
  refine Eq.trans ?_ (e.trans ?_)
  · refine Finset.sum_congr rfl fun s _ => Finset.sum_congr rfl fun r _ => ?_
    rw [dif_pos (by omega)]
    have er : ∀ H, row ⟨4 * ((t : ℕ) / 4) + s, H⟩ r = ⟨s * 2048 + r, by omega⟩ := fun H => by
      apply Fin.ext
      show 2048 * ((4 * ((t : ℕ) / 4) + (s : ℕ)) % 4) + (r : ℕ) = s * 2048 + r
      omega
    have eo : ∀ H, orow ⟨4 * ((t : ℕ) / 4) + s, H⟩ (y 0) = orow t (y 0) := fun H => Fin.ext (by
      show 1408 * ((4 * ((t : ℕ) / 4) + (s : ℕ)) / 4) + (y 0 : ℕ) = 1408 * ((t : ℕ) / 4) + y 0
      omega)
    have ec : ∀ H, ocol ⟨4 * ((t : ℕ) / 4) + s, H⟩ (y 1) = ocol t (y 1) := fun H => rfl
    rw [er, eo, ec]
  · refine Finset.sum_congr rfl fun n _ => ?_
    rw [dif_pos n.isLt]
    rfl

end

theorem final : (dats m 0 c).arrAt 2 cfg0.N = dwArr m c := by
  refine (dats m 0 c).arrAt_eq_of_covers 2 _ (by decide +kernel) fun t hf y => ?_
  blk_simp
  rw [after0_2]
  refine (outs m c t y ((flush0_2 t).mp hf)).trans ?_
  congr 1
  unfold orow ocol
  symm
  blk_ext [idx t]

/-- The reference's run, its arguments and counters. -/
theorem frame_reference : quiescent_DownDwRefIdeal := fun m g _ =>
  (θ_run (Cert.DownDwRefIdeal.defs (F := Ideal)) _ _).mono
    (fun r h => ⟨fun c => (h c).2, sem_eq_zero_of_no_sems (by decide) r.2⟩)
    (Cert.DownDwRefIdeal.Value.run m g)

theorem reference_eq : Cert.DownDwRefIdeal.Read.val_main_v5 (F := Ideal) (m ((c : Thread nD τ).loc main_arg0)) (m ((c : Thread nD τ).loc main_arg1)) = dwArr m c := by
  funext y
  obtain ⟨k, q, rfl⟩ : ∃ k q, y = ix2 k q := ⟨_, _, eq_ix2 y⟩
  refine (Cert.DownDwRefIdeal.Product.product _ _ k q).trans ?_
  exact Finset.sum_congr rfl fun n _ => mul_comm _ _

/-- The kernel's weight gradient is the reference's. -/
theorem algebraic : algebraic_DownDwIdeal_DownDwRefIdeal := by
  intro m g m' g' hp ha
  refine ⟨dwArr m, ?_, ?_⟩
  · exact (θ_run _ _ _).mono (fun r h c => ⟨(h c).1.trans (final m c), (h c).2⟩) (Cert.DownDwIdeal.Value.run_blocks m g)
  · refine (θ_run _ _ _).mono (fun r h c => ⟨(h c).1.trans ?_, (h c).2⟩) (Cert.DownDwRefIdeal.Value.run m' g')
    obtain ⟨h0, h1⟩ := ha c
    refine (Cert.DownDwRefIdeal.Read.val_main_v5_eq (F := Ideal) _ _).trans ?_
    refine Eq.trans ?_ (reference_eq m c)
    exact congr (congrArg _ h0) h1

end Cert.DownDwIdeal.Product
end
-- ==== Proof.Products.OutDw.lean ====
/- The claims about the weight gradient of the output projection: the sums over the row tiles are the sum over all rows. -/
module

public import proofs.«01_k».proof.Defs
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import Idealize.ShloMosaic.Lib.Pipeline.ValueKit

@[expose] public section

set_option maxRecDepth 16384

noncomputable section

namespace Cert.OutDwRefIdeal.Product

open Cert.OutDwRefIdeal Cert.OutDwRefIdeal.Gen Cert.OutDwRefIdeal.Read Idealize.ShloMosaic Idealize.ShloMosaic.TcCoe

/-- The reference's product. -/
theorem product (x0 : Vec Ideal S8192x1024 .bf16) (x1 : Vec Ideal S8192x1024 .bf16) (d : Fin 1024) (q : Fin 1024) :
    val_main_v5 (F := Ideal) x0 x1 (ix2 d q) = ∑ n : Fin 8192, x1 (ix2 n q) * x0 (ix2 n d) := by
  unfold val_main_v5 val_main_v4 val_main_v3 val_main_v1
  pointwise

end Cert.OutDwRefIdeal.Product

namespace Cert.OutDwIdeal.Product

open Cert.OutDwIdeal Cert.OutDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![(t : ℕ) % 4, 0] ∧ win0_1.index t = ![(t : ℕ) % 4, 0] ∧ win0_2.index t = ![0, 0] :=
  (by decide +kernel : ∀ t : Fin grid0.N, _)

/-- The array row that row `k` of a point's blocks is. -/
def row (t : Fin cfg0.N) (k : Fin 2048) : Fin 8192 := ⟨2048 * ((t : ℕ) % 4) + k, by omega⟩

/-- The result's row that row `k` of a point's block is. -/
def orow (t : Fin cfg0.N) (k : Fin 1024) : Fin 1024 :=
  ⟨1024 * (0) + k, by have := lt_of_lt_of_le t.isLt (le_of_eq N_0); omega⟩

/-- The result's column that column `q` of a point's block is. -/
def ocol (t : Fin cfg0.N) (q : Fin 1024) : Fin 1024 :=
  ⟨1024 * (0) + q, by have := lt_of_lt_of_le t.isLt (le_of_eq N_0); omega⟩

/-- The launch's left operand. -/
def A (n : Fin 8192) (d : Fin 1024) : EReal := m ((c : Thread nD τ).loc main_arg0) (ix2 n d)

/-- The launch's right operand. -/
def B (n : Fin 8192) (q : Fin 1024) : EReal := m ((c : Thread nD τ).loc main_arg1) (ix2 n q)

/-- The gradient: the product of the transposed left operand with the right one. -/
def dwArr : Vec Ideal S1024x1024 .f32 := fun y => ∑ n : Fin 8192, A m c n (y 0) * B m c n (y 1)

section
variable (t : Fin cfg0.N)

theorem left (k : Fin 2048) (d : Fin 1024) : iblk m c 0 t (ix2 k d) = A m c (row t k) (orow t d) := by
  unfold A row orow
  blk_ext [iblk, V, idx t]

theorem right (k : Fin 2048) (q : Fin 1024) : iblk m c 1 t (ix2 k q) = B m c (row t k) (ocol t q) := by
  unfold B row ocol
  blk_ext [iblk, V, idx t]

theorem first (d : Fin 1024) (q : Fin 1024) :
    k0_pay1 (F := Ideal) (iblk m c 0 t) (iblk m c 1 t) (ix2 d q) = ∑ k : Fin 2048, A m c (row t k) (orow t d) * B m c (row t k) (ocol t q) := by
  have e (a : Vec Ideal S2048x1024 .bf16) (b : Vec Ideal S2048x1024 .bf16) :
      k0_pay1 (F := Ideal) a b (ix2 d q) = ∑ k : Fin 2048, a (ix2 k d) * b (ix2 k q) := by
    unfold k0_pay1
    pointwise
  refine (e _ _).trans (Finset.sum_congr rfl fun k _ => ?_)
  rw [left, right]

theorem next (w : Vec Ideal S1024x1024 .f32) (d : Fin 1024) (q : Fin 1024) :
    k0_pay2 (F := Ideal) (iblk m c 0 t) (iblk m c 1 t) w (ix2 d q)
      = w (ix2 d q) + ∑ k : Fin 2048, A m c (row t k) (orow t d) * B m c (row t k) (ocol t q) := by
  refine Eq.trans ?_ (congrArg _ (first m c t d q))
  unfold k0_pay2
  pointwise

/-- The last step of a block's run leaves the whole sum. -/
theorem outs (y : S1024x1024.Idx) (hf : (t : ℕ) % 4 = 4 - 1) :
    outsAt0 m c t.val t.isLt y = dwArr m c (ix2 (orow t (y 0)) (ocol t (y 1))) := by
  rw [Pipeline.eq_sum_fin_of_reset_step_apply_of_flush (fun n h => outsAt0 m c n h) 4 (fun _ => 0)
    (fun t y => ∑ k : Fin 2048, A m c (row t k) (orow t (y 0)) * B m c (row t k) (ocol t (y 1)))
    (fun t h y => by
      obtain ⟨k, l, rfl⟩ : ∃ k l, y = ix2 k l := ⟨_, _, eq_ix2 y⟩
      rw [outsAt0_A m c t h (by have := lt_of_lt_of_le t.isLt (le_of_eq N_0); omega)]
      frame_out
      exact (first m c t k l).trans (zero_add _).symm)
    (fun t h y => by
      obtain ⟨k, l, rfl⟩ : ∃ k l, y = ix2 k l := ⟨_, _, eq_ix2 y⟩
      rw [outsAt0_B m c t h (by omega)]
      frame_out
      exact next m c t _ k l) t hf y]
  rw [zero_add]
  unfold dwArr
  have e := Fin.sum_univ_univ_mul_add 4 2048 (fun n => if h : n < 8192 then A m c ⟨n, h⟩ (orow t (y 0)) * B m c ⟨n, h⟩ (ocol t (y 1)) else 0)
  refine Eq.trans ?_ (e.trans ?_)
  · refine Finset.sum_congr rfl fun s _ => Finset.sum_congr rfl fun r _ => ?_
    rw [dif_pos (by omega)]
    have er : ∀ H, row ⟨4 * ((t : ℕ) / 4) + s, H⟩ r = ⟨s * 2048 + r, by omega⟩ := fun H => by
      apply Fin.ext
      show 2048 * ((4 * ((t : ℕ) / 4) + (s : ℕ)) % 4) + (r : ℕ) = s * 2048 + r
      omega
    have eo : ∀ H, orow ⟨4 * ((t : ℕ) / 4) + s, H⟩ (y 0) = orow t (y 0) := fun H => rfl
    have ec : ∀ H, ocol ⟨4 * ((t : ℕ) / 4) + s, H⟩ (y 1) = ocol t (y 1) := fun H => rfl
    rw [er, eo, ec]
  · refine Finset.sum_congr rfl fun n _ => ?_
    rw [dif_pos n.isLt]
    rfl

end

theorem final : (dats m 0 c).arrAt 2 cfg0.N = dwArr m c := by
  refine (dats m 0 c).arrAt_eq_of_covers 2 _ (by decide +kernel) fun t hf y => ?_
  blk_simp
  rw [after0_2]
  refine (outs m c t y ((flush0_2 t).mp hf)).trans ?_
  congr 1
  unfold orow ocol
  symm
  blk_ext [idx t]

/-- The reference's run, its arguments and counters. -/
theorem frame_reference : quiescent_OutDwRefIdeal := fun m g _ =>
  (θ_run (Cert.OutDwRefIdeal.defs (F := Ideal)) _ _).mono
    (fun r h => ⟨fun c => (h c).2, sem_eq_zero_of_no_sems (by decide) r.2⟩)
    (Cert.OutDwRefIdeal.Value.run m g)

theorem reference_eq : Cert.OutDwRefIdeal.Read.val_main_v5 (F := Ideal) (m ((c : Thread nD τ).loc main_arg0)) (m ((c : Thread nD τ).loc main_arg1)) = dwArr m c := by
  funext y
  obtain ⟨k, q, rfl⟩ : ∃ k q, y = ix2 k q := ⟨_, _, eq_ix2 y⟩
  refine (Cert.OutDwRefIdeal.Product.product _ _ k q).trans ?_
  exact Finset.sum_congr rfl fun n _ => mul_comm _ _

/-- The kernel's weight gradient is the reference's. -/
theorem algebraic : algebraic_OutDwIdeal_OutDwRefIdeal := by
  intro m g m' g' hp ha
  refine ⟨dwArr m, ?_, ?_⟩
  · exact (θ_run _ _ _).mono (fun r h c => ⟨(h c).1.trans (final m c), (h c).2⟩) (Cert.OutDwIdeal.Value.run_blocks m g)
  · refine (θ_run _ _ _).mono (fun r h c => ⟨(h c).1.trans ?_, (h c).2⟩) (Cert.OutDwRefIdeal.Value.run m' g')
    obtain ⟨h0, h1⟩ := ha c
    refine (Cert.OutDwRefIdeal.Read.val_main_v5_eq (F := Ideal) _ _).trans ?_
    refine Eq.trans ?_ (reference_eq m c)
    exact congr (congrArg _ h0) h1

end Cert.OutDwIdeal.Product
end
-- ==== Proof.Products.DownDx.lean ====
/- The claims about the cotangent of the down projection's input: a product whose whole contraction each grid point has. -/
module

public import proofs.«01_k».proof.Defs
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import Idealize.ShloMosaic.Lib.Pipeline.ValueKit

@[expose] public section

set_option maxRecDepth 16384

noncomputable section

namespace Cert.DownDxRefIdeal.Product

open Cert.DownDxRefIdeal Cert.DownDxRefIdeal.Gen Cert.DownDxRefIdeal.Read Idealize.ShloMosaic Idealize.ShloMosaic.TcCoe

/-- The reference's product. -/
theorem product (x0 : Vec Ideal S8192x1024 .bf16) (x1 : Vec Ideal S2816x1024 .bf16) (n : Fin 8192) (q : Fin 2816) :
    val_main_v4 (F := Ideal) x0 x1 (ix2 n q) = ∑ d : Fin 1024, x0 (ix2 n d) * x1 (ix2 q d) := by
  unfold val_main_v4 val_main_v3 val_main_v1
  pointwise

end Cert.DownDxRefIdeal.Product

namespace Cert.DownDxIdeal.Product

open Cert.DownDxIdeal Cert.DownDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![(t : ℕ) / 2, 0] ∧ win0_1.index t = ![(t : ℕ) % 2, 0] ∧ win0_2.index t = ![(t : ℕ) / 2, (t : ℕ) % 2] :=
  (by decide +kernel : ∀ t : Fin grid0.N, _)

/-- The row that row `k` of a point's blocks is. -/
def row (t : Fin cfg0.N) (k : Fin 1024) : Fin 8192 :=
  ⟨1024 * ((t : ℕ) / 2) + k, by have := lt_of_lt_of_le t.isLt (le_of_eq N_0); omega⟩

/-- The result's column that column `q` of a point's block is. -/
def col (t : Fin cfg0.N) (q : Fin 1408) : Fin 2816 := ⟨1408 * ((t : ℕ) % 2) + q, by omega⟩

/-- The launch's cotangent. -/
def A (n : Fin 8192) (d : Fin 1024) : EReal := m ((c : Thread nD τ).loc main_arg0) (ix2 n d)

/-- The launch's weights. -/
def B (q : Fin 2816) (d : Fin 1024) : EReal := m ((c : Thread nD τ).loc main_arg1) (ix2 q d)

/-- The product of the cotangent with the transposed weights. -/
def dxArr : Vec Ideal S8192x2816 .f32 := fun y => ∑ d : Fin 1024, A m c (y 0) d * B m c (y 1) d

theorem left (t : Fin cfg0.N) (k : Fin 1024) (d : Fin 1024) : iblk m c 0 t (ix2 k d) = A m c (row t k) d := by
  unfold A row
  blk_ext [iblk, V, idx t]

theorem right (t : Fin cfg0.N) (q : Fin 1408) (d : Fin 1024) : iblk m c 1 t (ix2 q d) = B m c (col t q) d := by
  unfold B col
  blk_ext [iblk, V, idx t]

theorem point (t : Fin cfg0.N) (k : Fin 1024) (q : Fin 1408) :
    k0_pay1 (F := Ideal) (iblk m c 0 t) (iblk m c 1 t) (ix2 k q) = dxArr m c (ix2 (row t k) (col t q)) := by
  have e (a : Vec Ideal S1024x1024 .bf16) (b : Vec Ideal S1408x1024 .bf16) :
      k0_pay1 (F := Ideal) a b (ix2 k q) = ∑ d : Fin 1024, a (ix2 k d) * b (ix2 q d) := by
    unfold k0_pay1
    pointwise
  refine (e _ _).trans (Finset.sum_congr rfl fun d _ => ?_)
  rw [left, right]
  rfl

theorem final : (dats m 0 c).arrAt 2 cfg0.N = dxArr m c := by
  refine (dats m 0 c).arrAt_eq_of_covers 2 _ (by decide +kernel) fun t hf y => ?_
  obtain ⟨k, q, rfl⟩ : ∃ k q, y = ix2 k q := ⟨_, _, eq_ix2 y⟩
  blk_simp
  rw [after0_2]
  frame_out
  refine (point m c t k q).trans ?_
  congr 1
  unfold row col
  symm
  blk_ext [idx t]

/-- The reference's run, its arguments and counters. -/
theorem frame_reference : quiescent_DownDxRefIdeal := fun m g _ =>
  (θ_run (Cert.DownDxRefIdeal.defs (F := Ideal)) _ _).mono
    (fun r h => ⟨fun c => (h c).2, sem_eq_zero_of_no_sems (by decide) r.2⟩)
    (Cert.DownDxRefIdeal.Value.run m g)

theorem reference_eq : Cert.DownDxRefIdeal.Read.val_main_v4 (F := Ideal) (m ((c : Thread nD τ).loc main_arg0)) (m ((c : Thread nD τ).loc main_arg1)) = dxArr m c := by
  funext y
  obtain ⟨k, q, rfl⟩ : ∃ k q, y = ix2 k q := ⟨_, _, eq_ix2 y⟩
  exact Cert.DownDxRefIdeal.Product.product _ _ k q

/-- The kernel's cotangent is the reference's. -/
theorem algebraic : algebraic_DownDxIdeal_DownDxRefIdeal := by
  intro m g m' g' hp ha
  refine ⟨dxArr m, ?_, ?_⟩
  · exact (θ_run _ _ _).mono (fun r h c => ⟨(h c).1.trans (final m c), (h c).2⟩) (Cert.DownDxIdeal.Value.run_blocks m g)
  · refine (θ_run _ _ _).mono (fun r h c => ⟨(h c).1.trans ?_, (h c).2⟩) (Cert.DownDxRefIdeal.Value.run m' g')
    obtain ⟨h0, h1⟩ := ha c
    refine (Cert.DownDxRefIdeal.Read.val_main_v4_eq (F := Ideal) _ _).trans ?_
    refine Eq.trans ?_ (reference_eq m c)
    exact congr (congrArg _ h0) h1

end Cert.DownDxIdeal.Product
end
-- ==== Proof.Products.UpDw1.lean ====
/- The claims about the second half of the up projection's weight gradient, written beside the first half: the sums over the row tiles are the sum over all rows. -/
module

public import proofs.«01_k».proof.Defs
public import proofs.«01_k».proof.Proof.Gen.UpDw1Ideal
public import proofs.«01_k».proof.Proof.Gen.UpDw1Ideal.Value
public import proofs.«01_k».proof.Proof.Gen.UpDw1RefIdeal
public import proofs.«01_k».proof.Proof.Gen.UpDw1RefIdeal.Run
public import proofs.«01_k».proof.Proof.Gen.UpDw1RefIdeal.Read
public import Idealize.ShloMosaic.Lib.Pipeline.ValueKit

@[expose] public section

set_option maxRecDepth 16384

noncomputable section

namespace Cert.UpDw1RefIdeal.Product

open Cert.UpDw1RefIdeal Cert.UpDw1RefIdeal.Gen Cert.UpDw1RefIdeal.Read Idealize.ShloMosaic Idealize.ShloMosaic.TcCoe

/-- The reference's result: the first half as given, the second half the product. -/
theorem product (x0 : Vec Ideal S8192x1024 .bf16) (x1 : Vec Ideal S2x8192x2816 .bf16) (x2 : Vec Ideal S1024x5632 .f32) (d : Fin 1024) (q : Fin 5632) :
    val_main_v9 (F := Ideal) x0 x1 x2 (ix2 d q) = if h : (q : ℕ) < 2816 then x2 (ix2 d q)
      else ∑ n : Fin 8192, x1 (ix3 1 n ⟨(q : ℕ) - 2816, by omega⟩) * x0 (ix2 n d) := by
  unfold val_main_v9 val_main_v8 val_main_v7 val_main_v6 val_main_v4 val_main_v2 val_main_v1 val_main_v0
  pointwise

end Cert.UpDw1RefIdeal.Product

namespace Cert.UpDw1Ideal.Product

open Cert.UpDw1Ideal Cert.UpDw1Ideal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![(t : ℕ) % 4, 0] ∧ win0_1.index t = ![1, (t : ℕ) % 4, (t : ℕ) / 4] ∧ win0_2.index t = ![0, (t : ℕ) / 4 + 2] :=
  (by decide +kernel : ∀ t : Fin grid0.N, _)

/-- The array row that row `k` of a point's blocks is. -/
def row (t : Fin cfg0.N) (k : Fin 2048) : Fin 8192 := ⟨2048 * ((t : ℕ) % 4) + k, by omega⟩

/-- The result's row that row `k` of a point's block is. -/
def orow (t : Fin cfg0.N) (k : Fin 1024) : Fin 1024 :=
  ⟨1024 * (0) + k, by have := lt_of_lt_of_le t.isLt (le_of_eq N_0); omega⟩

/-- The result's column that column `q` of a point's block is. -/
def ocol (t : Fin cfg0.N) (q : Fin 1408) : Fin 2816 :=
  ⟨1408 * ((t : ℕ) / 4) + q, by have := lt_of_lt_of_le t.isLt (le_of_eq N_0); omega⟩

/-- The launch's left operand. -/
def A (n : Fin 8192) (d : Fin 1024) : EReal := m ((c : Thread nD τ).loc main_arg0) (ix2 n d)

/-- The launch's right operand. -/
def B (n : Fin 8192) (q : Fin 2816) : EReal := m ((c : Thread nD τ).loc main_arg1) (ix3 1 n q)

/-- The half's gradient: the product of the transposed left operand with the right one. -/
def half (d : Fin 1024) (q : Fin 2816) : EReal := ∑ n : Fin 8192, A m c n d * B m c n q

/-- The result: the first half as given, the second half the gradient. -/
def dwArr : Vec Ideal S1024x5632 .f32 := fun y =>
  if h : (y 1 : Fin 5632).val < 2816 then m ((c : Thread nD τ).loc main_arg2) y
  else half m c (y 0) ⟨(y 1 : Fin 5632).val - 2816, by
    have h' : (y 1 : Fin 5632).val < 5632 := (y 1 : Fin 5632).isLt
    exact (by omega : (y 1 : Fin 5632).val - 2816 < 2816)⟩

section
variable (t : Fin cfg0.N)

theorem left (k : Fin 2048) (d : Fin 1024) : iblk m c 0 t (ix2 k d) = A m c (row t k) (orow t d) := by
  unfold A row orow
  blk_ext [iblk, V, idx t]

theorem right (k : Fin 2048) (q : Fin 1408) : iblk m c 1 t (ix3 0 k q) = B m c (row t k) (ocol t q) := by
  unfold B row ocol
  blk_ext [iblk, V, idx t]

theorem first (d : Fin 1024) (q : Fin 1408) :
    k0_pay1 (F := Ideal) (iblk m c 0 t) (iblk m c 1 t) (ix2 d q) = ∑ k : Fin 2048, A m c (row t k) (orow t d) * B m c (row t k) (ocol t q) := by
  have e (a : Vec Ideal S2048x1024 .bf16) (b : Vec Ideal S1x2048x1408 .bf16) :
      k0_pay1 (F := Ideal) a b (ix2 d q) = ∑ k : Fin 2048, a (ix2 k d) * b (ix3 0 k q) := by
    unfold k0_pay1
    pointwise
  refine (e _ _).trans (Finset.sum_congr rfl fun k _ => ?_)
  rw [left, right]

theorem next (w : Vec Ideal S1024x1408 .f32) (d : Fin 1024) (q : Fin 1408) :
    k0_pay2 (F := Ideal) (iblk m c 0 t) (iblk m c 1 t) w (ix2 d q)
      = w (ix2 d q) + ∑ k : Fin 2048, A m c (row t k) (orow t d) * B m c (row t k) (ocol t q) := by
  refine Eq.trans ?_ (congrArg _ (first m c t d q))
  unfold k0_pay2
  pointwise

/-- The last step of a block's run leaves the whole sum. -/
theorem outs (y : S1024x1408.Idx) (hf : (t : ℕ) % 4 = 4 - 1) :
    outsAt0 m c t.val t.isLt y = half m c (orow t (y 0)) (ocol t (y 1)) := by
  rw [Pipeline.eq_sum_fin_of_reset_step_apply_of_flush (fun n h => outsAt0 m c n h) 4 (fun _ => 0)
    (fun t y => ∑ k : Fin 2048, A m c (row t k) (orow t (y 0)) * B m c (row t k) (ocol t (y 1)))
    (fun t h y => by
      obtain ⟨k, l, rfl⟩ : ∃ k l, y = ix2 k l := ⟨_, _, eq_ix2 y⟩
      rw [outsAt0_A m c t h (by have := lt_of_lt_of_le t.isLt (le_of_eq N_0); omega)]
      frame_out
      exact (first m c t k l).trans (zero_add _).symm)
    (fun t h y => by
      obtain ⟨k, l, rfl⟩ : ∃ k l, y = ix2 k l := ⟨_, _, eq_ix2 y⟩
      rw [outsAt0_B m c t h (by omega)]
      frame_out
      exact next m c t _ k l) t hf y]
  rw [zero_add]
  unfold half
  have e := Fin.sum_univ_univ_mul_add 4 2048 (fun n => if h : n < 8192 then A m c ⟨n, h⟩ (orow t (y 0)) * B m c ⟨n, h⟩ (ocol t (y 1)) else 0)
  refine Eq.trans ?_ (e.trans ?_)
  · refine Finset.sum_congr rfl fun s _ => Finset.sum_congr rfl fun r _ => ?_
    rw [dif_pos (by omega)]
    have er : ∀ H, row ⟨4 * ((t : ℕ) / 4) + s, H⟩ r = ⟨s * 2048 + r, by omega⟩ := fun H => by
      apply Fin.ext
      show 2048 * ((4 * ((t : ℕ) / 4) + (s : ℕ)) % 4) + (r : ℕ) = s * 2048 + r
      omega
    have eo : ∀ H, orow ⟨4 * ((t : ℕ) / 4) + s, H⟩ (y 0) = orow t (y 0) := fun H => rfl
    have ec : ∀ H, ocol ⟨4 * ((t : ℕ) / 4) + s, H⟩ (y 1) = ocol t (y 1) := fun H => Fin.ext (by
      show 1408 * ((4 * ((t : ℕ) / 4) + (s : ℕ)) / 4) + (y 1 : ℕ) = 1408 * ((t : ℕ) / 4) + y 1
      omega)
    rw [er, eo, ec]
  · refine Finset.sum_congr rfl fun n _ => ?_
    rw [dif_pos n.isLt]

end

theorem entry (i : S1024x5632.Idx) : V m c main_v0 i = m ((c : Thread nD τ).loc main_arg2) i := by
  unfold V
  after_results
  rfl

theorem final : (dats m 0 c).arrAt 2 cfg0.N = dwArr m c := by
  have e : (dats m 0 c).arrAt 2 cfg0.N = fun i : S1024x5632.Idx => if 2 ≤ ((i 1 : Fin _) : ℕ) / 1408 then dwArr m c i else V m c main_v0 i := by
    refine (dats m 0 c).arrAt_eq_of_coversWhere 2 _ (fun β => 2 ≤ β (1 : Fin 2)) (by decide +kernel) (fun t hf y => ?_) (fun j => Iff.rfl)
    obtain ⟨k, l, rfl⟩ : ∃ (k : Fin 1024) (l : Fin 1408), y = ix2 k l := ⟨_, _, eq_ix2 y⟩
    blk_simp
    rw [after0_2]
    refine (outs m c t (ix2 k l) ((flush0_2 t).mp hf)).trans ?_
    have ee : (win0_2.blk t).view.emb (ix2 k l) = ix2 (orow t k) ⟨1408 * ((t : ℕ) / 4 + 2) + l, by
        have := lt_of_lt_of_le t.isLt (le_of_eq N_0)
        omega⟩ := by
      unfold orow
      blk_ext [idx t]
    rw [ee]
    unfold dwArr
    refine Eq.trans ?_ (dif_neg (show ¬ 1408 * ((t : ℕ) / 4 + 2) + (l : ℕ) < 2816 by omega)).symm
    refine congrArg (half m c (orow t k)) (Fin.ext ?_)
    show 1408 * ((t : ℕ) / 4) + (l : ℕ) = 1408 * ((t : ℕ) / 4 + 2) + (l : ℕ) - 2816
    omega
  rw [e]
  funext i
  dsimp only
  split
  · rfl
  · rw [entry]
    rename_i h
    unfold dwArr
    rw [dif_pos (show (i 1 : Fin 5632).val < 2816 by omega)]

/-- The reference's run, its arguments and counters. -/
theorem frame_reference : quiescent_UpDw1RefIdeal := fun m g _ =>
  (θ_run (Cert.UpDw1RefIdeal.defs (F := Ideal)) _ _).mono
    (fun r h => ⟨fun c => (h c).2, sem_eq_zero_of_no_sems (by decide) r.2⟩)
    (Cert.UpDw1RefIdeal.Value.run m g)

theorem reference_eq : Cert.UpDw1RefIdeal.Read.val_main_v9 (F := Ideal) (m ((c : Thread nD τ).loc main_arg0)) (m ((c : Thread nD τ).loc main_arg1))
    (m ((c : Thread nD τ).loc main_arg2)) = dwArr m c := by
  funext y
  obtain ⟨k, q, rfl⟩ : ∃ k q, y = ix2 k q := ⟨_, _, eq_ix2 y⟩
  refine (Cert.UpDw1RefIdeal.Product.product _ _ _ k q).trans ?_
  unfold dwArr half
  refine congr (congrArg _ rfl) (funext fun h => ?_)
  exact Finset.sum_congr rfl fun n _ => mul_comm _ _

/-- The kernel's weight gradient is the reference's. -/
theorem algebraic : algebraic_UpDw1Ideal_UpDw1RefIdeal := by
  intro m g m' g' hp ha
  refine ⟨dwArr m, ?_, ?_⟩
  · exact (θ_run _ _ _).mono (fun r h c => ⟨(h c).1.trans (final m c), (h c).2⟩) (Cert.UpDw1Ideal.Value.run_blocks m g)
  · refine (θ_run _ _ _).mono (fun r h c => ⟨(h c).1.trans ?_, (h c).2⟩) (Cert.UpDw1RefIdeal.Value.run m' g')
    obtain ⟨h0, h1, h2⟩ := ha c
    refine (Cert.UpDw1RefIdeal.Read.val_main_v9_eq (F := Ideal) _ _ _).trans ?_
    refine Eq.trans ?_ (reference_eq m c)
    exact congr (congr (congrArg _ h0) h1) h2

end Cert.UpDw1Ideal.Product
end
-- ==== Proof.Products.UpDw0.lean ====
/- The claims about the first half of the up projection's weight gradient, the columns taken from the array it is written to: the sums over the row tiles are the sum over all rows. -/
module

public import proofs.«01_k».proof.Defs
public import proofs.«01_k».proof.Proof.Gen.UpDw0Ideal
public import proofs.«01_k».proof.Proof.Gen.UpDw0Ideal.Frame
public import proofs.«01_k».proof.Proof.Gen.UpDw0RefIdeal
public import proofs.«01_k».proof.Proof.Gen.UpDw0RefIdeal.Run
public import proofs.«01_k».proof.Proof.Gen.UpDw0RefIdeal.Read
public import Idealize.ShloMosaic.Lib.Pipeline.ValueKit

@[expose] public section

set_option maxRecDepth 16384

noncomputable section

namespace Cert.UpDw0RefIdeal.Product

open Cert.UpDw0RefIdeal Cert.UpDw0RefIdeal.Gen Cert.UpDw0RefIdeal.Read Idealize.ShloMosaic Idealize.ShloMosaic.TcCoe

/-- The reference's product. -/
theorem product (x0 : Vec Ideal S8192x1024 .bf16) (x1 : Vec Ideal S2x8192x2816 .bf16) (d : Fin 1024) (q : Fin 2816) :
    val_main_v7 (F := Ideal) x0 x1 (ix2 d q) = ∑ n : Fin 8192, x1 (ix3 0 n q) * x0 (ix2 n d) := by
  unfold val_main_v7 val_main_v6 val_main_v5 val_main_v3 val_main_v1 val_main_v0
  pointwise

end Cert.UpDw0RefIdeal.Product

namespace Cert.UpDw0Ideal.Product

open Cert.UpDw0Ideal Cert.UpDw0Ideal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![(t : ℕ) % 4, 0] ∧ win0_1.index t = ![0, (t : ℕ) % 4, (t : ℕ) / 4] ∧ win0_2.index t = ![0, (t : ℕ) / 4] :=
  (by decide +kernel : ∀ t : Fin grid0.N, _)

/-- The array row that row `k` of a point's blocks is. -/
def row (t : Fin cfg0.N) (k : Fin 2048) : Fin 8192 := ⟨2048 * ((t : ℕ) % 4) + k, by omega⟩

/-- The result's row that row `k` of a point's block is. -/
def orow (t : Fin cfg0.N) (k : Fin 1024) : Fin 1024 :=
  ⟨1024 * (0) + k, by have := lt_of_lt_of_le t.isLt (le_of_eq N_0); omega⟩

/-- The result's column that column `q` of a point's block is. -/
def ocol (t : Fin cfg0.N) (q : Fin 1408) : Fin 2816 :=
  ⟨1408 * ((t : ℕ) / 4) + q, by have := lt_of_lt_of_le t.isLt (le_of_eq N_0); omega⟩

/-- The launch's left operand. -/
def A (n : Fin 8192) (d : Fin 1024) : EReal := m ((c : Thread nD τ).loc main_arg0) (ix2 n d)

/-- The launch's right operand. -/
def B (n : Fin 8192) (q : Fin 2816) : EReal := m ((c : Thread nD τ).loc main_arg1) (ix3 0 n q)

/-- The half's gradient: the product of the transposed left operand with the right one. -/
def half (d : Fin 1024) (q : Fin 2816) : EReal := ∑ n : Fin 8192, A m c n d * B m c n q

/-- The result: the half's gradient. -/
def dwArr : Vec Ideal S1024x2816 .f32 := fun y => half m c (y 0) (y 1)

section
variable (t : Fin cfg0.N)

theorem left (k : Fin 2048) (d : Fin 1024) : iblk m c 0 t (ix2 k d) = A m c (row t k) (orow t d) := by
  unfold A row orow
  blk_ext [iblk, V, idx t]

theorem right (k : Fin 2048) (q : Fin 1408) : iblk m c 1 t (ix3 0 k q) = B m c (row t k) (ocol t q) := by
  unfold B row ocol
  blk_ext [iblk, V, idx t]

theorem first (d : Fin 1024) (q : Fin 1408) :
    k0_pay1 (F := Ideal) (iblk m c 0 t) (iblk m c 1 t) (ix2 d q) = ∑ k : Fin 2048, A m c (row t k) (orow t d) * B m c (row t k) (ocol t q) := by
  have e (a : Vec Ideal S2048x1024 .bf16) (b : Vec Ideal S1x2048x1408 .bf16) :
      k0_pay1 (F := Ideal) a b (ix2 d q) = ∑ k : Fin 2048, a (ix2 k d) * b (ix3 0 k q) := by
    unfold k0_pay1
    pointwise
  refine (e _ _).trans (Finset.sum_congr rfl fun k _ => ?_)
  rw [left, right]

theorem next (w : Vec Ideal S1024x1408 .f32) (d : Fin 1024) (q : Fin 1408) :
    k0_pay2 (F := Ideal) (iblk m c 0 t) (iblk m c 1 t) w (ix2 d q)
      = w (ix2 d q) + ∑ k : Fin 2048, A m c (row t k) (orow t d) * B m c (row t k) (ocol t q) := by
  refine Eq.trans ?_ (congrArg _ (first m c t d q))
  unfold k0_pay2
  pointwise

/-- The last step of a block's run leaves the whole sum. -/
theorem outs (y : S1024x1408.Idx) (hf : (t : ℕ) % 4 = 4 - 1) :
    outsAt0 m c t.val t.isLt y = half m c (orow t (y 0)) (ocol t (y 1)) := by
  rw [Pipeline.eq_sum_fin_of_reset_step_apply_of_flush (fun n h => outsAt0 m c n h) 4 (fun _ => 0)
    (fun t y => ∑ k : Fin 2048, A m c (row t k) (orow t (y 0)) * B m c (row t k) (ocol t (y 1)))
    (fun t h y => by
      obtain ⟨k, l, rfl⟩ : ∃ k l, y = ix2 k l := ⟨_, _, eq_ix2 y⟩
      rw [outsAt0_A m c t h (by have := lt_of_lt_of_le t.isLt (le_of_eq N_0); omega)]
      frame_out
      exact (first m c t k l).trans (zero_add _).symm)
    (fun t h y => by
      obtain ⟨k, l, rfl⟩ : ∃ k l, y = ix2 k l := ⟨_, _, eq_ix2 y⟩
      rw [outsAt0_B m c t h (by omega)]
      frame_out
      exact next m c t _ k l) t hf y]
  rw [zero_add]
  unfold half
  have e := Fin.sum_univ_univ_mul_add 4 2048 (fun n => if h : n < 8192 then A m c ⟨n, h⟩ (orow t (y 0)) * B m c ⟨n, h⟩ (ocol t (y 1)) else 0)
  refine Eq.trans ?_ (e.trans ?_)
  · refine Finset.sum_congr rfl fun s _ => Finset.sum_congr rfl fun r _ => ?_
    rw [dif_pos (by omega)]
    have er : ∀ H, row ⟨4 * ((t : ℕ) / 4) + s, H⟩ r = ⟨s * 2048 + r, by omega⟩ := fun H => by
      apply Fin.ext
      show 2048 * ((4 * ((t : ℕ) / 4) + (s : ℕ)) % 4) + (r : ℕ) = s * 2048 + r
      omega
    have eo : ∀ H, orow ⟨4 * ((t : ℕ) / 4) + s, H⟩ (y 0) = orow t (y 0) := fun H => rfl
    have ec : ∀ H, ocol ⟨4 * ((t : ℕ) / 4) + s, H⟩ (y 1) = ocol t (y 1) := fun H => Fin.ext (by
      show 1408 * ((4 * ((t : ℕ) / 4) + (s : ℕ)) / 4) + (y 1 : ℕ) = 1408 * ((t : ℕ) / 4) + y 1
      omega)
    rw [er, eo, ec]
  · refine Finset.sum_congr rfl fun n _ => ?_
    rw [dif_pos n.isLt]

end

/-- The half's gradient, in the array the product writes. -/
def wide : Vec Ideal S1024x5632 .f32 := fun i => half m c (i 0) ⟨((i 1 : Fin 5632) : ℕ) % 2816, Nat.mod_lt _ (by norm_num)⟩

/-- The columns that the product writes hold the half's gradient. -/
theorem written (d : Fin 1024) (q : Fin 2816) : (dats m 0 c).arrAt 2 cfg0.N (ix2 d (⟨q, by omega⟩ : Fin 5632)) = half m c d q := by
  have e : (dats m 0 c).arrAt 2 cfg0.N = fun i : S1024x5632.Idx => if ((i 1 : Fin _) : ℕ) / 1408 < 2 then
      wide m c i else V m c main_v0 i := by
    refine (dats m 0 c).arrAt_eq_of_coversWhere 2 _ (fun β => β (1 : Fin 2) < 2) (by decide +kernel) (fun t hf y => ?_) (fun j => Iff.rfl)
    obtain ⟨k, l, rfl⟩ : ∃ (k : Fin 1024) (l : Fin 1408), y = ix2 k l := ⟨_, _, eq_ix2 y⟩
    blk_simp
    rw [after0_2]
    refine (outs m c t (ix2 k l) ((flush0_2 t).mp hf)).trans ?_
    have ht := lt_of_lt_of_le t.isLt (le_of_eq N_0)
    have ee : (win0_2.blk t).view.emb (ix2 k l) = ix2 (orow t k) ⟨1408 * ((t : ℕ) / 4) + l, by omega⟩ := by
      unfold orow
      blk_ext [idx t]
    rw [ee]
    refine congrArg (half m c (orow t k)) (Fin.ext ?_)
    show 1408 * ((t : ℕ) / 4) + (l : ℕ) = (1408 * ((t : ℕ) / 4) + (l : ℕ)) % 2816
    omega
  rw [e]
  refine (if_pos (show (q : ℕ) / 1408 < 2 by omega)).trans (congrArg (half m c d) (Fin.ext ?_))
  show (q : ℕ) % 2816 = q
  omega

/-- What the run leaves in its result: the written columns. -/
theorem final : Pipeline.afterTail₀ cfgs (dats m) 0 (V0 m) [hostOps1] c main_v1 = dwArr m c := by
  have e : Pipeline.afterTail₀ cfgs (dats m) 0 (V0 m) [hostOps1] c main_v1
      = extractStridedSlice S1024x2816 ![0, 0] ((dats m 0 c).arrAt 2 cfg0.N) slices_S1024x5632_S1024x2816_0_0 := by
    unfold Pipeline.afterTail₀
    simp only [List.flatten_cons, List.flatten_nil, List.append_nil]
    after_results
    exact congrArg (extractStridedSlice S1024x2816 ![0, 0] · slices_S1024x5632_S1024x2816_0_0)
      (Pipeline.withArrays_arr spec0 launch0.win.arr_inj c (V0 m c) (fun w => (dats m 0 c).arrAt w cfg0.N) 2)
  rw [e]
  funext y
  obtain ⟨k, q, rfl⟩ : ∃ k q, y = ix2 k q := ⟨_, _, eq_ix2 y⟩
  refine Eq.trans ?_ (written m c k q)
  pointwise

/-- The reference's run, its arguments and counters. -/
theorem frame_reference : quiescent_UpDw0RefIdeal := fun m g _ =>
  (θ_run (Cert.UpDw0RefIdeal.defs (F := Ideal)) _ _).mono
    (fun r h => ⟨fun c => (h c).2, sem_eq_zero_of_no_sems (by decide) r.2⟩)
    (Cert.UpDw0RefIdeal.Value.run m g)

theorem reference_eq : Cert.UpDw0RefIdeal.Read.val_main_v7 (F := Ideal) (m ((c : Thread nD τ).loc main_arg0)) (m ((c : Thread nD τ).loc main_arg1)) = dwArr m c := by
  funext y
  obtain ⟨k, q, rfl⟩ : ∃ k q, y = ix2 k q := ⟨_, _, eq_ix2 y⟩
  refine (Cert.UpDw0RefIdeal.Product.product _ _ k q).trans ?_
  exact Finset.sum_congr rfl fun n _ => mul_comm _ _

/-- The kernel's weight gradient is the reference's. -/
theorem algebraic : algebraic_UpDw0Ideal_UpDw0RefIdeal := by
  intro m g m' g' hp ha
  refine ⟨dwArr m, ?_, ?_⟩
  · refine (θ_run _ _ _).mono (fun r h c => ?_) (θ_run_and (run_main m g) (unchanged m g))
    exact ⟨((h.1 c).2 main_v1 (Pipeline.mem_restRefs_of main_v1 (by decide) (by decide))).trans (final m c), h.2 c⟩
  · refine (θ_run _ _ _).mono (fun r h c => ⟨(h c).1.trans ?_, (h c).2⟩) (Cert.UpDw0RefIdeal.Value.run m' g')
    obtain ⟨h0, h1⟩ := ha c
    refine (Cert.UpDw0RefIdeal.Read.val_main_v7_eq (F := Ideal) _ _).trans ?_
    refine Eq.trans ?_ (reference_eq m c)
    exact congr (congrArg _ h0) h1

end Cert.UpDw0Ideal.Product
end
-- ==== Proof.Project.InProjValue.lean ====
/- The claims about the projection out of a norm (`l0_in_proj`): the normed rows and their product with the weights. -/
module

public import proofs.«01_k».proof.Defs
public import proofs.«01_k».proof.Proof.Gen.InProjIdeal
public import proofs.«01_k».proof.Proof.Project.InProjIdeal
public import proofs.«01_k».proof.Proof.Gen.InProjRefIdeal
public import proofs.«01_k».proof.Proof.Gen.InProjRefIdeal.Run
public import proofs.«01_k».proof.Proof.Gen.InProjRefIdeal.Read
public import proofs.«01_k».proof.Proof.Norm.Math
public import Idealize.ShloMosaic.Lib.Pipeline.ValueKit

@[expose] public section

set_option maxRecDepth 16384

noncomputable section

namespace Cert.InProjRefIdeal.Norm

open Cert.InProjRefIdeal Cert.InProjRefIdeal.Gen Cert.InProjRefIdeal.Read Idealize.ShloMosaic Idealize.ShloMosaic.TcCoe Cert.Norm

variable (x0 : Vec Ideal S8192x1024 .f32) (x1 : Vec Ideal S1024 .f32) (x2 : Vec Ideal S4x1024x1152 .bf16)

/-- Row `n` of the rows, normed. -/
def normed (n : Fin 8192) (d : Fin 1024) : EReal := x0 (ix2 n d) * invRms (fun i => x0 (ix2 n i)) * x1 (ix1 d)

/-- The weights, the four shards' columns side by side. -/
def weight (d : Fin 1024) (q : Fin 4608) : EReal := x2 (ix3 ⟨(q : ℕ) / 1152, by omega⟩ d ⟨(q : ℕ) % 1152, by omega⟩)

theorem rows (n : Fin 8192) (q : Fin 1024) : val_main_v12 (F := Ideal) x0 x1 (ix2 n q) = normed x0 x1 n q := by
  unfold val_main_v12 val_main_v11 val_main_v10 val_main_v9 val_main_v8 val_main_v7 val_main_v6 val_main_v5 val_main_v4 val_main_v3
    val_main_v2 val_main_v1 val_main_v0 val_main_cst val_main_cst_0 val_main_cst_1 normed
  pointwise
  rfl

theorem shards (d : Fin 1024) (q : Fin 4608) : val_main_v21 (F := Ideal) x2 (ix2 d q) =
    if h : (q : ℕ) < 1152 then x2 (ix3 0 d ⟨q, h⟩)
    else if h : (q : ℕ) - 1152 < 1152 then x2 (ix3 1 d ⟨(q : ℕ) - 1152, h⟩)
    else if h : (q : ℕ) - 1152 - 1152 < 1152 then x2 (ix3 2 d ⟨(q : ℕ) - 1152 - 1152, h⟩)
    else x2 (ix3 3 d ⟨(q : ℕ) - 1152 - 1152 - 1152, by omega⟩) := by
  unfold val_main_v21 val_main_v20 val_main_v19 val_main_v18 val_main_v17 val_main_v16 val_main_v15 val_main_v14 val_main_v13
  pointwise

theorem weights (d : Fin 1024) (q : Fin 4608) : val_main_v21 (F := Ideal) x2 (ix2 d q) = weight x2 d q := by
  rw [shards]
  unfold weight
  split_ifs with h0 h1 h2 <;> refine congrArg x2 ?_ <;> refine congr (congr (congrArg _ (Fin.ext ?_)) rfl) (Fin.ext ?_)
  · show 0 = (q : ℕ) / 1152; omega
  · show (q : ℕ) = (q : ℕ) % 1152; omega
  · show 1 = (q : ℕ) / 1152; omega
  · show (q : ℕ) - 1152 = (q : ℕ) % 1152; omega
  · show 2 = (q : ℕ) / 1152; omega
  · show (q : ℕ) - 1152 - 1152 = (q : ℕ) % 1152; omega
  · show 3 = (q : ℕ) / 1152; omega
  · show (q : ℕ) - 1152 - 1152 - 1152 = (q : ℕ) % 1152; omega

theorem product (n : Fin 8192) (q : Fin 4608) : val_main_v24 (F := Ideal) x0 x1 x2 (ix2 n q) = ∑ d : Fin 1024, normed x0 x1 n d * weight x2 d q := by
  have e : val_main_v24 (F := Ideal) x0 x1 x2 (ix2 n q)
      = ∑ d : Fin 1024, val_main_v12 (F := Ideal) x0 x1 (ix2 n d) * val_main_v21 (F := Ideal) x2 (ix2 d q) := by
    unfold val_main_v24 val_main_v23 val_main_v22
    pointwise
  rw [e]
  exact Finset.sum_congr rfl fun d _ => by rw [rows, weights]

end Cert.InProjRefIdeal.Norm

namespace Cert.InProjIdeal.Whole

open Cert.InProjIdeal Cert.InProjIdeal.Gen Idealize.ShloMosaic Idealize.ShloMosaic.TcCoe Idealize.SL.Sem Cert.Norm
open Cert.InProjRefIdeal.Norm (normed weight)

variable (m : (ℓ : Loc nD τ sig) → Buf (Elt Ideal) ℓ) (c : Dev nD)

theorem idx : ∀ t : Fin cfg0.N, win0_0.index t = ![(t : ℕ) / 4, 0] ∧ win0_1.index t = ![0, 0] ∧ win0_2.index t = ![(t : ℕ) % 4, 0, 0] ∧
    win0_3.index t = ![(t : ℕ) / 4, (t : ℕ) % 4] ∧ win0_4.index t = ![(t : ℕ) / 4, 0] :=
  (by decide +kernel : ∀ t : Fin grid0.N, _)

/-- The row that row `k` of a point's blocks is. -/
def row (t : Fin cfg0.N) (k : Fin 1024) : Fin 8192 :=
  ⟨1024 * ((t : ℕ) / 4) + k, by have := lt_of_lt_of_le t.isLt (le_of_eq N_0); omega⟩

/-- The column that column `q` of a point's product is. -/
def col (t : Fin cfg0.N) (q : Fin 1152) : Fin 4608 := ⟨1152 * ((t : ℕ) % 4) + q, by omega⟩

/-- The launch's rows, gain and weights. -/
abbrev X : Vec Ideal S8192x1024 .f32 := m ((c : Thread nD τ).loc main_arg0)
abbrev G : Vec Ideal S1024 .f32 := m ((c : Thread nD τ).loc main_arg1)
abbrev B : Vec Ideal S4x1024x1152 .bf16 := m ((c : Thread nD τ).loc main_arg2)

/-- The normed rows, and their product. -/
def hArr : Vec Ideal S8192x1024 .bf16 := fun y => normed (X m c) (G m c) (y 0) (y 1)
def zArr : Vec Ideal S8192x4608 .bf16 := fun y => ∑ d : Fin 1024, normed (X m c) (G m c) (y 0) d * weight (B m c) d (y 1)

theorem left (t : Fin cfg0.N) (k d : Fin 1024) : iblk m c 0 t (ix2 k d) = X m c (ix2 (row t k) d) := by
  unfold row
  blk_ext [iblk, V, idx t]

theorem gain (t : Fin cfg0.N) (d : Fin 1024) : iblk m c 1 t (ix2 0 d) = G m c (ix1 d) := by
  blk_point [iblk, V, idx t]

theorem right (t : Fin cfg0.N) (d : Fin 1024) (q : Fin 1152) : iblk m c 2 t (ix3 0 d q) = weight (B m c) d (col t q) := by
  have e : iblk m c 2 t (ix3 0 d q) = B m c (ix3 ⟨(t : ℕ) % 4, by omega⟩ d q) := by
    blk_ext [iblk, V, idx t]
  rw [e]
  unfold weight col
  refine congrArg (B m c) ?_
  refine congr (congr (congrArg _ (Fin.ext ?_)) rfl) (Fin.ext ?_)
  · show (t : ℕ) % 4 = (1152 * ((t : ℕ) % 4) + q) / 1152; omega
  · show (q : ℕ) = (1152 * ((t : ℕ) % 4) + q) % 1152; omega

theorem row_start (t : Fin cfg0.N) (k : Fin 1024) : row (start t) k = row t k :=
  Fin.ext (by show 1024 * ((t : ℕ) / 4 * 4 / 4) + (k : ℕ) = 1024 * ((t : ℕ) / 4) + k; omega)

theorem rows_apply (t : Fin cfg0.N) (k d : Fin 1024) : rows m c t (ix2 k d) = normed (X m c) (G m c) (row t k) d := by
  have e (a : Vec Ideal S1024x1024 .f32) (b : Vec Ideal S1x1024 .f32) :
      k0_pay1 (F := Ideal) a b (ix2 k d) = a (ix2 k d) * invRms (fun i => a (ix2 k i)) * b (ix2 0 d) := by
    unfold k0_pay1
    pointwise
    rfl
  unfold rows
  refine (e _ _).trans ?_
  simp only [left, gain, row_start]
  rfl

theorem prod_apply (t : Fin cfg0.N) (k : Fin 1024) (q : Fin 1152) :
    prod m c t (ix2 k q) = ∑ d : Fin 1024, normed (X m c) (G m c) (row t k) d * weight (B m c) d (col t q) := by
  have e (a : Vec Ideal S1024x1024 .bf16) (b : Vec Ideal S1x1024x1152 .bf16) :
      k0_pay2 (F := Ideal) a b (ix2 k q) = ∑ d : Fin 1024, a (ix2 k d) * b (ix3 0 d q) := by
    unfold k0_pay2
    pointwise
  unfold prod
  refine (e _ _).trans (Finset.sum_congr rfl fun d _ => ?_)
  rw [rows_apply, right]

theorem final3 : (dats m 0 c).arrAt 3 cfg0.N = zArr m c := by
  refine (dats m 0 c).arrAt_eq_of_covers 3 _ (by decide +kernel) fun t hf y => ?_
  obtain ⟨k, q, rfl⟩ : ∃ k q, y = ix2 k q := ⟨_, _, eq_ix2 y⟩
  blk_simp
  rw [after3]
  refine (prod_apply m c t k q).trans (Eq.trans (b := zArr m c (ix2 (row t k) (col t q))) rfl ?_)
  congr 1
  unfold row col
  symm
  blk_ext [idx t]

theorem final4 : (dats m 0 c).arrAt 4 cfg0.N = hArr m c := by
  refine (dats m 0 c).arrAt_eq_of_covers 4 _ (by decide +kernel) fun t hf y => ?_
  obtain ⟨k, q, rfl⟩ : ∃ k q, y = ix2 k q := ⟨_, _, eq_ix2 y⟩
  blk_simp
  rw [after4]
  refine (rows_apply m c t k q).trans (Eq.trans (b := hArr m c (ix2 (row t k) q)) rfl ?_)
  congr 1
  unfold row
  symm
  blk_ext [idx t]

/-- The reference's run, its arguments and counters. -/
theorem frame_reference : quiescent_InProjRefIdeal := fun m g _ =>
  (θ_run (Cert.InProjRefIdeal.defs (F := Ideal)) _ _).mono
    (fun r h => ⟨fun c => (h c).2.2, sem_eq_zero_of_no_sems (by decide) r.2⟩)
    (Cert.InProjRefIdeal.Value.run m g)

theorem reference_z : Cert.InProjRefIdeal.Read.val_main_v24 (F := Ideal) (X m c) (G m c) (B m c) = zArr m c := by
  funext y
  obtain ⟨k, q, rfl⟩ : ∃ k q, y = ix2 k q := ⟨_, _, eq_ix2 y⟩
  exact Cert.InProjRefIdeal.Norm.product _ _ _ k q

theorem reference_h : Cert.InProjRefIdeal.Read.val_main_v25 (F := Ideal) (X m c) (G m c) = hArr m c := by
  funext y
  obtain ⟨k, q, rfl⟩ : ∃ k q, y = ix2 k q := ⟨_, _, eq_ix2 y⟩
  exact Cert.InProjRefIdeal.Norm.rows _ _ k q

/-- The kernel's two results are the reference's. -/
theorem algebraic : algebraic_InProjIdeal_InProjRefIdeal := by
  intro m g m' g' hp ha
  refine ⟨zArr m, hArr m, ?_, ?_⟩
  · refine (θ_run _ _ _).mono (fun r h c => ?_) (θ_run_and (run_main m g) (unchanged m g))
    exact ⟨((h.1 c).1 3).trans (final3 m c), ((h.1 c).1 4).trans (final4 m c), h.2 c⟩
  · refine (θ_run _ _ _).mono (fun r h c => ?_) (Cert.InProjRefIdeal.Value.run m' g')
    obtain ⟨h0, h1, h2⟩ := ha c
    refine ⟨(h c).1.trans ?_, (h c).2.1.trans ?_, (h c).2.2⟩
    · refine (Cert.InProjRefIdeal.Read.val_main_v24_eq (F := Ideal) _ _ _).trans ?_
      refine Eq.trans ?_ (reference_z m c)
      exact congr (congr (congrArg _ h0) h1) h2
    · refine (Cert.InProjRefIdeal.Read.val_main_v25_eq (F := Ideal) _ _).trans ?_
      refine Eq.trans ?_ (reference_h m c)
      exact congr (congrArg _ h0) h1

end Cert.InProjIdeal.Whole

end
-- ==== Proof.Project.UpProjValue.lean ====
/- The claims about the projection out of a norm (`l0_up_proj`): the normed rows and their product with the weights. -/
module

public import proofs.«01_k».proof.Defs
public import proofs.«01_k».proof.Proof.Gen.UpProjIdeal
public import proofs.«01_k».proof.Proof.Project.UpProjIdeal
public import proofs.«01_k».proof.Proof.Gen.UpProjRefIdeal
public import proofs.«01_k».proof.Proof.Gen.UpProjRefIdeal.Run
public import proofs.«01_k».proof.Proof.Gen.UpProjRefIdeal.Read
public import proofs.«01_k».proof.Proof.Norm.Math
public import Idealize.ShloMosaic.Lib.Pipeline.ValueKit

@[expose] public section

set_option maxRecDepth 16384

noncomputable section

namespace Cert.UpProjRefIdeal.Norm

open Cert.UpProjRefIdeal Cert.UpProjRefIdeal.Gen Cert.UpProjRefIdeal.Read Idealize.ShloMosaic Idealize.ShloMosaic.TcCoe Cert.Norm

variable (x0 : Vec Ideal S8192x1024 .f32) (x1 : Vec Ideal S1024 .f32) (x2 : Vec Ideal S4x1024x1408 .bf16)

/-- Row `n` of the rows, normed. -/
def normed (n : Fin 8192) (d : Fin 1024) : EReal := x0 (ix2 n d) * invRms (fun i => x0 (ix2 n i)) * x1 (ix1 d)

/-- The weights, the four shards' columns side by side. -/
def weight (d : Fin 1024) (q : Fin 5632) : EReal := x2 (ix3 ⟨(q : ℕ) / 1408, by omega⟩ d ⟨(q : ℕ) % 1408, by omega⟩)

theorem rows (n : Fin 8192) (q : Fin 1024) : val_main_v12 (F := Ideal) x0 x1 (ix2 n q) = normed x0 x1 n q := by
  unfold val_main_v12 val_main_v11 val_main_v10 val_main_v9 val_main_v8 val_main_v7 val_main_v6 val_main_v5 val_main_v4 val_main_v3
    val_main_v2 val_main_v1 val_main_v0 val_main_cst val_main_cst_0 val_main_cst_1 normed
  pointwise
  rfl

theorem shards (d : Fin 1024) (q : Fin 5632) : val_main_v21 (F := Ideal) x2 (ix2 d q) =
    if h : (q : ℕ) < 1408 then x2 (ix3 0 d ⟨q, h⟩)
    else if h : (q : ℕ) - 1408 < 1408 then x2 (ix3 1 d ⟨(q : ℕ) - 1408, h⟩)
    else if h : (q : ℕ) - 1408 - 1408 < 1408 then x2 (ix3 2 d ⟨(q : ℕ) - 1408 - 1408, h⟩)
    else x2 (ix3 3 d ⟨(q : ℕ) - 1408 - 1408 - 1408, by omega⟩) := by
  unfold val_main_v21 val_main_v20 val_main_v19 val_main_v18 val_main_v17 val_main_v16 val_main_v15 val_main_v14 val_main_v13
  pointwise

theorem weights (d : Fin 1024) (q : Fin 5632) : val_main_v21 (F := Ideal) x2 (ix2 d q) = weight x2 d q := by
  rw [shards]
  unfold weight
  split_ifs with h0 h1 h2 <;> refine congrArg x2 ?_ <;> refine congr (congr (congrArg _ (Fin.ext ?_)) rfl) (Fin.ext ?_)
  · show 0 = (q : ℕ) / 1408; omega
  · show (q : ℕ) = (q : ℕ) % 1408; omega
  · show 1 = (q : ℕ) / 1408; omega
  · show (q : ℕ) - 1408 = (q : ℕ) % 1408; omega
  · show 2 = (q : ℕ) / 1408; omega
  · show (q : ℕ) - 1408 - 1408 = (q : ℕ) % 1408; omega
  · show 3 = (q : ℕ) / 1408; omega
  · show (q : ℕ) - 1408 - 1408 - 1408 = (q : ℕ) % 1408; omega

theorem product (n : Fin 8192) (q : Fin 5632) : val_main_v24 (F := Ideal) x0 x1 x2 (ix2 n q) = ∑ d : Fin 1024, normed x0 x1 n d * weight x2 d q := by
  have e : val_main_v24 (F := Ideal) x0 x1 x2 (ix2 n q)
      = ∑ d : Fin 1024, val_main_v12 (F := Ideal) x0 x1 (ix2 n d) * val_main_v21 (F := Ideal) x2 (ix2 d q) := by
    unfold val_main_v24 val_main_v23 val_main_v22
    pointwise
  rw [e]
  exact Finset.sum_congr rfl fun d _ => by rw [rows, weights]

end Cert.UpProjRefIdeal.Norm

namespace Cert.UpProjIdeal.Whole

open Cert.UpProjIdeal Cert.UpProjIdeal.Gen Idealize.ShloMosaic Idealize.ShloMosaic.TcCoe Idealize.SL.Sem Cert.Norm
open Cert.UpProjRefIdeal.Norm (normed weight)

variable (m : (ℓ : Loc nD τ sig) → Buf (Elt Ideal) ℓ) (c : Dev nD)

theorem idx : ∀ t : Fin cfg0.N, win0_0.index t = ![(t : ℕ) / 4, 0] ∧ win0_1.index t = ![0, 0] ∧ win0_2.index t = ![(t : ℕ) % 4, 0, 0] ∧
    win0_3.index t = ![(t : ℕ) / 4, (t : ℕ) % 4] ∧ win0_4.index t = ![(t : ℕ) / 4, 0] :=
  (by decide +kernel : ∀ t : Fin grid0.N, _)

/-- The row that row `k` of a point's blocks is. -/
def row (t : Fin cfg0.N) (k : Fin 1024) : Fin 8192 :=
  ⟨1024 * ((t : ℕ) / 4) + k, by have := lt_of_lt_of_le t.isLt (le_of_eq N_0); omega⟩

/-- The column that column `q` of a point's product is. -/
def col (t : Fin cfg0.N) (q : Fin 1408) : Fin 5632 := ⟨1408 * ((t : ℕ) % 4) + q, by omega⟩

/-- The launch's rows, gain and weights. -/
abbrev X : Vec Ideal S8192x1024 .f32 := m ((c : Thread nD τ).loc main_arg0)
abbrev G : Vec Ideal S1024 .f32 := m ((c : Thread nD τ).loc main_arg1)
abbrev B : Vec Ideal S4x1024x1408 .bf16 := m ((c : Thread nD τ).loc main_arg2)

/-- The normed rows, and their product. -/
def hArr : Vec Ideal S8192x1024 .bf16 := fun y => normed (X m c) (G m c) (y 0) (y 1)
def zArr : Vec Ideal S8192x5632 .bf16 := fun y => ∑ d : Fin 1024, normed (X m c) (G m c) (y 0) d * weight (B m c) d (y 1)

theorem left (t : Fin cfg0.N) (k d : Fin 1024) : iblk m c 0 t (ix2 k d) = X m c (ix2 (row t k) d) := by
  unfold row
  blk_ext [iblk, V, idx t]

theorem gain (t : Fin cfg0.N) (d : Fin 1024) : iblk m c 1 t (ix2 0 d) = G m c (ix1 d) := by
  blk_point [iblk, V, idx t]

theorem right (t : Fin cfg0.N) (d : Fin 1024) (q : Fin 1408) : iblk m c 2 t (ix3 0 d q) = weight (B m c) d (col t q) := by
  have e : iblk m c 2 t (ix3 0 d q) = B m c (ix3 ⟨(t : ℕ) % 4, by omega⟩ d q) := by
    blk_ext [iblk, V, idx t]
  rw [e]
  unfold weight col
  refine congrArg (B m c) ?_
  refine congr (congr (congrArg _ (Fin.ext ?_)) rfl) (Fin.ext ?_)
  · show (t : ℕ) % 4 = (1408 * ((t : ℕ) % 4) + q) / 1408; omega
  · show (q : ℕ) = (1408 * ((t : ℕ) % 4) + q) % 1408; omega

theorem row_start (t : Fin cfg0.N) (k : Fin 1024) : row (start t) k = row t k :=
  Fin.ext (by show 1024 * ((t : ℕ) / 4 * 4 / 4) + (k : ℕ) = 1024 * ((t : ℕ) / 4) + k; omega)

theorem rows_apply (t : Fin cfg0.N) (k d : Fin 1024) : rows m c t (ix2 k d) = normed (X m c) (G m c) (row t k) d := by
  have e (a : Vec Ideal S1024x1024 .f32) (b : Vec Ideal S1x1024 .f32) :
      k0_pay1 (F := Ideal) a b (ix2 k d) = a (ix2 k d) * invRms (fun i => a (ix2 k i)) * b (ix2 0 d) := by
    unfold k0_pay1
    pointwise
    rfl
  unfold rows
  refine (e _ _).trans ?_
  simp only [left, gain, row_start]
  rfl

theorem prod_apply (t : Fin cfg0.N) (k : Fin 1024) (q : Fin 1408) :
    prod m c t (ix2 k q) = ∑ d : Fin 1024, normed (X m c) (G m c) (row t k) d * weight (B m c) d (col t q) := by
  have e (a : Vec Ideal S1024x1024 .bf16) (b : Vec Ideal S1x1024x1408 .bf16) :
      k0_pay2 (F := Ideal) a b (ix2 k q) = ∑ d : Fin 1024, a (ix2 k d) * b (ix3 0 d q) := by
    unfold k0_pay2
    pointwise
  unfold prod
  refine (e _ _).trans (Finset.sum_congr rfl fun d _ => ?_)
  rw [rows_apply, right]

theorem final3 : (dats m 0 c).arrAt 3 cfg0.N = zArr m c := by
  refine (dats m 0 c).arrAt_eq_of_covers 3 _ (by decide +kernel) fun t hf y => ?_
  obtain ⟨k, q, rfl⟩ : ∃ k q, y = ix2 k q := ⟨_, _, eq_ix2 y⟩
  blk_simp
  rw [after3]
  refine (prod_apply m c t k q).trans (Eq.trans (b := zArr m c (ix2 (row t k) (col t q))) rfl ?_)
  congr 1
  unfold row col
  symm
  blk_ext [idx t]

theorem final4 : (dats m 0 c).arrAt 4 cfg0.N = hArr m c := by
  refine (dats m 0 c).arrAt_eq_of_covers 4 _ (by decide +kernel) fun t hf y => ?_
  obtain ⟨k, q, rfl⟩ : ∃ k q, y = ix2 k q := ⟨_, _, eq_ix2 y⟩
  blk_simp
  rw [after4]
  refine (rows_apply m c t k q).trans (Eq.trans (b := hArr m c (ix2 (row t k) q)) rfl ?_)
  congr 1
  unfold row
  symm
  blk_ext [idx t]

/-- The reference's run, its arguments and counters. -/
theorem frame_reference : quiescent_UpProjRefIdeal := fun m g _ =>
  (θ_run (Cert.UpProjRefIdeal.defs (F := Ideal)) _ _).mono
    (fun r h => ⟨fun c => (h c).2.2, sem_eq_zero_of_no_sems (by decide) r.2⟩)
    (Cert.UpProjRefIdeal.Value.run m g)

theorem reference_z : Cert.UpProjRefIdeal.Read.val_main_v24 (F := Ideal) (X m c) (G m c) (B m c) = zArr m c := by
  funext y
  obtain ⟨k, q, rfl⟩ : ∃ k q, y = ix2 k q := ⟨_, _, eq_ix2 y⟩
  exact Cert.UpProjRefIdeal.Norm.product _ _ _ k q

theorem reference_h : Cert.UpProjRefIdeal.Read.val_main_v25 (F := Ideal) (X m c) (G m c) = hArr m c := by
  funext y
  obtain ⟨k, q, rfl⟩ : ∃ k q, y = ix2 k q := ⟨_, _, eq_ix2 y⟩
  exact Cert.UpProjRefIdeal.Norm.rows _ _ k q

/-- The kernel's two results are the reference's. -/
theorem algebraic : algebraic_UpProjIdeal_UpProjRefIdeal := by
  intro m g m' g' hp ha
  refine ⟨zArr m, hArr m, ?_, ?_⟩
  · refine (θ_run _ _ _).mono (fun r h c => ?_) (θ_run_and (run_main m g) (unchanged m g))
    exact ⟨((h.1 c).1 3).trans (final3 m c), ((h.1 c).1 4).trans (final4 m c), h.2 c⟩
  · refine (θ_run _ _ _).mono (fun r h c => ?_) (Cert.UpProjRefIdeal.Value.run m' g')
    obtain ⟨h0, h1, h2⟩ := ha c
    refine ⟨(h c).1.trans ?_, (h c).2.1.trans ?_, (h c).2.2⟩
    · refine (Cert.UpProjRefIdeal.Read.val_main_v24_eq (F := Ideal) _ _ _).trans ?_
      refine Eq.trans ?_ (reference_z m c)
      exact congr (congr (congrArg _ h0) h1) h2
    · refine (Cert.UpProjRefIdeal.Read.val_main_v25_eq (F := Ideal) _ _).trans ?_
      refine Eq.trans ?_ (reference_h m c)
      exact congr (congrArg _ h0) h1

end Cert.UpProjIdeal.Whole

end
-- ==== Proof.Products.DownProj.lean ====
/- The claims about the down projection with its residual: a product whose whole contraction each grid point has. -/
module

public import proofs.«01_k».proof.Defs
public import proofs.«01_k».proof.Proof.Gen.DownProjIdeal
public import proofs.«01_k».proof.Proof.Gen.DownProjIdeal.Value
public import proofs.«01_k».proof.Proof.Gen.DownProjRefIdeal
public import proofs.«01_k».proof.Proof.Gen.DownProjRefIdeal.Run
public import proofs.«01_k».proof.Proof.Gen.DownProjRefIdeal.Read
public import Idealize.ShloMosaic.Lib.Pipeline.ValueKit

@[expose] public section

set_option maxRecDepth 16384

noncomputable section

namespace Cert.DownProjRefIdeal.Product

open Cert.DownProjRefIdeal Cert.DownProjRefIdeal.Gen Cert.DownProjRefIdeal.Read Idealize.ShloMosaic Idealize.ShloMosaic.TcCoe

/-- The reference's product and residual. -/
theorem product (x0 : Vec Ideal S8192x2816 .bf16) (x1 : Vec Ideal S2816x1024 .bf16) (x2 : Vec Ideal S8192x1024 .f32) (n : Fin 8192) (q : Fin 1024) :
    val_main_v3 (F := Ideal) x0 x1 x2 (ix2 n q) = x2 (ix2 n q) + ∑ d : Fin 2816, x0 (ix2 n d) * x1 (ix2 d q) := by
  unfold val_main_v3 val_main_v2 val_main_v1 val_main_v0
  pointwise

end Cert.DownProjRefIdeal.Product

namespace Cert.DownProjIdeal.Product

open Cert.DownProjIdeal Cert.DownProjIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![(t : ℕ), 0] ∧ win0_1.index t = ![0, 0] ∧ win0_2.index t = ![(t : ℕ), 0] ∧
    win0_3.index t = ![(t : ℕ), 0] :=
  (by decide +kernel : ∀ t : Fin grid0.N, _)

/-- The row that row `k` of a point's blocks is. -/
def row (t : Fin cfg0.N) (k : Fin 512) : Fin 8192 :=
  ⟨512 * (t : ℕ) + k, by have := lt_of_lt_of_le t.isLt (le_of_eq N_0); omega⟩

/-- The launch's activations. -/
def A (n : Fin 8192) (d : Fin 2816) : EReal := m ((c : Thread nD τ).loc main_arg0) (ix2 n d)

/-- The launch's weights. -/
def B (d : Fin 2816) (q : Fin 1024) : EReal := m ((c : Thread nD τ).loc main_arg1) (ix2 d q)

/-- The launch's residual. -/
def R (n : Fin 8192) (q : Fin 1024) : EReal := m ((c : Thread nD τ).loc main_arg2) (ix2 n q)

/-- The product of the activations with the weights, and the residual. -/
def outArr : Vec Ideal S8192x1024 .f32 := fun y => R m c (y 0) (y 1) + ∑ d : Fin 2816, A m c (y 0) d * B m c d (y 1)

theorem left (t : Fin cfg0.N) (k : Fin 512) (d : Fin 2816) : iblk m c 0 t (ix2 k d) = A m c (row t k) d := by
  unfold A row
  blk_ext [iblk, V, idx t]

theorem right (t : Fin cfg0.N) (d : Fin 2816) (q : Fin 1024) : iblk m c 1 t (ix2 d q) = B m c d q := by
  unfold B
  blk_ext [iblk, V, idx t]

theorem residual (t : Fin cfg0.N) (k : Fin 512) (q : Fin 1024) : iblk m c 2 t (ix2 k q) = R m c (row t k) q := by
  unfold R row
  blk_ext [iblk, V, idx t]

theorem point (t : Fin cfg0.N) (k : Fin 512) (q : Fin 1024) :
    k0_pay1 (F := Ideal) (iblk m c 0 t) (iblk m c 1 t) (iblk m c 2 t) (ix2 k q) = outArr m c (ix2 (row t k) q) := by
  have e (a : Vec Ideal S512x2816 .bf16) (b : Vec Ideal S2816x1024 .bf16) (r : Vec Ideal S512x1024 .f32) :
      k0_pay1 (F := Ideal) a b r (ix2 k q) = r (ix2 k q) + ∑ d : Fin 2816, a (ix2 k d) * b (ix2 d q) := by
    rw [add_comm]
    unfold k0_pay1
    pointwise
  refine (e _ _ _).trans (congr (congrArg _ (residual m c t k q)) (Finset.sum_congr rfl fun d _ => ?_))
  rw [left, right]
  rfl

theorem final : (dats m 0 c).arrAt 3 cfg0.N = outArr m c := by
  refine (dats m 0 c).arrAt_eq_of_covers 3 _ (by decide +kernel) fun t hf y => ?_
  obtain ⟨k, q, rfl⟩ : ∃ k q, y = ix2 k q := ⟨_, _, eq_ix2 y⟩
  blk_simp
  rw [after0_3]
  frame_out
  refine (point m c t k q).trans ?_
  congr 1
  unfold row
  symm
  blk_ext [idx t]

/-- The reference's run, its arguments and counters. -/
theorem frame_reference : quiescent_DownProjRefIdeal := fun m g _ =>
  (θ_run (Cert.DownProjRefIdeal.defs (F := Ideal)) _ _).mono
    (fun r h => ⟨fun c => (h c).2, sem_eq_zero_of_no_sems (by decide) r.2⟩)
    (Cert.DownProjRefIdeal.Value.run m g)

theorem reference_eq : Cert.DownProjRefIdeal.Read.val_main_v3 (F := Ideal) (m ((c : Thread nD τ).loc main_arg0)) (m ((c : Thread nD τ).loc main_arg1)) (m ((c : Thread nD τ).loc main_arg2)) = outArr m c := by
  funext y
  obtain ⟨k, q, rfl⟩ : ∃ k q, y = ix2 k q := ⟨_, _, eq_ix2 y⟩
  exact Cert.DownProjRefIdeal.Product.product _ _ _ k q

/-- The kernel's result is the reference's. -/
theorem algebraic : algebraic_DownProjIdeal_DownProjRefIdeal := by
  intro m g m' g' hp ha
  refine ⟨outArr m, ?_, ?_⟩
  · exact (θ_run _ _ _).mono (fun r h c => ⟨(h c).1.trans (final m c), (h c).2⟩) (Cert.DownProjIdeal.Value.run_blocks m g)
  · refine (θ_run _ _ _).mono (fun r h c => ⟨(h c).1.trans ?_, (h c).2⟩) (Cert.DownProjRefIdeal.Value.run m' g')
    obtain ⟨h0, h1, h2⟩ := ha c
    refine (Cert.DownProjRefIdeal.Read.val_main_v3_eq (F := Ideal) _ _ _).trans ?_
    refine Eq.trans ?_ (reference_eq m c)
    exact congr (congr (congrArg _ h0) h1) h2

end Cert.DownProjIdeal.Product
end
-- ==== Proof.Forward.Sigmoid.lean ====
/- The sigmoid written by the hyperbolic tangent is the logistic function, at every extended real. -/
module

public import proofs.«01_k».proof.Proof.Conv.Real

@[expose] public section

noncomputable section

namespace Cert.Conv

open Idealize.ShloMosaic

theorem half_add_half : ((1 / 2 : ℝ) : EReal) + ((1 / 2 : ℝ) : EReal) = 1 := by
  rw [← EReal.coe_add]
  norm_num

theorem sg_eq_logistic (x : EReal) : sg x = logistic x := by
  induction x with
  | coe x => rw [sg_coe, logistic_coe]
  | top =>
    unfold sg logistic
    rw [half, EReal.coe_mul_top_of_pos (by norm_num), Ideal.tanh_top, mul_one, half_add_half, EReal.neg_top, Ideal.exp_bot, add_zero]
    unfold Ideal.div
    rw [if_neg one_ne_zero, show (1 : EReal) = ((1 : ℝ) : EReal) by norm_cast, ← EReal.coe_inv, ← EReal.coe_mul]
    norm_num
  | bot =>
    unfold sg logistic
    rw [half, EReal.coe_mul_bot_of_pos (by norm_num), Ideal.tanh_bot, EReal.neg_bot, Ideal.exp_top, show (1 : EReal) = ((1 : ℝ) : EReal) by norm_cast,
      EReal.coe_add_top]
    unfold Ideal.div
    rw [if_neg (by simp), EReal.inv_top, mul_zero, ← EReal.coe_neg, ← EReal.coe_mul, ← EReal.coe_add]
    norm_num

end Cert.Conv
end
-- ==== Proof.Forward.Merge.lean ====
/- The claims about the gated merge of the three mixers' outputs and the projection out of it (`l0_merge_out_proj`). -/
module

public import proofs.«01_k».proof.Defs
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Forward.Sigmoid
public import Idealize.ShloMosaic.Lib.Pipeline.ValueKit

@[expose] public section

set_option maxRecDepth 16384

noncomputable section

namespace Cert.MergeFwdRefIdeal.Product

open Cert.MergeFwdRefIdeal Cert.MergeFwdRefIdeal.Gen Cert.MergeFwdRefIdeal.Read Idealize.ShloMosaic Idealize.ShloMosaic.TcCoe Cert.Conv

variable (x0 : Vec Ideal S8192x256 .bf16) (x1 : Vec Ideal S8192x512 .bf16) (x2 : Vec Ideal S8192x256 .bf16) (x3 : Vec Ideal S256x1024 .bf16)
  (x4 : Vec Ideal S512x1024 .bf16) (x5 : Vec Ideal S256x1024 .bf16) (x6 : Vec Ideal S8192x4608 .bf16) (x7 : Vec Ideal S8192x1024 .f32)
  (x8 : Vec Ideal S1024x1024 .bf16)

/-- The three mixers' products with their weights. -/
def yA (n : Fin 8192) (q : Fin 1024) : EReal := ∑ d : Fin 256, x0 (ix2 n d) * x3 (ix2 d q)
def yB (n : Fin 8192) (q : Fin 1024) : EReal := ∑ d : Fin 512, x1 (ix2 n d) * x4 (ix2 d q)
def yC (n : Fin 8192) (q : Fin 1024) : EReal := ∑ d : Fin 256, x2 (ix2 n d) * x5 (ix2 d q)

/-- The products under their gates, added. -/
def merged (n : Fin 8192) (q : Fin 1024) : EReal :=
  logistic (x6 (ix2 n ⟨1536 + q, by omega⟩)) * yA x0 x3 n q + logistic (x6 (ix2 n ⟨2560 + q, by omega⟩)) * yB x1 x4 n q
    + logistic (x6 (ix2 n ⟨3584 + q, by omega⟩)) * yC x2 x5 n q

theorem v15_apply (n : Fin 8192) (q : Fin 1024) : val_main_v15 (F := Ideal) x0 x3 (ix2 n q) = yA x0 x3 n q := by
  unfold val_main_v15 val_main_v0 val_main_v3 yA
  pointwise

theorem v16_apply (n : Fin 8192) (q : Fin 1024) : val_main_v16 (F := Ideal) x1 x4 (ix2 n q) = yB x1 x4 n q := by
  unfold val_main_v16 val_main_v1 val_main_v4 yB
  pointwise

theorem v17_apply (n : Fin 8192) (q : Fin 1024) : val_main_v17 (F := Ideal) x2 x5 (ix2 n q) = yC x2 x5 n q := by
  unfold val_main_v17 val_main_v2 val_main_v5 yC
  pointwise

theorem v14_apply (n : Fin 8192) (q : Fin 3072) : val_main_v14 (F := Ideal) x6 (ix2 n q) = logistic (x6 (ix2 n ⟨1536 + q, by omega⟩)) := by
  unfold val_main_v14 val_main_v13 val_main_v12 val_main_v11 val_main_v10 val_main_v9 val_main_v8 val_main_v7 val_main_cst val_main_cst_0
  pointwise
  rfl

theorem v25_apply (n : Fin 8192) (q : Fin 1024) :
    val_main_v25 (F := Ideal) x0 x1 x2 x3 x4 x5 x6 (ix2 n q) = merged x0 x1 x2 x3 x4 x5 x6 n q := by
  unfold val_main_v25 val_main_v24 val_main_v23 val_main_v22 val_main_v21 val_main_v20 val_main_v19 val_main_v18
  pointwise
  rw [v14_apply, v14_apply, v14_apply, v15_apply, v16_apply, v17_apply]
  unfold merged
  simp only [show ∀ k : ℕ, 1536 + (1024 + k) = 2560 + k by omega, show ∀ k : ℕ, 1536 + (2048 + k) = 3584 + k by omega]

theorem v26_apply (n : Fin 8192) (q : Fin 1024) :
    val_main_v26 (F := Ideal) x0 x1 x2 x3 x4 x5 x6 (ix2 n q) = merged x0 x1 x2 x3 x4 x5 x6 n q :=
  v25_apply x0 x1 x2 x3 x4 x5 x6 n q

theorem v31_apply (p : Fin 3) (n : Fin 8192) (q : Fin 1024) :
    val_main_v31 (F := Ideal) x0 x1 x2 x3 x4 x5 (ix3 p n q) = if p = 0 then yA x0 x3 n q else if p = 1 then yB x1 x4 n q else yC x2 x5 n q := by
  unfold val_main_v31 val_main_v30 val_main_v29 val_main_v28 val_main_v27
  pointwise
  match p with
  | 0 => simp [v15_apply]
  | 1 => simp [v16_apply]
  | 2 => simp [v17_apply]

theorem v33_apply (n : Fin 8192) (q : Fin 1024) :
    val_main_v33 (F := Ideal) x0 x1 x2 x3 x4 x5 x6 x7 x8 (ix2 n q)
      = x7 (ix2 n q) + ∑ d : Fin 1024, merged x0 x1 x2 x3 x4 x5 x6 n d * x8 (ix2 d q) := by
  unfold val_main_v33 val_main_v32 val_main_v6
  pointwise
  simp only [v25_apply]

end Cert.MergeFwdRefIdeal.Product

namespace Cert.MergeFwdIdeal.Product

open Cert.MergeFwdIdeal Cert.MergeFwdIdeal.Gen Idealize.ShloMosaic Idealize.ShloMosaic.TcCoe Idealize.SL.Sem Cert.Conv
open Cert.MergeFwdRefIdeal.Product (yA yB yC merged)

variable (m : (ℓ : Loc nD τ sig) → Buf (Elt Ideal) ℓ) (c : Dev nD)

theorem idx : ∀ t : Fin cfg0.N, win0_0.index t = ![(t : ℕ) / 2, 0] ∧ win0_1.index t = ![(t : ℕ) / 2, 0] ∧ win0_2.index t = ![(t : ℕ) / 2, 0] ∧
    win0_3.index t = ![0, (t : ℕ) % 2] ∧ win0_4.index t = ![0, (t : ℕ) % 2] ∧ win0_5.index t = ![0, (t : ℕ) % 2] ∧
    win0_6.index t = ![(t : ℕ) / 2, 3 + (t : ℕ) % 2] ∧ win0_7.index t = ![(t : ℕ) / 2, 5 + (t : ℕ) % 2] ∧
    win0_8.index t = ![(t : ℕ) / 2, 7 + (t : ℕ) % 2] ∧ win0_9.index t = ![(t : ℕ) / 2, 0] ∧ win0_10.index t = ![(t : ℕ) % 2, 0] ∧
    win0_11.index t = ![(t : ℕ) / 2, (t : ℕ) % 2] ∧ win0_12.index t = ![0, (t : ℕ) / 2, (t : ℕ) % 2] ∧ win0_13.index t = ![(t : ℕ) / 2, 0] :=
  (by decide +kernel : ∀ t : Fin grid0.N, _)

/-- The row that row `k` of a point's blocks is. -/
def row (t : Fin cfg0.N) (k : Fin 1024) : Fin 8192 :=
  ⟨1024 * ((t : ℕ) / 2) + k, by have := lt_of_lt_of_le t.isLt (le_of_eq N_0); omega⟩

/-- The column that column `q` of a point's blocks is. -/
def col (t : Fin cfg0.N) (q : Fin 512) : Fin 1024 := ⟨512 * ((t : ℕ) % 2) + q, by omega⟩

/-- The launch's arguments. -/
abbrev x0 : Vec Ideal S8192x256 .bf16 := m ((c : Thread nD τ).loc main_arg0)
abbrev x1 : Vec Ideal S8192x512 .bf16 := m ((c : Thread nD τ).loc main_arg1)
abbrev x2 : Vec Ideal S8192x256 .bf16 := m ((c : Thread nD τ).loc main_arg2)
abbrev x3 : Vec Ideal S256x1024 .bf16 := m ((c : Thread nD τ).loc main_arg3)
abbrev x4 : Vec Ideal S512x1024 .bf16 := m ((c : Thread nD τ).loc main_arg4)
abbrev x5 : Vec Ideal S256x1024 .bf16 := m ((c : Thread nD τ).loc main_arg5)
abbrev x6 : Vec Ideal S8192x4608 .bf16 := m ((c : Thread nD τ).loc main_arg6)
abbrev x7 : Vec Ideal S8192x1024 .f32 := m ((c : Thread nD τ).loc main_arg7)
abbrev x8 : Vec Ideal S1024x1024 .bf16 := m ((c : Thread nD τ).loc main_arg8)

/-- The merged row, at the launch's arguments. -/
def mg (n : Fin 8192) (q : Fin 1024) : EReal := merged (x0 m c) (x1 m c) (x2 m c) (x3 m c) (x4 m c) (x5 m c) (x6 m c) n q

/-- The three results. -/
def mergedArr : Vec Ideal S8192x1024 .bf16 := fun y => mg m c (y 0) (y 1)
def yOf (p : Fin 3) (n : Fin 8192) (q : Fin 1024) : EReal :=
  if p = 0 then yA (x0 m c) (x3 m c) n q else if p = 1 then yB (x1 m c) (x4 m c) n q else yC (x2 m c) (x5 m c) n q
def yArr : Vec Ideal S3x8192x1024 .bf16 := fun y => yOf m c (y 0) (y 1) (y 2)
def outArr : Vec Ideal S8192x1024 .f32 := fun y => x7 m c (ix2 (y 0) (y 1)) + ∑ d : Fin 1024, mg m c (y 0) d * x8 m c (ix2 d (y 1))

section
variable (t : Fin cfg0.N)

theorem b0 (k : Fin 1024) (d : Fin 256) : iblk m c 0 t (ix2 k d) = x0 m c (ix2 (row t k) d) := by
  unfold row
  blk_ext [iblk, V, idx t]

theorem b1 (k : Fin 1024) (d : Fin 512) : iblk m c 1 t (ix2 k d) = x1 m c (ix2 (row t k) d) := by
  unfold row
  blk_ext [iblk, V, idx t]

theorem b2 (k : Fin 1024) (d : Fin 256) : iblk m c 2 t (ix2 k d) = x2 m c (ix2 (row t k) d) := by
  unfold row
  blk_ext [iblk, V, idx t]

theorem b3 (d : Fin 256) (q : Fin 512) : iblk m c 3 t (ix2 d q) = x3 m c (ix2 d (col t q)) := by
  unfold col
  blk_ext [iblk, V, idx t]

theorem b4 (d : Fin 512) (q : Fin 512) : iblk m c 4 t (ix2 d q) = x4 m c (ix2 d (col t q)) := by
  unfold col
  blk_ext [iblk, V, idx t]

theorem b5 (d : Fin 256) (q : Fin 512) : iblk m c 5 t (ix2 d q) = x5 m c (ix2 d (col t q)) := by
  unfold col
  blk_ext [iblk, V, idx t]

theorem b6 (k : Fin 1024) (q : Fin 512) : iblk m c 6 t (ix2 k q) = x6 m c (ix2 (row t k) ⟨1536 + col t q, by omega⟩) := by
  unfold row col
  blk_ext [iblk, V, idx t]

theorem b7 (k : Fin 1024) (q : Fin 512) : iblk m c 7 t (ix2 k q) = x6 m c (ix2 (row t k) ⟨2560 + col t q, by omega⟩) := by
  unfold row col
  blk_ext [iblk, V, idx t]

theorem b8 (k : Fin 1024) (q : Fin 512) : iblk m c 8 t (ix2 k q) = x6 m c (ix2 (row t k) ⟨3584 + col t q, by omega⟩) := by
  unfold row col
  blk_ext [iblk, V, idx t]

theorem b9 (k q : Fin 1024) : iblk m c 9 t (ix2 k q) = x7 m c (ix2 (row t k) q) := by
  unfold row
  blk_ext [iblk, V, idx t]

theorem b10 (d : Fin 512) (q : Fin 1024) : iblk m c 10 t (ix2 d q) = x8 m c (ix2 (col t d) q) := by
  unfold col
  blk_ext [iblk, V, idx t]

theorem pay1 (k : Fin 1024) (q : Fin 512) : k0_pay1 (F := Ideal) (iblk m c 0 t) (iblk m c 3 t) (ix2 k q) = yA (x0 m c) (x3 m c) (row t k) (col t q) := by
  have e (a : Vec Ideal S1024x256 .bf16) (b : Vec Ideal S256x512 .bf16) :
      k0_pay1 (F := Ideal) a b (ix2 k q) = ∑ d : Fin 256, a (ix2 k d) * b (ix2 d q) := by
    unfold k0_pay1
    pointwise
  refine (e _ _).trans (Finset.sum_congr rfl fun d _ => ?_)
  rw [b0, b3]

theorem pay4 (k : Fin 1024) (q : Fin 512) : k0_pay4 (F := Ideal) (iblk m c 1 t) (iblk m c 4 t) (ix2 k q) = yB (x1 m c) (x4 m c) (row t k) (col t q) := by
  have e (a : Vec Ideal S1024x512 .bf16) (b : Vec Ideal S512x512 .bf16) :
      k0_pay4 (F := Ideal) a b (ix2 k q) = ∑ d : Fin 512, a (ix2 k d) * b (ix2 d q) := by
    unfold k0_pay4
    pointwise
  refine (e _ _).trans (Finset.sum_congr rfl fun d _ => ?_)
  rw [b1, b4]

theorem pay7 (k : Fin 1024) (q : Fin 512) : k0_pay7 (F := Ideal) (iblk m c 2 t) (iblk m c 5 t) (ix2 k q) = yC (x2 m c) (x5 m c) (row t k) (col t q) := by
  have e (a : Vec Ideal S1024x256 .bf16) (b : Vec Ideal S256x512 .bf16) :
      k0_pay7 (F := Ideal) a b (ix2 k q) = ∑ d : Fin 256, a (ix2 k d) * b (ix2 d q) := by
    unfold k0_pay7
    pointwise
  refine (e _ _).trans (Finset.sum_congr rfl fun d _ => ?_)
  rw [b2, b5]

theorem pay9 (k : Fin 1024) (q : Fin 512) :
    k0_pay9 (F := Ideal) (k0_pay3 (iblk m c 0 t) (iblk m c 3 t) (iblk m c 6 t)) (k0_pay4 (iblk m c 1 t) (iblk m c 4 t)) (k0_pay6 (iblk m c 7 t))
      (iblk m c 2 t) (iblk m c 5 t) (iblk m c 8 t) (ix2 k q) = mg m c (row t k) (col t q) := by
  have e (a : Vec Ideal S1024x256 .bf16) (b : Vec Ideal S256x512 .bf16) (g : Vec Ideal S1024x512 .bf16) (v19 : FVec Ideal S1024x512 .f32)
      (g' : Vec Ideal S1024x512 .bf16) (a' : Vec Ideal S1024x256 .bf16) (b' : Vec Ideal S256x512 .bf16) (g'' : Vec Ideal S1024x512 .bf16) :
      k0_pay9 (F := Ideal) (k0_pay3 a b g) v19 (k0_pay6 g') a' b' g'' (ix2 k q)
        = sg (g (ix2 k q)) * k0_pay1 (F := Ideal) a b (ix2 k q) + sg (g' (ix2 k q)) * v19 (ix2 k q)
          + sg (g'' (ix2 k q)) * k0_pay7 (F := Ideal) a' b' (ix2 k q) := by
    rfl
  refine (e _ _ _ _ _ _ _ _).trans ?_
  rw [pay1, pay4, pay7, b6, b7, b8, sg_eq_logistic, sg_eq_logistic, sg_eq_logistic]
  rfl

/-- A point's part of the product with the output weights. -/
def part (k q : Fin 1024) : EReal := ∑ d : Fin 512, mg m c (row t k) (col t d) * x8 m c (ix2 (col t d) q)

theorem pay10 (k q : Fin 1024) :
    k0_pay10 (F := Ideal) (k0_pay3 (iblk m c 0 t) (iblk m c 3 t) (iblk m c 6 t)) (k0_pay4 (iblk m c 1 t) (iblk m c 4 t)) (k0_pay6 (iblk m c 7 t))
      (iblk m c 2 t) (iblk m c 5 t) (iblk m c 8 t) (iblk m c 10 t) (ix2 k q) = part m c t k q := by
  have e (v16 v19 v30 : FVec Ideal S1024x512 .f32) (a' : Vec Ideal S1024x256 .bf16) (b' : Vec Ideal S256x512 .bf16) (g'' : Vec Ideal S1024x512 .bf16)
      (w : Vec Ideal S512x1024 .bf16) : k0_pay10 (F := Ideal) v16 v19 v30 a' b' g'' w (ix2 k q)
        = ∑ d : Fin 512, k0_pay9 (F := Ideal) v16 v19 v30 a' b' g'' (ix2 k d) * w (ix2 d q) := by
    unfold k0_pay10
    pointwise
  refine (e _ _ _ _ _ _ _).trans (Finset.sum_congr rfl fun d _ => ?_)
  rw [pay9, b10]

theorem outs11 (k : Fin 1024) (q : Fin 512) : (outsAt0 m c t.val t.isLt).1 (ix2 k q) = mg m c (row t k) (col t q) := by
  by_cases hA : (t : ℕ) % 2 = 0
  · rw [outsAt0_A m c t hA (by omega)]
    frame_out
    exact pay9 m c t k q
  · rw [outsAt0_B m c t hA (by omega)]
    frame_out
    exact pay9 m c t k q

theorem pay2 (k : Fin 1024) (q : Fin 512) :
    k0_pay2 (F := Ideal) (iblk m c 0 t) (iblk m c 3 t) (ix3 0 k q) = yOf m c 0 (row t k) (col t q) := by
  have e (a : Vec Ideal S1024x256 .bf16) (b : Vec Ideal S256x512 .bf16) :
      k0_pay2 (F := Ideal) a b (ix3 0 k q) = k0_pay1 (F := Ideal) a b (ix2 k q) := by
    unfold k0_pay2
    pointwise
  exact (e _ _).trans (pay1 m c t k q)

theorem pay5 (k : Fin 1024) (q : Fin 512) :
    k0_pay5 (F := Ideal) (iblk m c 1 t) (iblk m c 4 t) (ix3 0 k q) = yOf m c 1 (row t k) (col t q) := by
  have e (a : Vec Ideal S1024x512 .bf16) (b : Vec Ideal S512x512 .bf16) :
      k0_pay5 (F := Ideal) a b (ix3 0 k q) = k0_pay4 (F := Ideal) a b (ix2 k q) := by
    unfold k0_pay5
    pointwise
  exact (e _ _).trans (pay4 m c t k q)

theorem pay8 (k : Fin 1024) (q : Fin 512) :
    k0_pay8 (F := Ideal) (iblk m c 2 t) (iblk m c 5 t) (ix3 0 k q) = yOf m c 2 (row t k) (col t q) := by
  have e (a : Vec Ideal S1024x256 .bf16) (b : Vec Ideal S256x512 .bf16) :
      k0_pay8 (F := Ideal) a b (ix3 0 k q) = k0_pay7 (F := Ideal) a b (ix2 k q) := by
    unfold k0_pay8
    pointwise
  exact (e _ _).trans (pay7 m c t k q)

theorem outs12_A (hA : (t : ℕ) % 2 = 0) (p : Fin 3) (k : Fin 1024) (q : Fin 512) :
    (outsAt0 m c t.val t.isLt).2.1 (ix3 p k q) = yOf m c p (row t k) (col t q) := by
  rw [outsAt0_A m c t hA (by omega)]
  frame_out
  canon_tiles x h
  · refine (congrArg _ (?_ : x = ix3 0 k q)).trans ((pay8 m c t k q).trans ?_)
    · rw [eq_ix3 x]
      exact congr (congrArg₂ ix3 (Subsingleton.elim _ _) (Fin.ext h1.symm)) (Fin.ext h2.symm)
    · refine congrArg (fun p => yOf m c p (row t k) (col t q)) (Fin.ext ?_)
      have hx : (x 0 : ℕ) < 1 := (x 0).isLt
      change (p : ℕ) = _ at h0
      have hz : ((2 : Fin 3) : ℕ) = 2 := rfl
      omega
  · refine (congrArg _ (?_ : x = ix3 0 k q)).trans ((pay5 m c t k q).trans ?_)
    · rw [eq_ix3 x]
      exact congr (congrArg₂ ix3 (Subsingleton.elim _ _) (Fin.ext h1.symm)) (Fin.ext h2.symm)
    · refine congrArg (fun p => yOf m c p (row t k) (col t q)) (Fin.ext ?_)
      have hx : (x 0 : ℕ) < 1 := (x 0).isLt
      change (p : ℕ) = _ at h0
      have hz : ((1 : Fin 3) : ℕ) = 1 := rfl
      omega
  · refine (congrArg _ (?_ : x = ix3 0 k q)).trans ((pay2 m c t k q).trans ?_)
    · rw [eq_ix3 x]
      exact congr (congrArg₂ ix3 (Subsingleton.elim _ _) (Fin.ext h1.symm)) (Fin.ext h2.symm)
    · refine congrArg (fun p => yOf m c p (row t k) (col t q)) (Fin.ext ?_)
      have hx : (x 0 : ℕ) < 1 := (x 0).isLt
      change (p : ℕ) = _ at h0
      have hz : ((0 : Fin 3) : ℕ) = 0 := rfl
      omega

theorem outs12_B (hA : (t : ℕ) % 2 = 1) (p : Fin 3) (k : Fin 1024) (q : Fin 512) :
    (outsAt0 m c t.val t.isLt).2.1 (ix3 p k q) = yOf m c p (row t k) (col t q) := by
  rw [outsAt0_B m c t (by omega) hA]
  frame_out
  canon_tiles x h
  · refine (congrArg _ (?_ : x = ix3 0 k q)).trans ((pay8 m c t k q).trans ?_)
    · rw [eq_ix3 x]
      exact congr (congrArg₂ ix3 (Subsingleton.elim _ _) (Fin.ext h1.symm)) (Fin.ext h2.symm)
    · refine congrArg (fun p => yOf m c p (row t k) (col t q)) (Fin.ext ?_)
      have hx : (x 0 : ℕ) < 1 := (x 0).isLt
      change (p : ℕ) = _ at h0
      have hz : ((2 : Fin 3) : ℕ) = 2 := rfl
      omega
  · refine (congrArg _ (?_ : x = ix3 0 k q)).trans ((pay5 m c t k q).trans ?_)
    · rw [eq_ix3 x]
      exact congr (congrArg₂ ix3 (Subsingleton.elim _ _) (Fin.ext h1.symm)) (Fin.ext h2.symm)
    · refine congrArg (fun p => yOf m c p (row t k) (col t q)) (Fin.ext ?_)
      have hx : (x 0 : ℕ) < 1 := (x 0).isLt
      change (p : ℕ) = _ at h0
      have hz : ((1 : Fin 3) : ℕ) = 1 := rfl
      omega
  · refine (congrArg _ (?_ : x = ix3 0 k q)).trans ((pay2 m c t k q).trans ?_)
    · rw [eq_ix3 x]
      exact congr (congrArg₂ ix3 (Subsingleton.elim _ _) (Fin.ext h1.symm)) (Fin.ext h2.symm)
    · refine congrArg (fun p => yOf m c p (row t k) (col t q)) (Fin.ext ?_)
      have hx : (x 0 : ℕ) < 1 := (x 0).isLt
      change (p : ℕ) = _ at h0
      have hz : ((0 : Fin 3) : ℕ) = 0 := rfl
      omega

theorem outs12 (p : Fin 3) (k : Fin 1024) (q : Fin 512) : (outsAt0 m c t.val t.isLt).2.1 (ix3 p k q) = yOf m c p (row t k) (col t q) := by
  by_cases hA : (t : ℕ) % 2 = 0
  · exact outs12_A m c t hA p k q
  · exact outs12_B m c t (by omega) p k q

/-- What the second step adds to the block it finds. -/
theorem adds (v16 v19 v30 : FVec Ideal S1024x512 .f32) (a' : Vec Ideal S1024x256 .bf16) (b' : Vec Ideal S256x512 .bf16) (g : Vec Ideal S1024x512 .bf16)
    (w : Vec Ideal S512x1024 .bf16) (v : Vec Ideal S1024x1024 .f32) (k q : Fin 1024) :
    k0_pay12 (F := Ideal) v16 v19 v30 a' b' g w v (ix2 k q) = v (ix2 k q) + k0_pay10 (F := Ideal) v16 v19 v30 a' b' g w (ix2 k q) := by
  unfold k0_pay12
  pointwise

theorem first (h : (t : ℕ) % 2 = 0) (k q : Fin 1024) :
    (outsAt0 m c t.val t.isLt).2.2 (ix2 k q) = x7 m c (ix2 (row t k) q) + part m c t k q := by
  rw [outsAt0_A m c t h (by omega)]
  frame_out
  refine congrArg₂ (· + ·) (b9 m c t k q) (pay10 m c t k q)

theorem second (h : (t : ℕ) % 2 = 1) (k q : Fin 1024) :
    (outsAt0 m c t.val t.isLt).2.2 (ix2 k q)
      = (outsAt0 m c (t.val - 1) (lt_of_le_of_lt (Nat.sub_le _ _) t.isLt)).2.2 (ix2 k q) + part m c t k q := by
  rw [outsAt0_B m c t (by omega) h]
  frame_out
  exact (adds _ _ _ _ _ _ _ _ k q).trans (congrArg (_ + ·) (pay10 m c t k q))

/-- The second step of a row block leaves the whole row of the result. -/
theorem outs13 (h : (t : ℕ) % 2 = 1) (k q : Fin 1024) : (outsAt0 m c t.val t.isLt).2.2 (ix2 k q) = outArr m c (ix2 (row t k) q) := by
  have hl := lt_of_le_of_lt (Nat.sub_le t.val 1) t.isLt
  rw [second m c t h, first m c ⟨t.val - 1, hl⟩ (by show (t.val - 1) % 2 = 0; omega)]
  have er : row ⟨t.val - 1, hl⟩ k = row t k := Fin.ext (by
    show 1024 * ((t.val - 1) / 2) + (k : ℕ) = 1024 * (t.val / 2) + k
    omega)
  have e0 : ∀ d, col ⟨t.val - 1, hl⟩ d = ⟨(d : ℕ), by omega⟩ := fun d => Fin.ext (by
    show 512 * ((t.val - 1) % 2) + (d : ℕ) = d
    omega)
  have e1 : ∀ d, col t d = ⟨512 + (d : ℕ), by omega⟩ := fun d => Fin.ext (by
    show 512 * (t.val % 2) + (d : ℕ) = 512 + d
    omega)
  unfold part outArr
  rw [er, add_assoc]
  refine congrArg (_ + ·) ?_
  simp only [e0, e1]
  exact (Fin.sum_univ_add (a := 512) (b := 512) fun d => mg m c (row t k) d * x8 m c (ix2 d q)).symm

end

theorem final11 : (dats m 0 c).arrAt 11 cfg0.N = mergedArr m c := by
  refine (dats m 0 c).arrAt_eq_of_covers 11 _ (by decide +kernel) fun t hf y => ?_
  obtain ⟨k, q, rfl⟩ : ∃ k q, y = ix2 k q := ⟨_, _, eq_ix2 y⟩
  blk_simp
  rw [after0_11]
  refine (outs11 m c t k q).trans (Eq.trans (b := mergedArr m c (ix2 (row t k) (col t q))) rfl ?_)
  congr 1
  unfold row col
  symm
  blk_ext [idx t]

theorem final12 : (dats m 0 c).arrAt 12 cfg0.N = yArr m c := by
  refine (dats m 0 c).arrAt_eq_of_covers 12 _ (by decide +kernel) fun t hf y => ?_
  obtain ⟨p, k, q, rfl⟩ : ∃ p k q, y = ix3 p k q := ⟨_, _, _, eq_ix3 y⟩
  blk_simp
  rw [after0_12]
  refine (outs12 m c t p k q).trans (Eq.trans (b := yArr m c (ix3 p (row t k) (col t q))) rfl ?_)
  congr 1
  unfold row col
  symm
  blk_ext [idx t]

theorem final13 : (dats m 0 c).arrAt 13 cfg0.N = outArr m c := by
  refine (dats m 0 c).arrAt_eq_of_covers 13 _ (by decide +kernel) fun t hf y => ?_
  obtain ⟨k, q, rfl⟩ : ∃ k q, y = ix2 k q := ⟨_, _, eq_ix2 y⟩
  blk_simp
  rw [after0_13]
  refine (outs13 m c t ((flush0_13 t).mp hf) k q).trans ?_
  congr 1
  unfold row
  symm
  blk_ext [idx t]

/-- The reference's run, its arguments and counters. -/
theorem frame_reference : quiescent_MergeFwdRefIdeal := fun m g _ =>
  (θ_run (Cert.MergeFwdRefIdeal.defs (F := Ideal)) _ _).mono
    (fun r h => ⟨fun c => (h c).2.2.2, sem_eq_zero_of_no_sems (by decide) r.2⟩)
    (Cert.MergeFwdRefIdeal.Value.run m g)

theorem reference_merged :
    Cert.MergeFwdRefIdeal.Read.val_main_v26 (F := Ideal) (x0 m c) (x1 m c) (x2 m c) (x3 m c) (x4 m c) (x5 m c) (x6 m c) = mergedArr m c := by
  funext y
  obtain ⟨k, q, rfl⟩ : ∃ k q, y = ix2 k q := ⟨_, _, eq_ix2 y⟩
  exact Cert.MergeFwdRefIdeal.Product.v26_apply _ _ _ _ _ _ _ k q

theorem reference_y :
    Cert.MergeFwdRefIdeal.Read.val_main_v31 (F := Ideal) (x0 m c) (x1 m c) (x2 m c) (x3 m c) (x4 m c) (x5 m c) = yArr m c := by
  funext y
  obtain ⟨p, k, q, rfl⟩ : ∃ p k q, y = ix3 p k q := ⟨_, _, _, eq_ix3 y⟩
  exact Cert.MergeFwdRefIdeal.Product.v31_apply _ _ _ _ _ _ p k q

theorem reference_out :
    Cert.MergeFwdRefIdeal.Read.val_main_v33 (F := Ideal) (x0 m c) (x1 m c) (x2 m c) (x3 m c) (x4 m c) (x5 m c) (x6 m c) (x7 m c) (x8 m c) = outArr m c := by
  funext y
  obtain ⟨k, q, rfl⟩ : ∃ k q, y = ix2 k q := ⟨_, _, eq_ix2 y⟩
  exact Cert.MergeFwdRefIdeal.Product.v33_apply _ _ _ _ _ _ _ _ _ k q

/-- The kernel's three results are the reference's. -/
theorem algebraic : algebraic_MergeFwdIdeal_MergeFwdRefIdeal := by
  intro m g m' g' hp ha
  refine ⟨mergedArr m, yArr m, outArr m, ?_, ?_⟩
  · exact (θ_run _ _ _).mono (fun r h c => ⟨(h c).1.trans (final11 m c), (h c).2.1.trans (final12 m c), (h c).2.2.1.trans (final13 m c), (h c).2.2.2⟩)
      (Cert.MergeFwdIdeal.Value.run_blocks m g)
  · refine (θ_run _ _ _).mono (fun r h c => ?_) (Cert.MergeFwdRefIdeal.Value.run m' g')
    obtain ⟨h0, h1, h2, h3, h4, h5, h6, h7, h8⟩ := ha c
    refine ⟨(h c).1.trans ?_, (h c).2.1.trans ?_, (h c).2.2.1.trans ?_, (h c).2.2.2⟩
    · refine (Cert.MergeFwdRefIdeal.Read.val_main_v26_eq (F := Ideal) _ _ _ _ _ _ _).trans ?_
      refine Eq.trans ?_ (reference_merged m c)
      exact congr (congr (congr (congr (congr (congr (congrArg _ h0) h1) h2) h3) h4) h5) h6
    · refine (Cert.MergeFwdRefIdeal.Read.val_main_v31_eq (F := Ideal) _ _ _ _ _ _).trans ?_
      refine Eq.trans ?_ (reference_y m c)
      exact congr (congr (congr (congr (congr (congrArg _ h0) h1) h2) h3) h4) h5
    · refine (Cert.MergeFwdRefIdeal.Read.val_main_v33_eq (F := Ideal) _ _ _ _ _ _ _ _ _).trans ?_
      refine Eq.trans ?_ (reference_out m c)
      exact congr (congr (congr (congr (congr (congr (congr (congr (congrArg _ h0) h1) h2) h3) h4) h5) h6) h7) h8

end Cert.MergeFwdIdeal.Product
end
-- ==== Proof.Forward.Loss.lean ====
/- The claims about the down projection, the residual and the loss (`l1_down_proj_loss`). -/
module

public import proofs.«01_k».proof.Defs
public import proofs.«01_k».proof.Proof.Gen.DownLoss
public import proofs.«01_k».proof.Proof.Gen.DownLoss.Frame
public import proofs.«01_k».proof.Proof.Gen.DownLossIdeal
public import proofs.«01_k».proof.Proof.Gen.DownLossIdeal.Frame
public import proofs.«01_k».proof.Proof.Gen.DownLossIdeal.Value
public import proofs.«01_k».proof.Proof.Gen.DownLossRefIdeal
public import proofs.«01_k».proof.Proof.Gen.DownLossRefIdeal.Run
public import proofs.«01_k».proof.Proof.Gen.DownLossRefIdeal.Read
public import Idealize.ShloMosaic.Lib.Pipeline.ValueKit

@[expose] public section

set_option maxRecDepth 16384

noncomputable section

namespace Cert.Loss

open Idealize.ShloMosaic

/-- A real factor that is not negative goes into a sum of extended reals. -/
theorem mul_sum_of_nonneg {ι : Type} (s : Finset ι) (f : ι → EReal) {c : ℝ} (hc : 0 ≤ c) : (c : EReal) * ∑ i ∈ s, f i = ∑ i ∈ s, (c : EReal) * f i := by
  classical
  induction s using Finset.induction_on with
  | empty => simp
  | insert a s h ih =>
    rw [Finset.sum_insert h, Finset.sum_insert h, ← ih]
    exact EReal.left_distrib_of_nonneg_of_ne_top (by exact_mod_cast hc) (EReal.coe_ne_top _) _ _

theorem c2 : Ideal.ofBits .f32 0x40000000#32 = ((2 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem c1024 : Ideal.ofBits .f32 0x44800000#32 = ((1024 : ℝ) : EReal) := by
  simp [Ideal.ofBits, Ideal.ieee, -EReal.coe_mul]; norm_num
theorem c10 : Ideal.ofBits .f32 0x3A800000#32 = ((1 / 1024 : ℝ) : EReal) := by
  simp [Ideal.ofBits, Ideal.ieee, -EReal.coe_mul]; norm_num
theorem c11 : Ideal.ofBits .f32 0x3A000000#32 = ((1 / 2048 : ℝ) : EReal) := by
  simp [Ideal.ofBits, Ideal.ieee, -EReal.coe_mul]; norm_num
theorem c0 : Ideal.ofBits .f32 0x00000000#32 = 0 := by
  simp [Ideal.ofBits, Ideal.ieee]

end Cert.Loss

namespace Cert.DownLossRefIdeal.Product

open Cert.DownLossRefIdeal Cert.DownLossRefIdeal.Gen Cert.DownLossRefIdeal.Read Idealize.ShloMosaic Idealize.ShloMosaic.TcCoe Cert.Loss

variable (x0 : Vec Ideal S8192x2816 .bf16) (x1 : Vec Ideal S2816x1024 .bf16) (x2 x3 : Vec Ideal S8192x1024 .f32)

/-- The output less its target. -/
def diff (n : Fin 8192) (q : Fin 1024) : EReal := x2 (ix2 n q) + (∑ d : Fin 2816, x0 (ix2 n d) * x1 (ix2 d q)) - x3 (ix2 n q)

/-- A row's sum of squares. -/
def sq (n : Fin 8192) : EReal := ∑ q : Fin 1024, diff x0 x1 x2 x3 n q * diff x0 x1 x2 x3 n q

theorem v4_apply (n : Fin 8192) (q : Fin 1024) : val_main_v4 (F := Ideal) x0 x1 x2 x3 (ix2 n q) = diff x0 x1 x2 x3 n q := by
  unfold val_main_v4 val_main_v3 val_main_v2 val_main_v1 val_main_v0 diff
  pointwise

theorem v10_apply (n : Fin 8192) : val_main_v10 (F := Ideal) x0 x1 x2 x3 (ix1 n) = ((1 / 1024 : ℝ) : EReal) * sq x0 x1 x2 x3 n := by
  have e : val_main_v8 (F := Ideal) x0 x1 x2 x3 (ix1 n) = sq x0 x1 x2 x3 n := by
    rw [val_main_v8_apply, val_main_cst_0_apply]
    unfold sq
    refine Eq.trans (congrArg (· + _) c0) ((zero_add _).trans (Finset.sum_congr rfl fun q _ => ?_))
    have ei : idx_main_v8 (ix1 n) q = ix2 n q := by
      funext a; match a with | 0 => rfl | 1 => rfl
    rw [ei, val_main_v5_apply, v4_apply]
    rfl
  rw [val_main_v10_apply, e, val_main_v9_apply, val_main_cst_1_apply]
  show Ideal.div _ (Ideal.ofBits .f32 0x44800000#32) = _
  rw [c1024, Ideal.div_coe (by norm_num), mul_comm]

/-- The loss. -/
theorem v19_apply (i : S1x128.Idx) :
    val_main_v19 (F := Ideal) x0 x1 x2 x3 i = ((1 / 2 : ℝ) : EReal) * ∑ n : Fin 8192, ((1 / 1024 : ℝ) : EReal) * sq x0 x1 x2 x3 n := by
  rw [val_main_v19_apply, val_main_v12_apply, val_main_v11_apply, val_main_cst_3_apply, val_main_cst_2_apply]
  refine congrArg₂ (· * ·) chalf ?_
  refine Eq.trans (congrArg (· + _) c0) ((zero_add _).trans ?_)
  refine Fintype.sum_equiv ⟨fun j => j 0, fun n => ix1 n, fun j => (eq_ix1 j).symm, fun n => rfl⟩ _ _ fun j => ?_
  conv_lhs => rw [eq_ix1 j]
  exact v10_apply x0 x1 x2 x3 (j 0)

/-- The gradient of the output. -/
theorem v18_apply (n : Fin 8192) (q : Fin 1024) :
    val_main_v18 (F := Ideal) x0 x1 x2 x3 (ix2 n q) = ((1 / 1024 : ℝ) : EReal) * diff x0 x1 x2 x3 n q := by
  have e : val_main_v18 (F := Ideal) x0 x1 x2 x3 (ix2 n q)
      = Ideal.div (Ideal.ofBits .f32 0x3F000000#32 * Ideal.ofBits .f32 0x3F800000#32) (Ideal.ofBits .f32 0x44800000#32)
        * (Ideal.ofBits .f32 0x40000000#32 * val_main_v4 (F := Ideal) x0 x1 x2 x3 (ix2 n q)) := by
    rw [val_main_v18_apply, val_main_v17_apply, val_main_v16_apply, val_main_v15_apply, val_main_v14_apply, val_main_v13_apply, val_main_v7_apply,
      val_main_v6_apply, val_main_cst_apply, val_main_cst_4_apply, val_main_cst_5_apply, val_main_cst_6_apply]
    rfl
  rw [e, v4_apply, chalf, c1, c1024, c2, Ideal.div_coe (by norm_num), ← mul_assoc, ← EReal.coe_mul, ← EReal.coe_mul, ← EReal.coe_mul]
  norm_num

theorem v20_apply (n : Fin 8192) (q : Fin 1024) :
    val_main_v20 (F := Ideal) x0 x1 x2 x3 (ix2 n q) = ((1 / 1024 : ℝ) : EReal) * diff x0 x1 x2 x3 n q :=
  v18_apply x0 x1 x2 x3 n q

end Cert.DownLossRefIdeal.Product

namespace Cert.DownLossIdeal.Product

open Cert.DownLossIdeal Cert.DownLossIdeal.Gen Idealize.ShloMosaic Idealize.ShloMosaic.TcCoe Idealize.SL.Sem Cert.Loss
open Cert.DownLossRefIdeal.Product (diff sq)

variable (m : (ℓ : Loc nD τ sig) → Buf (Elt Ideal) ℓ) (c : Dev nD)

theorem idx : ∀ t : Fin cfg0.N, win0_0.index t = ![(t : ℕ), 0] ∧ win0_1.index t = ![0, 0] ∧ win0_2.index t = ![(t : ℕ), 0] ∧
    win0_3.index t = ![(t : ℕ), 0] ∧ win0_4.index t = ![0, 0] ∧ win0_5.index t = ![(t : ℕ), 0] ∧ win0_6.index t = ![(t : ℕ), 0] :=
  (by decide +kernel : ∀ t : Fin grid0.N, _)

/-- The row that row `k` of a point's blocks is. -/
def row (t : Fin cfg0.N) (k : Fin 512) : Fin 8192 :=
  ⟨512 * (t : ℕ) + k, by have := lt_of_lt_of_le t.isLt (le_of_eq N_0); omega⟩

/-- The launch's arguments. -/
abbrev x0 : Vec Ideal S8192x2816 .bf16 := m ((c : Thread nD τ).loc main_arg0)
abbrev x1 : Vec Ideal S2816x1024 .bf16 := m ((c : Thread nD τ).loc main_arg1)
abbrev x2 : Vec Ideal S8192x1024 .f32 := m ((c : Thread nD τ).loc main_arg2)
abbrev x3 : Vec Ideal S8192x1024 .f32 := m ((c : Thread nD τ).loc main_arg3)

/-- The output less its target, and a row's sum of squares, at the launch's arguments. -/
def df (n : Fin 8192) (q : Fin 1024) : EReal := diff (x0 m c) (x1 m c) (x2 m c) (x3 m c) n q
def ss (n : Fin 8192) : EReal := ∑ q : Fin 1024, df m c n q * df m c n q

/-- The three results. -/
def lossArr : Vec Ideal S1x128 .f32 := fun _ => ((1 / 2 : ℝ) : EReal) * ∑ n : Fin 8192, ((1 / 1024 : ℝ) : EReal) * ss m c n
def dyArr : Vec Ideal S8192x1024 .f32 := fun y => ((1 / 1024 : ℝ) : EReal) * df m c (y 0) (y 1)
def dybArr : Vec Ideal S8192x1024 .bf16 := fun y => ((1 / 1024 : ℝ) : EReal) * df m c (y 0) (y 1)

section
variable (t : Fin cfg0.N)

theorem b0 (k : Fin 512) (d : Fin 2816) : iblk m c 0 t (ix2 k d) = x0 m c (ix2 (row t k) d) := by
  unfold row
  blk_ext [iblk, V, idx t]

theorem b1 (d : Fin 2816) (q : Fin 1024) : iblk m c 1 t (ix2 d q) = x1 m c (ix2 d q) := by
  blk_ext [iblk, V, idx t]

theorem b2 (k : Fin 512) (q : Fin 1024) : iblk m c 2 t (ix2 k q) = x2 m c (ix2 (row t k) q) := by
  unfold row
  blk_ext [iblk, V, idx t]

theorem b3 (k : Fin 512) (q : Fin 1024) : iblk m c 3 t (ix2 k q) = x3 m c (ix2 (row t k) q) := by
  unfold row
  blk_ext [iblk, V, idx t]

theorem pay1 (k : Fin 512) (q : Fin 1024) :
    k0_pay1 (F := Ideal) (iblk m c 2 t) (iblk m c 0 t) (iblk m c 1 t) (iblk m c 3 t) (ix2 k q) = df m c (row t k) q := by
  have e (v0 : Vec Ideal S512x1024 .f32) (a : Vec Ideal S512x2816 .bf16) (b : Vec Ideal S2816x1024 .bf16) (v5 : Vec Ideal S512x1024 .f32) :
      k0_pay1 (F := Ideal) v0 a b v5 (ix2 k q) = v0 (ix2 k q) + (∑ d : Fin 2816, a (ix2 k d) * b (ix2 d q)) - v5 (ix2 k q) := by
    unfold k0_pay1
    pointwise
  refine (e _ _ _ _).trans ?_
  rw [b2, b3]
  unfold df diff
  simp only [b0, b1]

theorem pay2 (k : Fin 512) (q : Fin 1024) :
    k0_pay2 (F := Ideal) (iblk m c 2 t) (iblk m c 0 t) (iblk m c 1 t) (iblk m c 3 t) (ix2 k q) = ((1 / 1024 : ℝ) : EReal) * df m c (row t k) q := by
  have e (v0 : Vec Ideal S512x1024 .f32) (a : Vec Ideal S512x2816 .bf16) (b : Vec Ideal S2816x1024 .bf16) (v5 : Vec Ideal S512x1024 .f32) :
      k0_pay2 (F := Ideal) v0 a b v5 (ix2 k q) = k0_pay1 (F := Ideal) v0 a b v5 (ix2 k q) * Ideal.ofBits .f32 0x3A800000#32 := by
    rfl
  refine (e _ _ _ _).trans ?_
  rw [pay1, c10, mul_comm]

theorem pay3 (k : Fin 512) (q : Fin 1024) :
    k0_pay3 (F := Ideal) (iblk m c 2 t) (iblk m c 0 t) (iblk m c 1 t) (iblk m c 3 t) (ix2 k q) = ((1 / 1024 : ℝ) : EReal) * df m c (row t k) q :=
  pay2 m c t k q

/-- A point's part of the loss. -/
def part : EReal := (∑ k : Fin 512, ss m c (row t k)) * ((1 / 2048 : ℝ) : EReal)

theorem pay5 (v : Vec Ideal S1x128 .f32) (i : S1x128.Idx) :
    k0_pay5 (F := Ideal) (iblk m c 2 t) (iblk m c 0 t) (iblk m c 1 t) (iblk m c 3 t) v i = v i + part m c t := by
  have e (v0 : Vec Ideal S512x1024 .f32) (a : Vec Ideal S512x2816 .bf16) (b : Vec Ideal S2816x1024 .bf16) (v5 : Vec Ideal S512x1024 .f32)
      (v : Vec Ideal S1x128 .f32) (p : Fin 1) (l : Fin 128) : k0_pay5 (F := Ideal) v0 a b v5 v (ix2 p l) = v (ix2 p l)
        + (∑ k : Fin 512, ∑ q : Fin 1024, k0_pay1 (F := Ideal) v0 a b v5 (ix2 k q) * k0_pay1 (F := Ideal) v0 a b v5 (ix2 k q))
          * Ideal.ofBits .f32 0x3A000000#32 := by
    unfold k0_pay5
    pointwise
  obtain ⟨p, l, rfl⟩ : ∃ p l, i = ix2 p l := ⟨_, _, eq_ix2 i⟩
  refine (e _ _ _ _ _ p l).trans ?_
  unfold part ss
  simp only [pay1, c11]

theorem outs5 (k : Fin 512) (q : Fin 1024) : (outsAt0 m c t.val t.isLt).2.1 (ix2 k q) = ((1 / 1024 : ℝ) : EReal) * df m c (row t k) q := by
  by_cases hA : (t : ℕ) % 16 = 0
  · rw [outsAt0_A m c t hA]
    frame_out
    exact pay2 m c t k q
  · rw [outsAt0_B m c t hA]
    frame_out
    exact pay2 m c t k q

theorem outs6 (k : Fin 512) (q : Fin 1024) : (outsAt0 m c t.val t.isLt).2.2 (ix2 k q) = ((1 / 1024 : ℝ) : EReal) * df m c (row t k) q := by
  by_cases hA : (t : ℕ) % 16 = 0
  · rw [outsAt0_A m c t hA]
    frame_out
    exact pay3 m c t k q
  · rw [outsAt0_B m c t hA]
    frame_out
    exact pay3 m c t k q

/-- The points' parts of the loss add up to the loss. -/
theorem parts : ∑ s : Fin 16, part m c ⟨(s : ℕ), lt_of_lt_of_eq s.isLt N_0.symm⟩ = ((1 / 2 : ℝ) : EReal) * ∑ n : Fin 8192, ((1 / 1024 : ℝ) : EReal) * ss m c n := by
  have e := Fin.sum_univ_univ_mul_add 16 512 (fun n => if h : n < 8192 then ss m c ⟨n, h⟩ else 0)
  have e1 : ∑ s : Fin 16, part m c ⟨(s : ℕ), lt_of_lt_of_eq s.isLt N_0.symm⟩ = ((1 / 2048 : ℝ) : EReal) * ∑ n : Fin 8192, ss m c n := by
    rw [show ∑ n : Fin 8192, ss m c n = ∑ s : Fin 16, ∑ k : Fin 512, ss m c ⟨512 * (s : ℕ) + k, by omega⟩ from ?_, mul_sum_of_nonneg _ _ (by norm_num)]
    · refine Finset.sum_congr rfl fun s _ => ?_
      rw [mul_comm]
      rfl
    · refine Eq.trans ?_ (e.symm.trans ?_)
      · refine Finset.sum_congr rfl fun n _ => ?_
        rw [dif_pos n.isLt]
      · refine Finset.sum_congr rfl fun s _ => Finset.sum_congr rfl fun r _ => ?_
        rw [dif_pos (by omega)]
        exact congrArg _ (Fin.ext (by show (s : ℕ) * 512 + (r : ℕ) = 512 * (s : ℕ) + r; omega))
  rw [e1, ← mul_sum_of_nonneg _ _ (by norm_num), ← mul_assoc, ← EReal.coe_mul]
  norm_num

/-- The last step leaves the whole loss. -/
theorem outs4 (i : S1x128.Idx) (hf : (t : ℕ) % 16 = 16 - 1) : (outsAt0 m c t.val t.isLt).1 i = lossArr m c i := by
  have hN := lt_of_lt_of_le t.isLt (le_of_eq N_0)
  rw [Pipeline.eq_sum_fin_of_reset_step_apply_of_flush (fun n h => (outsAt0 m c n h).1) 16 (fun _ => 0) (fun t _ => part m c t)
    (fun t h y => by
      rw [outsAt0_A m c t h]
      frame_out
      exact (pay5 m c t _ y).trans (congrArg (· + _) c0))
    (fun t h y => by
      rw [outsAt0_B m c t h]
      frame_out
      exact pay5 m c t _ y) t hf i, zero_add]
  refine Eq.trans (Finset.sum_congr rfl fun s _ => congrArg (part m c) (Fin.ext ?_)) (parts m c)
  show 16 * ((t : ℕ) / 16) + (s : ℕ) = s
  omega

end

theorem final4 : (dats m 0 c).arrAt 4 cfg0.N = lossArr m c := by
  refine (dats m 0 c).arrAt_eq_of_covers 4 _ (by decide +kernel) fun t hf y => ?_
  blk_simp
  rw [after0_4]
  exact outs4 m c t y ((flush0_4 t).mp hf)

theorem final5 : (dats m 0 c).arrAt 5 cfg0.N = dyArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  refine (outs5 m c t k q).trans (Eq.trans (b := dyArr m c (ix2 (row t k) q)) rfl ?_)
  congr 1
  unfold row
  symm
  blk_ext [idx t]

theorem final6 : (dats m 0 c).arrAt 6 cfg0.N = dybArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  refine (outs6 m c t k q).trans (Eq.trans (b := dybArr m c (ix2 (row t k) q)) rfl ?_)
  congr 1
  unfold row
  symm
  blk_ext [idx t]

/-- The reference's run, its arguments and counters. -/
theorem frame_reference : quiescent_DownLossRefIdeal := fun m g _ =>
  (θ_run (Cert.DownLossRefIdeal.defs (F := Ideal)) _ _).mono
    (fun r h => ⟨fun c => (h c).2.2.2, sem_eq_zero_of_no_sems (by decide) r.2⟩)
    (Cert.DownLossRefIdeal.Value.run m g)

theorem reference_loss : Cert.DownLossRefIdeal.Read.val_main_v19 (F := Ideal) (x0 m c) (x1 m c) (x2 m c) (x3 m c) = lossArr m c :=
  funext fun i => Cert.DownLossRefIdeal.Product.v19_apply _ _ _ _ i

theorem reference_dy : Cert.DownLossRefIdeal.Read.val_main_v18 (F := Ideal) (x0 m c) (x1 m c) (x2 m c) (x3 m c) = dyArr m c := by
  funext y
  obtain ⟨k, q, rfl⟩ : ∃ k q, y = ix2 k q := ⟨_, _, eq_ix2 y⟩
  exact Cert.DownLossRefIdeal.Product.v18_apply _ _ _ _ k q

theorem reference_dyb : Cert.DownLossRefIdeal.Read.val_main_v20 (F := Ideal) (x0 m c) (x1 m c) (x2 m c) (x3 m c) = dybArr m c := by
  funext y
  obtain ⟨k, q, rfl⟩ : ∃ k q, y = ix2 k q := ⟨_, _, eq_ix2 y⟩
  exact Cert.DownLossRefIdeal.Product.v20_apply _ _ _ _ k q

/-- The kernel's three results are the reference's. -/
theorem algebraic : algebraic_DownLossIdeal_DownLossRefIdeal := by
  intro m g m' g' hp ha
  refine ⟨lossArr m, dyArr m, dybArr m, ?_, ?_⟩
  · exact (θ_run _ _ _).mono (fun r h c => ⟨(h c).1.trans (final4 m c), (h c).2.1.trans (final5 m c), (h c).2.2.1.trans (final6 m c), (h c).2.2.2⟩)
      (Cert.DownLossIdeal.Value.run_blocks m g)
  · refine (θ_run _ _ _).mono (fun r h c => ?_) (Cert.DownLossRefIdeal.Value.run m' g')
    obtain ⟨h0, h1, h2, h3⟩ := ha c
    refine ⟨(h c).1.trans ?_, (h c).2.1.trans ?_, (h c).2.2.1.trans ?_, (h c).2.2.2⟩
    · refine (Cert.DownLossRefIdeal.Read.val_main_v19_eq (F := Ideal) _ _ _ _).trans ?_
      refine Eq.trans ?_ (reference_loss m c)
      exact congr (congr (congr (congrArg _ h0) h1) h2) h3
    · refine (Cert.DownLossRefIdeal.Read.val_main_v18_eq (F := Ideal) _ _ _ _).trans ?_
      refine Eq.trans ?_ (reference_dy m c)
      exact congr (congr (congr (congrArg _ h0) h1) h2) h3
    · refine (Cert.DownLossRefIdeal.Read.val_main_v20_eq (F := Ideal) _ _ _ _).trans ?_
      refine Eq.trans ?_ (reference_dyb m c)
      exact congr (congr (congr (congrArg _ h0) h1) h2) h3

end Cert.DownLossIdeal.Product
end
-- ==== Proof.Forward.Conv.lean ====
/- The claims about the forward convolution and its gated activation (`l0_conv_act`). -/
module

public import proofs.«01_k».proof.Defs
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Conv.Block
public import proofs.«01_k».proof.Proof.Forward.Sigmoid
public import Idealize.ShloMosaic.Lib.Pipeline.ValueKit

@[expose] public section

set_option maxRecDepth 16384

noncomputable section

namespace Cert.ConvFwdRefIdeal.Product

open Cert.ConvFwdRefIdeal Cert.ConvFwdRefIdeal.Gen Cert.ConvFwdRefIdeal.Read Idealize.ShloMosaic Idealize.ShloMosaic.TcCoe Cert.Conv

variable (x0 : Vec Ideal S8192x5632 .bf16) (x1 : Vec Ideal S3x5632 .f32) (x2 : Vec Ideal S5632 .f32)

/-- Column `q` of the convolution's input, taps and bias. -/
def col (q : Fin 5632) : Col where
  u t := if h : t < 8192 then x0 (ix2 ⟨t, h⟩ q) else 0
  w k := x1 (ix2 k q)
  b := x2 (ix1 q)

/-- The activation: the gate's `silu` times the value, both after the convolution. -/
def act (t : Fin 8192) (q : Fin 2816) : EReal :=
  (col x0 x1 x2 ⟨q, by omega⟩).conv t * logistic ((col x0 x1 x2 ⟨q, by omega⟩).conv t) * (col x0 x1 x2 ⟨2816 + q, by omega⟩).conv t

theorem v2_apply (n : Fin 8194) (q : Fin 5632) :
    val_main_v2 (F := Ideal) x0 (ix2 n q) = padded (col x0 x1 x2 q).u (n + 6) := by
  unfold val_main_v2 val_main_v1 val_main_v0 val_main_cst
  pointwise
  by_cases h : (n : ℕ) < 2
  · rw [dif_pos h, padded_lt (by omega)]
  · rw [dif_neg h, padded_ge (k := n - 2) (by omega)]
    unfold col
    dsimp only
    rw [dif_pos (show (n : ℕ) - 2 < 8192 by omega)]

theorem v25_apply (t : Fin 8192) (q : Fin 5632) :
    val_main_v25 (F := Ideal) x0 x1 x2 (ix2 t q) = (col x0 x1 x2 q).conv t := by
  unfold val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6 val_main_v5 val_main_v4 val_main_v3
  pointwise
  rw [v2_apply x0 x1 x2, v2_apply x0 x1 x2, v2_apply x0 x1 x2]
  unfold Col.conv
  dsimp only
  rw [show 1 + (t : ℕ) + 6 = t + 7 by omega, show 2 + (t : ℕ) + 6 = t + 8 by omega]
  rfl

theorem v30_apply (t : Fin 8192) (q : Fin 2816) : val_main_v30 (F := Ideal) x0 x1 x2 (ix2 t q) = act x0 x1 x2 t q := by
  unfold val_main_v30 val_main_v29 val_main_v28 val_main_call0_v5 val_main_call0_v4 val_main_call0_cst_0 val_main_call0_v3 val_main_call0_v2
    val_main_call0_cst val_main_call0_v1 val_main_call0_v0 val_main_v27 val_main_v26
  pointwise
  rw [v25_apply, v25_apply]
  rfl

end Cert.ConvFwdRefIdeal.Product

namespace Cert.ConvFwdIdeal.Product

open Cert.ConvFwdIdeal Cert.ConvFwdIdeal.Gen Idealize.ShloMosaic Idealize.ShloMosaic.TcCoe Idealize.SL.Sem Cert.Conv
open Cert.ConvFwdRefIdeal.Product (act col)
open Cert.KernelIdeal.Conv (sel_eq)

section Block

variable {i : grid0.Coords} {l : Fin 1408} {R : ℕ}

/-- Column `l` of a tile and of the halo before it holds rows of `u`: the tile's 512 from row `512 R`, and the sixteen before where they exist. -/
structure Halo (i : grid0.Coords) (l : Fin 1408) (R : ℕ) (u : ℕ → EReal) (p : Vec Ideal S16x1408 .bf16) (x : Vec Ideal S512x1408 .bf16) : Prop where
  coord : ((i 1 : Fin _) : ℕ) = R
  prev : R ≠ 0 → ∀ k : Fin 16, p (ix2 k l) = u (512 * R - 16 + k)
  cur : ∀ k : Fin 512, x (ix2 k l) = u (512 * R + k)

/-- Column `l` of the taps and of the bias. -/
structure Par (l : Fin 1408) (C : Col) (w : Vec Ideal S3x1408 .f32) (b : Vec Ideal S1x1408 .f32) : Prop where
  tap : ∀ k : Fin 3, w (ix2 k l) = C.w k
  bias : b (ix2 0 l) = C.b

/-- The tile under its halo is the column with eight rows of zeros above it, read from row `512 R`. -/
theorem tile_apply {u : ℕ → EReal} {p : Vec Ideal S16x1408 .bf16} {x : Vec Ideal S512x1408 .bf16} (H : Halo i l R u p x) (k : Fin 520) :
    k0_pay3 (F := Ideal) i p x (ix2 k l) = padded u (512 * R + k) := by
  unfold k0_pay3
  pointwise
  have h7 := H.coord
  have hR : R < 16 := h7 ▸ (i 1).isLt
  by_cases h8 : (k : ℕ) < 8
  · rw [dif_pos h8]
    refine (sel_eq _ _ (by omega) _ _).trans ?_
    by_cases h0 : R = 0
    · exact (if_pos (by rw [h7, h0]; rfl)).trans (padded_lt (by omega)).symm
    · refine (if_neg (by rw [h7]; exact h0)).trans ?_
      refine (H.prev h0 _).trans (padded_ge ?_).symm
      show 512 * R + (k : ℕ) = 512 * R - 16 + (8 + k) + 8
      omega
  · rw [dif_neg h8]
    refine (H.cur _).trans (padded_ge ?_).symm
    show 512 * R + (k : ℕ) = 512 * R + (k - 8) + 8
    omega

/-- A tile's convolution, from the tile under its halo. -/
def tileConv (v : FVec Ideal S520x1408 .f32) (w : Vec Ideal S3x1408 .f32) (b : Vec Ideal S1x1408 .f32) (r : Fin 512) (l : Fin 1408) : EReal :=
  w (ix2 0 l) * v (ix2 ⟨(8 + (r : ℕ) + 520 - 2) % 520, by omega⟩ l) + w (ix2 1 l) * v (ix2 ⟨(8 + (r : ℕ) + 520 - 1) % 520, by omega⟩ l)
    + w (ix2 2 l) * v (ix2 ⟨8 + (r : ℕ), by omega⟩ l) + b (ix2 0 l)

theorem tileConv_apply {C : Col} {p : Vec Ideal S16x1408 .bf16} {x : Vec Ideal S512x1408 .bf16} {w : Vec Ideal S3x1408 .f32} {b : Vec Ideal S1x1408 .f32}
    (H : Halo i l R C.u p x) (Q : Par l C w b) (r : Fin 512) : tileConv (k0_pay3 (F := Ideal) i p x) w b r l = C.conv (512 * R + r) := by
  unfold tileConv
  rw [tile_apply H, tile_apply H, tile_apply H, Q.tap, Q.tap, Q.tap, Q.bias]
  unfold Col.conv
  dsimp only
  rw [show 512 * R + (8 + (r : ℕ) + 520 - 2) % 520 = 512 * R + r + 6 by omega,
    show 512 * R + (8 + (r : ℕ) + 520 - 1) % 520 = 512 * R + r + 7 by omega,
    show 512 * R + (8 + (r : ℕ)) = 512 * R + r + 8 by omega]

theorem pay2_apply (p : Vec Ideal S16x1408 .bf16) (x : Vec Ideal S512x1408 .bf16) (w : Vec Ideal S3x1408 .f32) (b : Vec Ideal S1x1408 .f32) (r : Fin 512) :
    k0_pay2 (F := Ideal) i p x w b (ix2 r l) = tileConv (k0_pay3 (F := Ideal) i p x) w b r l := by
  unfold k0_pay2 tileConv k0_pay3
  pointwise

theorem pay1_apply (v : FVec Ideal S512x1408 .f32) (y : FVec Ideal S520x1408 .f32) (w : Vec Ideal S3x1408 .f32) (b : Vec Ideal S1x1408 .f32) (r : Fin 512) :
    k0_pay1 (F := Ideal) v y w b (ix2 r l) = v (ix2 r l) * sg (v (ix2 r l)) * tileConv y w b r l := by
  unfold k0_pay1 tileConv
  pointwise
  rfl

end Block

variable (m : (ℓ : Loc nD τ sig) → Buf (Elt Ideal) ℓ) (c : Dev nD)

theorem idx : ∀ t : Fin cfg0.N, ((grid0.coords t 1 : Fin _) : ℕ) = (t : ℕ) % 16 ∧
    win0_0.index t = ![(t : ℕ) % 16, (t : ℕ) / 16] ∧ win0_1.index t = ![32 * ((t : ℕ) % 16) - 1, (t : ℕ) / 16] ∧
    win0_2.index t = ![(t : ℕ) % 16, 2 + (t : ℕ) / 16] ∧ win0_3.index t = ![32 * ((t : ℕ) % 16) - 1, 2 + (t : ℕ) / 16] ∧
    win0_4.index t = ![0, (t : ℕ) / 16] ∧ win0_5.index t = ![0, 2 + (t : ℕ) / 16] ∧
    win0_6.index t = ![0, (t : ℕ) / 16] ∧ win0_7.index t = ![0, 2 + (t : ℕ) / 16] ∧ win0_8.index t = ![(t : ℕ) % 16, (t : ℕ) / 16] :=
  (by decide +kernel : ∀ t : Fin grid0.N, _)

/-- The row that row `k` of a point's blocks is. -/
def row (t : Fin cfg0.N) (k : Fin 512) : Fin 8192 := ⟨512 * ((t : ℕ) % 16) + k, by omega⟩

/-- The column that column `l` of a point's blocks is. -/
def lane (t : Fin cfg0.N) (l : Fin 1408) : Fin 2816 :=
  ⟨1408 * ((t : ℕ) / 16) + l, by have := lt_of_lt_of_le t.isLt (le_of_eq N_0); omega⟩

/-- The launch's arguments. -/
abbrev x0 : Vec Ideal S8192x5632 .bf16 := m ((c : Thread nD τ).loc main_arg0)
abbrev x1 : Vec Ideal S3x5632 .f32 := m ((c : Thread nD τ).loc main_arg1)
abbrev x2 : Vec Ideal S5632 .f32 := m ((c : Thread nD τ).loc main_arg2)

/-- The gate's column `q` and the value's. -/
def gateCol (q : Fin 2816) : Col := col (x0 m c) (x1 m c) (x2 m c) ⟨q, by omega⟩
def valCol (q : Fin 2816) : Col := col (x0 m c) (x1 m c) (x2 m c) ⟨2816 + q, by omega⟩

def actArr : Vec Ideal S8192x2816 .bf16 := fun y => act (x0 m c) (x1 m c) (x2 m c) (y 0) (y 1)

section
variable (t : Fin cfg0.N) (l : Fin 1408)

theorem haloG : Halo (grid0.coords t) l ((t : ℕ) % 16) (gateCol m c (lane t l)).u (iblk m c 1 t) (iblk m c 0 t) where
  coord := (idx t).1
  prev h0 k := by
    unfold gateCol col lane
    dsimp only
    rw [dif_pos (by omega)]
    blk_ext [iblk, V, idx t]
  cur k := by
    unfold gateCol col lane
    dsimp only
    rw [dif_pos (by omega)]
    blk_ext [iblk, V, idx t]

theorem haloV : Halo (grid0.coords t) l ((t : ℕ) % 16) (valCol m c (lane t l)).u (iblk m c 3 t) (iblk m c 2 t) where
  coord := (idx t).1
  prev h0 k := by
    unfold valCol col lane
    dsimp only
    rw [dif_pos (by omega)]
    blk_ext [iblk, V, idx t]
  cur k := by
    unfold valCol col lane
    dsimp only
    rw [dif_pos (by omega)]
    blk_ext [iblk, V, idx t]

theorem parG : Par l (gateCol m c (lane t l)) (iblk m c 4 t) (iblk m c 6 t) where
  tap k := by
    unfold gateCol col lane
    dsimp only
    blk_ext [iblk, V, idx t]
  bias := by
    unfold gateCol col lane
    dsimp only
    blk_point [iblk, V, idx t]

theorem parV : Par l (valCol m c (lane t l)) (iblk m c 5 t) (iblk m c 7 t) where
  tap k := by
    unfold valCol col lane
    dsimp only
    blk_ext [iblk, V, idx t]
  bias := by
    unfold valCol col lane
    dsimp only
    blk_point [iblk, V, idx t]

theorem point (r : Fin 512) :
    k0_pay1 (F := Ideal) (k0_pay2 (grid0.coords t) (iblk m c 1 t) (iblk m c 0 t) (iblk m c 4 t) (iblk m c 6 t))
      (k0_pay3 (grid0.coords t) (iblk m c 3 t) (iblk m c 2 t)) (iblk m c 5 t) (iblk m c 7 t) (ix2 r l)
      = act (x0 m c) (x1 m c) (x2 m c) (row t r) (lane t l) := by
  refine (pay1_apply _ _ _ _ r).trans ?_
  have hv := tileConv_apply (haloV m c t l) (parV m c t l) r
  have hg := (pay2_apply _ _ _ _ r).trans (tileConv_apply (haloG m c t l) (parG m c t l) r)
  rw [hv, hg, sg_eq_logistic]
  rfl

end

theorem final8 : (dats m 0 c).arrAt 8 cfg0.N = actArr m c := by
  refine (dats m 0 c).arrAt_eq_of_covers 8 _ (by decide +kernel) fun t hf y => ?_
  obtain ⟨k, l, rfl⟩ : ∃ k l, y = ix2 k l := ⟨_, _, eq_ix2 y⟩
  blk_simp
  rw [after0_8]
  frame_out
  refine (point m c t l k).trans (Eq.trans (b := actArr m c (ix2 (row t k) (lane t l))) rfl ?_)
  congr 1
  unfold row lane
  symm
  blk_ext [idx t]

/-- The reference's run, its arguments and counters. -/
theorem frame_reference : quiescent_ConvFwdRefIdeal := fun m g _ =>
  (θ_run (Cert.ConvFwdRefIdeal.defs (F := Ideal)) _ _).mono
    (fun r h => ⟨fun c => (h c).2, sem_eq_zero_of_no_sems (by decide) r.2⟩)
    (Cert.ConvFwdRefIdeal.Value.run m g)

theorem reference_eq : Cert.ConvFwdRefIdeal.Read.val_main_v30 (F := Ideal) (x0 m c) (x1 m c) (x2 m c) = actArr m c := by
  funext y
  obtain ⟨k, l, rfl⟩ : ∃ k l, y = ix2 k l := ⟨_, _, eq_ix2 y⟩
  exact Cert.ConvFwdRefIdeal.Product.v30_apply _ _ _ k l

/-- The kernel's activation is the reference's. -/
theorem algebraic : algebraic_ConvFwdIdeal_ConvFwdRefIdeal := by
  intro m g m' g' hp ha
  refine ⟨actArr m, ?_, ?_⟩
  · exact (θ_run _ _ _).mono (fun r h c => ⟨(h c).1.trans (final8 m c), (h c).2⟩) (Cert.ConvFwdIdeal.Value.run_blocks m g)
  · refine (θ_run _ _ _).mono (fun r h c => ⟨(h c).1.trans ?_, (h c).2⟩) (Cert.ConvFwdRefIdeal.Value.run m' g')
    obtain ⟨h0, h1, h2⟩ := ha c
    refine (Cert.ConvFwdRefIdeal.Read.val_main_v30_eq (F := Ideal) _ _).trans ?_
    refine Eq.trans ?_ (reference_eq m c)
    exact congr (congr (congrArg _ h0) h1) h2

end Cert.ConvFwdIdeal.Product
end
-- ==== Proof.Adam.Up.lean ====
/- The claims about the AdamW update of the up projection's weights: each new moment and step is the update rule of its own elements. -/
module

public import proofs.«01_k».proof.Defs
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import Idealize.ShloMosaic.Lib.Pipeline.ValueKit

@[expose] public section

set_option maxRecDepth 16384

noncomputable section

namespace Cert.AdamUpIdeal.Product

open Cert.AdamUpIdeal Cert.AdamUpIdeal.Gen Idealize.ShloMosaic Idealize.ShloMosaic.TcCoe Idealize.SL.Sem
open Cert.AdamUpRefIdeal.Read (val_main_v4 val_main_v10 val_main_v23)

variable (m : (ℓ : Loc nD τ sig) → Buf (Elt Ideal) ℓ) (c : Dev nD)

theorem idx : ∀ t : Fin cfg0.N, win0_0.index t = ![(t : ℕ), 0] ∧ win0_1.index t = ![(t : ℕ), 0] ∧ win0_2.index t = ![(t : ℕ), 0] ∧
    win0_3.index t = ![(t : ℕ), 0] ∧ win0_4.index t = ![(t : ℕ), 0] ∧ win0_5.index t = ![(t : ℕ), 0] ∧ win0_6.index t = ![(t : ℕ), 0] ∧
    win0_7.index t = ![(t : ℕ), 0] :=
  (by decide +kernel : ∀ t : Fin grid0.N, _)

/-- The row that row `k` of a point's blocks is. -/
def row (t : Fin cfg0.N) (k : Fin 256) : Fin 2048 :=
  ⟨256 * (t : ℕ) + k, by have := lt_of_lt_of_le t.isLt (le_of_eq N_0); omega⟩

/-- The launch's weights, gradient and two moments. -/
abbrev W : Vec Ideal S2048x1408 .f32 := m ((c : Thread nD τ).loc main_arg0)
abbrev G : Vec Ideal S2048x1408 .f32 := m ((c : Thread nD τ).loc main_arg1)
abbrev M : Vec Ideal S2048x1408 .f32 := m ((c : Thread nD τ).loc main_arg2)
abbrev U : Vec Ideal S2048x1408 .f32 := m ((c : Thread nD τ).loc main_arg3)

/-- The step and the two new moments, as the reference states them. -/
def stepArr : Vec Ideal S2048x1408 .f32 := val_main_v23 (F := Ideal) (W m c) (G m c) (M m c) (U m c)
def firstArr : Vec Ideal S2048x1408 .f32 := val_main_v4 (F := Ideal) (G m c) (M m c)
def secondArr : Vec Ideal S2048x1408 .f32 := val_main_v10 (F := Ideal) (G m c) (U m c)

theorem weights (t : Fin cfg0.N) (k : Fin 256) (q : Fin 1408) : iblk m c 0 t (ix2 k q) = W m c (ix2 (row t k) q) := by
  unfold row
  blk_ext [iblk, V, idx t]

theorem gradient (t : Fin cfg0.N) (k : Fin 256) (q : Fin 1408) : iblk m c 1 t (ix2 k q) = G m c (ix2 (row t k) q) := by
  unfold row
  blk_ext [iblk, V, idx t]

theorem first (t : Fin cfg0.N) (k : Fin 256) (q : Fin 1408) : iblk m c 2 t (ix2 k q) = M m c (ix2 (row t k) q) := by
  unfold row
  blk_ext [iblk, V, idx t]

theorem second (t : Fin cfg0.N) (k : Fin 256) (q : Fin 1408) : iblk m c 3 t (ix2 k q) = U m c (ix2 (row t k) q) := by
  unfold row
  blk_ext [iblk, V, idx t]

/-- The first moment's rule, at one element. -/
def firstAt (g a : EReal) : EReal := Scalar.ofBits (F := Ideal) .f32 0x3F666666#32 * a + Scalar.ofBits (F := Ideal) .f32 0x3DCCCCCD#32 * g

/-- The second moment's rule, at one element. -/
def secondAt (g b : EReal) : EReal := Scalar.ofBits (F := Ideal) .f32 0x3F7FBE77#32 * b + Scalar.ofBits (F := Ideal) .f32 0x3A83126F#32 * (g * g)

theorem pay1 (g a : Vec Ideal S256x1408 .f32) (i : S256x1408.Idx) : k0_pay1 (F := Ideal) g a i = firstAt (g i) (a i) := rfl
theorem pay2 (g b : Vec Ideal S256x1408 .f32) (i : S256x1408.Idx) : k0_pay2 (F := Ideal) g b i = secondAt (g i) (b i) := rfl

/-- The step, at one element. -/
def stepAt (w g a b : EReal) : EReal :=
  Scalar.ofBits (F := Ideal) .f32 0xBA83126F#32 * (FloatOps.divf (F := Ideal) (φ := .f32)
      (FloatOps.divf (F := Ideal) (φ := .f32) (firstAt g a) (Scalar.ofBits (F := Ideal) .f32 0x3F26BD02#32))
      (FloatOps.sqrt (F := Ideal) (φ := .f32)
          (FloatOps.divf (F := Ideal) (φ := .f32) (secondAt g b) (Scalar.ofBits (F := Ideal) .f32 0x3C231ACC#32))
        + Scalar.ofBits (F := Ideal) .f32 0x322BCC77#32)
    + Scalar.ofBits (F := Ideal) .f32 0x3C23D70A#32 * w)

theorem pay3 (g a b w : Vec Ideal S256x1408 .f32) (i : S256x1408.Idx) : k0_pay3 (F := Ideal) g a b w i = stepAt (w i) (g i) (a i) (b i) := rfl

theorem ref_first (g a : Vec Ideal S2048x1408 .f32) (i : S2048x1408.Idx) : val_main_v4 (F := Ideal) g a i = firstAt (g i) (a i) := rfl
theorem ref_second (g b : Vec Ideal S2048x1408 .f32) (i : S2048x1408.Idx) : val_main_v10 (F := Ideal) g b i = secondAt (g i) (b i) := rfl
theorem ref_step (w g a b : Vec Ideal S2048x1408 .f32) (i : S2048x1408.Idx) : val_main_v23 (F := Ideal) w g a b i = stepAt (w i) (g i) (a i) (b i) := rfl

theorem point_step (t : Fin cfg0.N) (k : Fin 256) (q : Fin 1408) :
    k0_pay3 (F := Ideal) (iblk m c 1 t) (iblk m c 2 t) (iblk m c 3 t) (iblk m c 0 t) (ix2 k q) = stepArr m c (ix2 (row t k) q) := by
  refine (pay3 _ _ _ _ _).trans (Eq.trans ?_ (ref_step _ _ _ _ _).symm)
  rw [weights, gradient, first, second]

theorem point_first (t : Fin cfg0.N) (k : Fin 256) (q : Fin 1408) :
    k0_pay1 (F := Ideal) (iblk m c 1 t) (iblk m c 2 t) (ix2 k q) = firstArr m c (ix2 (row t k) q) := by
  refine (pay1 _ _ _).trans (Eq.trans ?_ (ref_first _ _ _).symm)
  rw [gradient, first]

theorem point_second (t : Fin cfg0.N) (k : Fin 256) (q : Fin 1408) :
    k0_pay2 (F := Ideal) (iblk m c 1 t) (iblk m c 3 t) (ix2 k q) = secondArr m c (ix2 (row t k) q) := by
  refine (pay2 _ _ _).trans (Eq.trans ?_ (ref_second _ _ _).symm)
  rw [gradient, second]

theorem final4 : (dats m 0 c).arrAt 4 cfg0.N = stepArr m c := by
  refine (dats m 0 c).arrAt_eq_of_covers 4 _ (by decide +kernel) fun t hf y => ?_
  obtain ⟨k, q, rfl⟩ : ∃ k q, y = ix2 k q := ⟨_, _, eq_ix2 y⟩
  blk_simp
  rw [after0_4]
  frame_out
  refine (point_step m c t k q).trans ?_
  congr 1
  unfold row
  symm
  blk_ext [idx t]

theorem final5 : (dats m 0 c).arrAt 5 cfg0.N = firstArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  frame_out
  refine (point_first m c t k q).trans ?_
  congr 1
  unfold row
  symm
  blk_ext [idx t]

theorem final6 : (dats m 0 c).arrAt 6 cfg0.N = secondArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  frame_out
  refine (point_second m c t k q).trans ?_
  congr 1
  unfold row
  symm
  blk_ext [idx t]

theorem final7 : (dats m 0 c).arrAt 7 cfg0.N = G m c := by
  refine (dats m 0 c).arrAt_eq_of_covers 7 _ (by decide +kernel) fun t hf y => ?_
  obtain ⟨k, q, rfl⟩ : ∃ k q, y = ix2 k q := ⟨_, _, eq_ix2 y⟩
  blk_simp
  rw [after0_7]
  frame_out
  refine (gradient m c t k q).trans ?_
  congr 1
  unfold row
  symm
  blk_ext [idx t]

/-- The reference's run, its arguments and counters. -/
theorem frame_reference : quiescent_AdamUpRefIdeal := fun m g _ =>
  (θ_run (Cert.AdamUpRefIdeal.defs (F := Ideal)) _ _).mono
    (fun r h => ⟨fun c => (h c).2.2.2.2, sem_eq_zero_of_no_sems (by decide) r.2⟩)
    (Cert.AdamUpRefIdeal.Value.run m g)

/-- The kernel's results are the reference's: the step, the two new moments and the gradient. -/
theorem algebraic : algebraic_AdamUpIdeal_AdamUpRefIdeal := by
  intro m g m' g' hp ha
  refine ⟨stepArr m, firstArr m, secondArr m, G m, ?_, ?_⟩
  · exact (θ_run _ _ _).mono (fun r h c => ⟨(h c).1.trans (final4 m c), (h c).2.1.trans (final5 m c), (h c).2.2.1.trans (final6 m c),
      (h c).2.2.2.1.trans (final7 m c), (h c).2.2.2.2⟩) (Cert.AdamUpIdeal.Value.run_blocks m g)
  · refine (θ_run _ _ _).mono (fun r h c => ?_) (Cert.AdamUpRefIdeal.Value.run m' g')
    obtain ⟨h0, h1, h2, h3⟩ := ha c
    refine ⟨(h c).1.trans ?_, (h c).2.1.trans ?_, (h c).2.2.1.trans ?_, (h c).2.2.2.1.trans h1, (h c).2.2.2.2⟩
    · refine (Cert.AdamUpRefIdeal.Read.val_main_v23_eq (F := Ideal) _ _ _ _).trans ?_
      exact congr (congr (congr (congrArg _ h0) h1) h2) h3
    · refine (Cert.AdamUpRefIdeal.Read.val_main_v4_eq (F := Ideal) _ _).trans ?_
      exact congr (congrArg _ h1) h2
    · refine (Cert.AdamUpRefIdeal.Read.val_main_v10_eq (F := Ideal) _ _).trans ?_
      exact congr (congrArg _ h1) h3

end Cert.AdamUpIdeal.Product
end
-- ==== Proof.Adam.In.lean ====
/- The claims about the AdamW update of the in projection's weights: each new moment and step is the update rule of its own elements. -/
module

public import proofs.«01_k».proof.Defs
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import Idealize.ShloMosaic.Lib.Pipeline.ValueKit

@[expose] public section

set_option maxRecDepth 16384

noncomputable section

namespace Cert.AdamInIdeal.Product

open Cert.AdamInIdeal Cert.AdamInIdeal.Gen Idealize.ShloMosaic Idealize.ShloMosaic.TcCoe Idealize.SL.Sem
open Cert.AdamInRefIdeal.Read (val_main_v4 val_main_v10 val_main_v23)

variable (m : (ℓ : Loc nD τ sig) → Buf (Elt Ideal) ℓ) (c : Dev nD)

theorem idx : ∀ t : Fin cfg0.N, win0_0.index t = ![(t : ℕ), 0] ∧ win0_1.index t = ![(t : ℕ), 0] ∧ win0_2.index t = ![(t : ℕ), 0] ∧
    win0_3.index t = ![(t : ℕ), 0] ∧ win0_4.index t = ![(t : ℕ), 0] ∧ win0_5.index t = ![(t : ℕ), 0] ∧ win0_6.index t = ![(t : ℕ), 0] ∧
    win0_7.index t = ![(t : ℕ), 0] :=
  (by decide +kernel : ∀ t : Fin grid0.N, _)

/-- The row that row `k` of a point's blocks is. -/
def row (t : Fin cfg0.N) (k : Fin 256) : Fin 2048 :=
  ⟨256 * (t : ℕ) + k, by have := lt_of_lt_of_le t.isLt (le_of_eq N_0); omega⟩

/-- The launch's weights, gradient and two moments. -/
abbrev W : Vec Ideal S2048x1152 .f32 := m ((c : Thread nD τ).loc main_arg0)
abbrev G : Vec Ideal S2048x1152 .f32 := m ((c : Thread nD τ).loc main_arg1)
abbrev M : Vec Ideal S2048x1152 .f32 := m ((c : Thread nD τ).loc main_arg2)
abbrev U : Vec Ideal S2048x1152 .f32 := m ((c : Thread nD τ).loc main_arg3)

/-- The step and the two new moments, as the reference states them. -/
def stepArr : Vec Ideal S2048x1152 .f32 := val_main_v23 (F := Ideal) (W m c) (G m c) (M m c) (U m c)
def firstArr : Vec Ideal S2048x1152 .f32 := val_main_v4 (F := Ideal) (G m c) (M m c)
def secondArr : Vec Ideal S2048x1152 .f32 := val_main_v10 (F := Ideal) (G m c) (U m c)

theorem weights (t : Fin cfg0.N) (k : Fin 256) (q : Fin 1152) : iblk m c 0 t (ix2 k q) = W m c (ix2 (row t k) q) := by
  unfold row
  blk_ext [iblk, V, idx t]

theorem gradient (t : Fin cfg0.N) (k : Fin 256) (q : Fin 1152) : iblk m c 1 t (ix2 k q) = G m c (ix2 (row t k) q) := by
  unfold row
  blk_ext [iblk, V, idx t]

theorem first (t : Fin cfg0.N) (k : Fin 256) (q : Fin 1152) : iblk m c 2 t (ix2 k q) = M m c (ix2 (row t k) q) := by
  unfold row
  blk_ext [iblk, V, idx t]

theorem second (t : Fin cfg0.N) (k : Fin 256) (q : Fin 1152) : iblk m c 3 t (ix2 k q) = U m c (ix2 (row t k) q) := by
  unfold row
  blk_ext [iblk, V, idx t]

/-- The first moment's rule, at one element. -/
def firstAt (g a : EReal) : EReal := Scalar.ofBits (F := Ideal) .f32 0x3F666666#32 * a + Scalar.ofBits (F := Ideal) .f32 0x3DCCCCCD#32 * g

/-- The second moment's rule, at one element. -/
def secondAt (g b : EReal) : EReal := Scalar.ofBits (F := Ideal) .f32 0x3F7FBE77#32 * b + Scalar.ofBits (F := Ideal) .f32 0x3A83126F#32 * (g * g)

theorem pay1 (g a : Vec Ideal S256x1152 .f32) (i : S256x1152.Idx) : k0_pay1 (F := Ideal) g a i = firstAt (g i) (a i) := rfl
theorem pay2 (g b : Vec Ideal S256x1152 .f32) (i : S256x1152.Idx) : k0_pay2 (F := Ideal) g b i = secondAt (g i) (b i) := rfl

/-- The step, at one element. -/
def stepAt (w g a b : EReal) : EReal :=
  Scalar.ofBits (F := Ideal) .f32 0xBA83126F#32 * (FloatOps.divf (F := Ideal) (φ := .f32)
      (FloatOps.divf (F := Ideal) (φ := .f32) (firstAt g a) (Scalar.ofBits (F := Ideal) .f32 0x3F26BD02#32))
      (FloatOps.sqrt (F := Ideal) (φ := .f32)
          (FloatOps.divf (F := Ideal) (φ := .f32) (secondAt g b) (Scalar.ofBits (F := Ideal) .f32 0x3C231ACC#32))
        + Scalar.ofBits (F := Ideal) .f32 0x322BCC77#32)
    + Scalar.ofBits (F := Ideal) .f32 0x3C23D70A#32 * w)

theorem pay3 (g a b w : Vec Ideal S256x1152 .f32) (i : S256x1152.Idx) : k0_pay3 (F := Ideal) g a b w i = stepAt (w i) (g i) (a i) (b i) := rfl

theorem ref_first (g a : Vec Ideal S2048x1152 .f32) (i : S2048x1152.Idx) : val_main_v4 (F := Ideal) g a i = firstAt (g i) (a i) := rfl
theorem ref_second (g b : Vec Ideal S2048x1152 .f32) (i : S2048x1152.Idx) : val_main_v10 (F := Ideal) g b i = secondAt (g i) (b i) := rfl
theorem ref_step (w g a b : Vec Ideal S2048x1152 .f32) (i : S2048x1152.Idx) : val_main_v23 (F := Ideal) w g a b i = stepAt (w i) (g i) (a i) (b i) := rfl

theorem point_step (t : Fin cfg0.N) (k : Fin 256) (q : Fin 1152) :
    k0_pay3 (F := Ideal) (iblk m c 1 t) (iblk m c 2 t) (iblk m c 3 t) (iblk m c 0 t) (ix2 k q) = stepArr m c (ix2 (row t k) q) := by
  refine (pay3 _ _ _ _ _).trans (Eq.trans ?_ (ref_step _ _ _ _ _).symm)
  rw [weights, gradient, first, second]

theorem point_first (t : Fin cfg0.N) (k : Fin 256) (q : Fin 1152) :
    k0_pay1 (F := Ideal) (iblk m c 1 t) (iblk m c 2 t) (ix2 k q) = firstArr m c (ix2 (row t k) q) := by
  refine (pay1 _ _ _).trans (Eq.trans ?_ (ref_first _ _ _).symm)
  rw [gradient, first]

theorem point_second (t : Fin cfg0.N) (k : Fin 256) (q : Fin 1152) :
    k0_pay2 (F := Ideal) (iblk m c 1 t) (iblk m c 3 t) (ix2 k q) = secondArr m c (ix2 (row t k) q) := by
  refine (pay2 _ _ _).trans (Eq.trans ?_ (ref_second _ _ _).symm)
  rw [gradient, second]

theorem final4 : (dats m 0 c).arrAt 4 cfg0.N = stepArr m c := by
  refine (dats m 0 c).arrAt_eq_of_covers 4 _ (by decide +kernel) fun t hf y => ?_
  obtain ⟨k, q, rfl⟩ : ∃ k q, y = ix2 k q := ⟨_, _, eq_ix2 y⟩
  blk_simp
  rw [after0_4]
  frame_out
  refine (point_step m c t k q).trans ?_
  congr 1
  unfold row
  symm
  blk_ext [idx t]

theorem final5 : (dats m 0 c).arrAt 5 cfg0.N = firstArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  frame_out
  refine (point_first m c t k q).trans ?_
  congr 1
  unfold row
  symm
  blk_ext [idx t]

theorem final6 : (dats m 0 c).arrAt 6 cfg0.N = secondArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  frame_out
  refine (point_second m c t k q).trans ?_
  congr 1
  unfold row
  symm
  blk_ext [idx t]

theorem final7 : (dats m 0 c).arrAt 7 cfg0.N = G m c := by
  refine (dats m 0 c).arrAt_eq_of_covers 7 _ (by decide +kernel) fun t hf y => ?_
  obtain ⟨k, q, rfl⟩ : ∃ k q, y = ix2 k q := ⟨_, _, eq_ix2 y⟩
  blk_simp
  rw [after0_7]
  frame_out
  refine (gradient m c t k q).trans ?_
  congr 1
  unfold row
  symm
  blk_ext [idx t]

/-- The reference's run, its arguments and counters. -/
theorem frame_reference : quiescent_AdamInRefIdeal := fun m g _ =>
  (θ_run (Cert.AdamInRefIdeal.defs (F := Ideal)) _ _).mono
    (fun r h => ⟨fun c => (h c).2.2.2.2, sem_eq_zero_of_no_sems (by decide) r.2⟩)
    (Cert.AdamInRefIdeal.Value.run m g)

/-- The kernel's results are the reference's: the step, the two new moments and the gradient. -/
theorem algebraic : algebraic_AdamInIdeal_AdamInRefIdeal := by
  intro m g m' g' hp ha
  refine ⟨stepArr m, firstArr m, secondArr m, G m, ?_, ?_⟩
  · exact (θ_run _ _ _).mono (fun r h c => ⟨(h c).1.trans (final4 m c), (h c).2.1.trans (final5 m c), (h c).2.2.1.trans (final6 m c),
      (h c).2.2.2.1.trans (final7 m c), (h c).2.2.2.2⟩) (Cert.AdamInIdeal.Value.run_blocks m g)
  · refine (θ_run _ _ _).mono (fun r h c => ?_) (Cert.AdamInRefIdeal.Value.run m' g')
    obtain ⟨h0, h1, h2, h3⟩ := ha c
    refine ⟨(h c).1.trans ?_, (h c).2.1.trans ?_, (h c).2.2.1.trans ?_, (h c).2.2.2.1.trans h1, (h c).2.2.2.2⟩
    · refine (Cert.AdamInRefIdeal.Read.val_main_v23_eq (F := Ideal) _ _ _ _).trans ?_
      exact congr (congr (congr (congrArg _ h0) h1) h2) h3
    · refine (Cert.AdamInRefIdeal.Read.val_main_v4_eq (F := Ideal) _ _).trans ?_
      exact congr (congrArg _ h1) h2
    · refine (Cert.AdamInRefIdeal.Read.val_main_v10_eq (F := Ideal) _ _).trans ?_
      exact congr (congrArg _ h1) h3

end Cert.AdamInIdeal.Product
end
-- ==== Proof.Adam.Down.lean ====
/- The claims about the AdamW update of the down projection's weights: each new moment and step is the update rule of its own elements. -/
module

public import proofs.«01_k».proof.Defs
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import Idealize.ShloMosaic.Lib.Pipeline.ValueKit

@[expose] public section

set_option maxRecDepth 16384

noncomputable section

namespace Cert.AdamDownIdeal.Product

open Cert.AdamDownIdeal Cert.AdamDownIdeal.Gen Idealize.ShloMosaic Idealize.ShloMosaic.TcCoe Idealize.SL.Sem
open Cert.AdamDownRefIdeal.Read (val_main_v4 val_main_v10 val_main_v23)

variable (m : (ℓ : Loc nD τ sig) → Buf (Elt Ideal) ℓ) (c : Dev nD)

theorem idx : ∀ t : Fin cfg0.N, win0_0.index t = ![(t : ℕ), 0] ∧ win0_1.index t = ![(t : ℕ), 0] ∧ win0_2.index t = ![(t : ℕ), 0] ∧
    win0_3.index t = ![(t : ℕ), 0] ∧ win0_4.index t = ![(t : ℕ), 0] ∧ win0_5.index t = ![(t : ℕ), 0] ∧ win0_6.index t = ![(t : ℕ), 0] ∧
    win0_7.index t = ![(t : ℕ), 0] :=
  (by decide +kernel : ∀ t : Fin grid0.N, _)

/-- The row that row `k` of a point's blocks is. -/
def row (t : Fin cfg0.N) (k : Fin 176) : Fin 1408 :=
  ⟨176 * (t : ℕ) + k, by have := lt_of_lt_of_le t.isLt (le_of_eq N_0); omega⟩

/-- The launch's weights, gradient and two moments. -/
abbrev W : Vec Ideal S1408x1024 .f32 := m ((c : Thread nD τ).loc main_arg0)
abbrev G : Vec Ideal S1408x1024 .f32 := m ((c : Thread nD τ).loc main_arg1)
abbrev M : Vec Ideal S1408x1024 .f32 := m ((c : Thread nD τ).loc main_arg2)
abbrev U : Vec Ideal S1408x1024 .f32 := m ((c : Thread nD τ).loc main_arg3)

/-- The step and the two new moments, as the reference states them. -/
def stepArr : Vec Ideal S1408x1024 .f32 := val_main_v23 (F := Ideal) (W m c) (G m c) (M m c) (U m c)
def firstArr : Vec Ideal S1408x1024 .f32 := val_main_v4 (F := Ideal) (G m c) (M m c)
def secondArr : Vec Ideal S1408x1024 .f32 := val_main_v10 (F := Ideal) (G m c) (U m c)

theorem weights (t : Fin cfg0.N) (k : Fin 176) (q : Fin 1024) : iblk m c 0 t (ix2 k q) = W m c (ix2 (row t k) q) := by
  unfold row
  blk_ext [iblk, V, idx t]

theorem gradient (t : Fin cfg0.N) (k : Fin 176) (q : Fin 1024) : iblk m c 1 t (ix2 k q) = G m c (ix2 (row t k) q) := by
  unfold row
  blk_ext [iblk, V, idx t]

theorem first (t : Fin cfg0.N) (k : Fin 176) (q : Fin 1024) : iblk m c 2 t (ix2 k q) = M m c (ix2 (row t k) q) := by
  unfold row
  blk_ext [iblk, V, idx t]

theorem second (t : Fin cfg0.N) (k : Fin 176) (q : Fin 1024) : iblk m c 3 t (ix2 k q) = U m c (ix2 (row t k) q) := by
  unfold row
  blk_ext [iblk, V, idx t]

/-- The first moment's rule, at one element. -/
def firstAt (g a : EReal) : EReal := Scalar.ofBits (F := Ideal) .f32 0x3F666666#32 * a + Scalar.ofBits (F := Ideal) .f32 0x3DCCCCCD#32 * g

/-- The second moment's rule, at one element. -/
def secondAt (g b : EReal) : EReal := Scalar.ofBits (F := Ideal) .f32 0x3F7FBE77#32 * b + Scalar.ofBits (F := Ideal) .f32 0x3A83126F#32 * (g * g)

theorem pay1 (g a : Vec Ideal S176x1024 .f32) (i : S176x1024.Idx) : k0_pay1 (F := Ideal) g a i = firstAt (g i) (a i) := rfl
theorem pay2 (g b : Vec Ideal S176x1024 .f32) (i : S176x1024.Idx) : k0_pay2 (F := Ideal) g b i = secondAt (g i) (b i) := rfl

/-- The step, at one element. -/
def stepAt (w g a b : EReal) : EReal :=
  Scalar.ofBits (F := Ideal) .f32 0xBA83126F#32 * (FloatOps.divf (F := Ideal) (φ := .f32)
      (FloatOps.divf (F := Ideal) (φ := .f32) (firstAt g a) (Scalar.ofBits (F := Ideal) .f32 0x3F26BD02#32))
      (FloatOps.sqrt (F := Ideal) (φ := .f32)
          (FloatOps.divf (F := Ideal) (φ := .f32) (secondAt g b) (Scalar.ofBits (F := Ideal) .f32 0x3C231ACC#32))
        + Scalar.ofBits (F := Ideal) .f32 0x322BCC77#32)
    + Scalar.ofBits (F := Ideal) .f32 0x3C23D70A#32 * w)

theorem pay3 (g a b w : Vec Ideal S176x1024 .f32) (i : S176x1024.Idx) : k0_pay3 (F := Ideal) g a b w i = stepAt (w i) (g i) (a i) (b i) := rfl

theorem ref_first (g a : Vec Ideal S1408x1024 .f32) (i : S1408x1024.Idx) : val_main_v4 (F := Ideal) g a i = firstAt (g i) (a i) := rfl
theorem ref_second (g b : Vec Ideal S1408x1024 .f32) (i : S1408x1024.Idx) : val_main_v10 (F := Ideal) g b i = secondAt (g i) (b i) := rfl
theorem ref_step (w g a b : Vec Ideal S1408x1024 .f32) (i : S1408x1024.Idx) : val_main_v23 (F := Ideal) w g a b i = stepAt (w i) (g i) (a i) (b i) := rfl

theorem point_step (t : Fin cfg0.N) (k : Fin 176) (q : Fin 1024) :
    k0_pay3 (F := Ideal) (iblk m c 1 t) (iblk m c 2 t) (iblk m c 3 t) (iblk m c 0 t) (ix2 k q) = stepArr m c (ix2 (row t k) q) := by
  refine (pay3 _ _ _ _ _).trans (Eq.trans ?_ (ref_step _ _ _ _ _).symm)
  rw [weights, gradient, first, second]

theorem point_first (t : Fin cfg0.N) (k : Fin 176) (q : Fin 1024) :
    k0_pay1 (F := Ideal) (iblk m c 1 t) (iblk m c 2 t) (ix2 k q) = firstArr m c (ix2 (row t k) q) := by
  refine (pay1 _ _ _).trans (Eq.trans ?_ (ref_first _ _ _).symm)
  rw [gradient, first]

theorem point_second (t : Fin cfg0.N) (k : Fin 176) (q : Fin 1024) :
    k0_pay2 (F := Ideal) (iblk m c 1 t) (iblk m c 3 t) (ix2 k q) = secondArr m c (ix2 (row t k) q) := by
  refine (pay2 _ _ _).trans (Eq.trans ?_ (ref_second _ _ _).symm)
  rw [gradient, second]

theorem final4 : (dats m 0 c).arrAt 4 cfg0.N = stepArr m c := by
  refine (dats m 0 c).arrAt_eq_of_covers 4 _ (by decide +kernel) fun t hf y => ?_
  obtain ⟨k, q, rfl⟩ : ∃ k q, y = ix2 k q := ⟨_, _, eq_ix2 y⟩
  blk_simp
  rw [after0_4]
  frame_out
  refine (point_step m c t k q).trans ?_
  congr 1
  unfold row
  symm
  blk_ext [idx t]

theorem final5 : (dats m 0 c).arrAt 5 cfg0.N = firstArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  frame_out
  refine (point_first m c t k q).trans ?_
  congr 1
  unfold row
  symm
  blk_ext [idx t]

theorem final6 : (dats m 0 c).arrAt 6 cfg0.N = secondArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  frame_out
  refine (point_second m c t k q).trans ?_
  congr 1
  unfold row
  symm
  blk_ext [idx t]

theorem final7 : (dats m 0 c).arrAt 7 cfg0.N = G m c := by
  refine (dats m 0 c).arrAt_eq_of_covers 7 _ (by decide +kernel) fun t hf y => ?_
  obtain ⟨k, q, rfl⟩ : ∃ k q, y = ix2 k q := ⟨_, _, eq_ix2 y⟩
  blk_simp
  rw [after0_7]
  frame_out
  refine (gradient m c t k q).trans ?_
  congr 1
  unfold row
  symm
  blk_ext [idx t]

/-- The reference's run, its arguments and counters. -/
theorem frame_reference : quiescent_AdamDownRefIdeal := fun m g _ =>
  (θ_run (Cert.AdamDownRefIdeal.defs (F := Ideal)) _ _).mono
    (fun r h => ⟨fun c => (h c).2.2.2.2, sem_eq_zero_of_no_sems (by decide) r.2⟩)
    (Cert.AdamDownRefIdeal.Value.run m g)

/-- The kernel's results are the reference's: the step, the two new moments and the gradient. -/
theorem algebraic : algebraic_AdamDownIdeal_AdamDownRefIdeal := by
  intro m g m' g' hp ha
  refine ⟨stepArr m, firstArr m, secondArr m, G m, ?_, ?_⟩
  · exact (θ_run _ _ _).mono (fun r h c => ⟨(h c).1.trans (final4 m c), (h c).2.1.trans (final5 m c), (h c).2.2.1.trans (final6 m c),
      (h c).2.2.2.1.trans (final7 m c), (h c).2.2.2.2⟩) (Cert.AdamDownIdeal.Value.run_blocks m g)
  · refine (θ_run _ _ _).mono (fun r h c => ?_) (Cert.AdamDownRefIdeal.Value.run m' g')
    obtain ⟨h0, h1, h2, h3⟩ := ha c
    refine ⟨(h c).1.trans ?_, (h c).2.1.trans ?_, (h c).2.2.1.trans ?_, (h c).2.2.2.1.trans h1, (h c).2.2.2.2⟩
    · refine (Cert.AdamDownRefIdeal.Read.val_main_v23_eq (F := Ideal) _ _ _ _).trans ?_
      exact congr (congr (congr (congrArg _ h0) h1) h2) h3
    · refine (Cert.AdamDownRefIdeal.Read.val_main_v4_eq (F := Ideal) _ _).trans ?_
      exact congr (congrArg _ h1) h2
    · refine (Cert.AdamDownRefIdeal.Read.val_main_v10_eq (F := Ideal) _ _).trans ?_
      exact congr (congrArg _ h1) h3

end Cert.AdamDownIdeal.Product
end
-- ==== Proof.Adam.Out.lean ====
/- The claims about the AdamW update of the out projection's weights: each new moment and step is the update rule of its own elements. -/
module

public import proofs.«01_k».proof.Defs
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import Idealize.ShloMosaic.Lib.Pipeline.ValueKit

@[expose] public section

set_option maxRecDepth 16384

noncomputable section

namespace Cert.AdamOutIdeal.Product

open Cert.AdamOutIdeal Cert.AdamOutIdeal.Gen Idealize.ShloMosaic Idealize.ShloMosaic.TcCoe Idealize.SL.Sem
open Cert.AdamOutRefIdeal.Read (val_main_v4 val_main_v10 val_main_v23)

variable (m : (ℓ : Loc nD τ sig) → Buf (Elt Ideal) ℓ) (c : Dev nD)

theorem idx : ∀ t : Fin cfg0.N, win0_0.index t = ![(t : ℕ), 0] ∧ win0_1.index t = ![(t : ℕ), 0] ∧ win0_2.index t = ![(t : ℕ), 0] ∧
    win0_3.index t = ![(t : ℕ), 0] ∧ win0_4.index t = ![(t : ℕ), 0] ∧ win0_5.index t = ![(t : ℕ), 0] ∧ win0_6.index t = ![(t : ℕ), 0] ∧
    win0_7.index t = ![(t : ℕ), 0] :=
  (by decide +kernel : ∀ t : Fin grid0.N, _)

/-- The row that row `k` of a point's blocks is. -/
def row (t : Fin cfg0.N) (k : Fin 256) : Fin 512 :=
  ⟨256 * (t : ℕ) + k, by have := lt_of_lt_of_le t.isLt (le_of_eq N_0); omega⟩

/-- The launch's weights, gradient and two moments. -/
abbrev W : Vec Ideal S512x1024 .f32 := m ((c : Thread nD τ).loc main_arg0)
abbrev G : Vec Ideal S512x1024 .f32 := m ((c : Thread nD τ).loc main_arg1)
abbrev M : Vec Ideal S512x1024 .f32 := m ((c : Thread nD τ).loc main_arg2)
abbrev U : Vec Ideal S512x1024 .f32 := m ((c : Thread nD τ).loc main_arg3)

/-- The step and the two new moments, as the reference states them. -/
def stepArr : Vec Ideal S512x1024 .f32 := val_main_v23 (F := Ideal) (W m c) (G m c) (M m c) (U m c)
def firstArr : Vec Ideal S512x1024 .f32 := val_main_v4 (F := Ideal) (G m c) (M m c)
def secondArr : Vec Ideal S512x1024 .f32 := val_main_v10 (F := Ideal) (G m c) (U m c)

theorem weights (t : Fin cfg0.N) (k : Fin 256) (q : Fin 1024) : iblk m c 0 t (ix2 k q) = W m c (ix2 (row t k) q) := by
  unfold row
  blk_ext [iblk, V, idx t]

theorem gradient (t : Fin cfg0.N) (k : Fin 256) (q : Fin 1024) : iblk m c 1 t (ix2 k q) = G m c (ix2 (row t k) q) := by
  unfold row
  blk_ext [iblk, V, idx t]

theorem first (t : Fin cfg0.N) (k : Fin 256) (q : Fin 1024) : iblk m c 2 t (ix2 k q) = M m c (ix2 (row t k) q) := by
  unfold row
  blk_ext [iblk, V, idx t]

theorem second (t : Fin cfg0.N) (k : Fin 256) (q : Fin 1024) : iblk m c 3 t (ix2 k q) = U m c (ix2 (row t k) q) := by
  unfold row
  blk_ext [iblk, V, idx t]

/-- The first moment's rule, at one element. -/
def firstAt (g a : EReal) : EReal := Scalar.ofBits (F := Ideal) .f32 0x3F666666#32 * a + Scalar.ofBits (F := Ideal) .f32 0x3DCCCCCD#32 * g

/-- The second moment's rule, at one element. -/
def secondAt (g b : EReal) : EReal := Scalar.ofBits (F := Ideal) .f32 0x3F7FBE77#32 * b + Scalar.ofBits (F := Ideal) .f32 0x3A83126F#32 * (g * g)

theorem pay1 (g a : Vec Ideal S256x1024 .f32) (i : S256x1024.Idx) : k0_pay1 (F := Ideal) g a i = firstAt (g i) (a i) := rfl
theorem pay2 (g b : Vec Ideal S256x1024 .f32) (i : S256x1024.Idx) : k0_pay2 (F := Ideal) g b i = secondAt (g i) (b i) := rfl

/-- The step, at one element. -/
def stepAt (w g a b : EReal) : EReal :=
  Scalar.ofBits (F := Ideal) .f32 0xBA83126F#32 * (FloatOps.divf (F := Ideal) (φ := .f32)
      (FloatOps.divf (F := Ideal) (φ := .f32) (firstAt g a) (Scalar.ofBits (F := Ideal) .f32 0x3F26BD02#32))
      (FloatOps.sqrt (F := Ideal) (φ := .f32)
          (FloatOps.divf (F := Ideal) (φ := .f32) (secondAt g b) (Scalar.ofBits (F := Ideal) .f32 0x3C231ACC#32))
        + Scalar.ofBits (F := Ideal) .f32 0x322BCC77#32)
    + Scalar.ofBits (F := Ideal) .f32 0x3C23D70A#32 * w)

theorem pay3 (g a b w : Vec Ideal S256x1024 .f32) (i : S256x1024.Idx) : k0_pay3 (F := Ideal) g a b w i = stepAt (w i) (g i) (a i) (b i) := rfl

theorem ref_first (g a : Vec Ideal S512x1024 .f32) (i : S512x1024.Idx) : val_main_v4 (F := Ideal) g a i = firstAt (g i) (a i) := rfl
theorem ref_second (g b : Vec Ideal S512x1024 .f32) (i : S512x1024.Idx) : val_main_v10 (F := Ideal) g b i = secondAt (g i) (b i) := rfl
theorem ref_step (w g a b : Vec Ideal S512x1024 .f32) (i : S512x1024.Idx) : val_main_v23 (F := Ideal) w g a b i = stepAt (w i) (g i) (a i) (b i) := rfl

theorem point_step (t : Fin cfg0.N) (k : Fin 256) (q : Fin 1024) :
    k0_pay3 (F := Ideal) (iblk m c 1 t) (iblk m c 2 t) (iblk m c 3 t) (iblk m c 0 t) (ix2 k q) = stepArr m c (ix2 (row t k) q) := by
  refine (pay3 _ _ _ _ _).trans (Eq.trans ?_ (ref_step _ _ _ _ _).symm)
  rw [weights, gradient, first, second]

theorem point_first (t : Fin cfg0.N) (k : Fin 256) (q : Fin 1024) :
    k0_pay1 (F := Ideal) (iblk m c 1 t) (iblk m c 2 t) (ix2 k q) = firstArr m c (ix2 (row t k) q) := by
  refine (pay1 _ _ _).trans (Eq.trans ?_ (ref_first _ _ _).symm)
  rw [gradient, first]

theorem point_second (t : Fin cfg0.N) (k : Fin 256) (q : Fin 1024) :
    k0_pay2 (F := Ideal) (iblk m c 1 t) (iblk m c 3 t) (ix2 k q) = secondArr m c (ix2 (row t k) q) := by
  refine (pay2 _ _ _).trans (Eq.trans ?_ (ref_second _ _ _).symm)
  rw [gradient, second]

theorem final4 : (dats m 0 c).arrAt 4 cfg0.N = stepArr m c := by
  refine (dats m 0 c).arrAt_eq_of_covers 4 _ (by decide +kernel) fun t hf y => ?_
  obtain ⟨k, q, rfl⟩ : ∃ k q, y = ix2 k q := ⟨_, _, eq_ix2 y⟩
  blk_simp
  rw [after0_4]
  frame_out
  refine (point_step m c t k q).trans ?_
  congr 1
  unfold row
  symm
  blk_ext [idx t]

theorem final5 : (dats m 0 c).arrAt 5 cfg0.N = firstArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  frame_out
  refine (point_first m c t k q).trans ?_
  congr 1
  unfold row
  symm
  blk_ext [idx t]

theorem final6 : (dats m 0 c).arrAt 6 cfg0.N = secondArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  frame_out
  refine (point_second m c t k q).trans ?_
  congr 1
  unfold row
  symm
  blk_ext [idx t]

theorem final7 : (dats m 0 c).arrAt 7 cfg0.N = G m c := by
  refine (dats m 0 c).arrAt_eq_of_covers 7 _ (by decide +kernel) fun t hf y => ?_
  obtain ⟨k, q, rfl⟩ : ∃ k q, y = ix2 k q := ⟨_, _, eq_ix2 y⟩
  blk_simp
  rw [after0_7]
  frame_out
  refine (gradient m c t k q).trans ?_
  congr 1
  unfold row
  symm
  blk_ext [idx t]

/-- The reference's run, its arguments and counters. -/
theorem frame_reference : quiescent_AdamOutRefIdeal := fun m g _ =>
  (θ_run (Cert.AdamOutRefIdeal.defs (F := Ideal)) _ _).mono
    (fun r h => ⟨fun c => (h c).2.2.2.2, sem_eq_zero_of_no_sems (by decide) r.2⟩)
    (Cert.AdamOutRefIdeal.Value.run m g)

/-- The kernel's results are the reference's: the step, the two new moments and the gradient. -/
theorem algebraic : algebraic_AdamOutIdeal_AdamOutRefIdeal := by
  intro m g m' g' hp ha
  refine ⟨stepArr m, firstArr m, secondArr m, G m, ?_, ?_⟩
  · exact (θ_run _ _ _).mono (fun r h c => ⟨(h c).1.trans (final4 m c), (h c).2.1.trans (final5 m c), (h c).2.2.1.trans (final6 m c),
      (h c).2.2.2.1.trans (final7 m c), (h c).2.2.2.2⟩) (Cert.AdamOutIdeal.Value.run_blocks m g)
  · refine (θ_run _ _ _).mono (fun r h c => ?_) (Cert.AdamOutRefIdeal.Value.run m' g')
    obtain ⟨h0, h1, h2, h3⟩ := ha c
    refine ⟨(h c).1.trans ?_, (h c).2.1.trans ?_, (h c).2.2.1.trans ?_, (h c).2.2.2.1.trans h1, (h c).2.2.2.2⟩
    · refine (Cert.AdamOutRefIdeal.Read.val_main_v23_eq (F := Ideal) _ _ _ _).trans ?_
      exact congr (congr (congr (congrArg _ h0) h1) h2) h3
    · refine (Cert.AdamOutRefIdeal.Read.val_main_v4_eq (F := Ideal) _ _).trans ?_
      exact congr (congrArg _ h1) h2
    · refine (Cert.AdamOutRefIdeal.Read.val_main_v10_eq (F := Ideal) _ _).trans ?_
      exact congr (congrArg _ h1) h3

end Cert.AdamOutIdeal.Product
end
-- ==== Proof.Adam.ProjAC.lean ====
/- The claims about the AdamW update of the weights of the pooling and gating products: each new moment and step is the update rule of its own elements. -/
module

public import proofs.«01_k».proof.Defs
public import proofs.«01_k».proof.Proof.Gen.AdamProjAC
public import proofs.«01_k».proof.Proof.Gen.AdamProjAC.Frame
public import proofs.«01_k».proof.Proof.Gen.AdamProjACIdeal
public import proofs.«01_k».proof.Proof.Gen.AdamProjACIdeal.Frame
public import proofs.«01_k».proof.Proof.Gen.AdamProjACIdeal.Value
public import proofs.«01_k».proof.Proof.Gen.AdamProjACRefIdeal
public import proofs.«01_k».proof.Proof.Gen.AdamProjACRefIdeal.Run
public import proofs.«01_k».proof.Proof.Gen.AdamProjACRefIdeal.Read
public import Idealize.ShloMosaic.Lib.Pipeline.ValueKit

@[expose] public section

set_option maxRecDepth 16384

noncomputable section

namespace Cert.AdamProjACIdeal.Product

open Cert.AdamProjACIdeal Cert.AdamProjACIdeal.Gen Idealize.ShloMosaic Idealize.ShloMosaic.TcCoe Idealize.SL.Sem
open Cert.AdamProjACRefIdeal.Read (val_main_v4 val_main_v10 val_main_v23)

variable (m : (ℓ : Loc nD τ sig) → Buf (Elt Ideal) ℓ) (c : Dev nD)

theorem idx : ∀ t : Fin cfg0.N, win0_0.index t = ![(t : ℕ), 0] ∧ win0_1.index t = ![(t : ℕ), 0] ∧ win0_2.index t = ![(t : ℕ), 0] ∧
    win0_3.index t = ![(t : ℕ), 0] ∧ win0_4.index t = ![(t : ℕ), 0] ∧ win0_5.index t = ![(t : ℕ), 0] ∧ win0_6.index t = ![(t : ℕ), 0] ∧
    win0_7.index t = ![(t : ℕ), 0] :=
  (by decide +kernel : ∀ t : Fin grid0.N, _)

/-- The row that row `k` of a point's blocks is. -/
def row (t : Fin cfg0.N) (k : Fin 256) : Fin 512 :=
  ⟨256 * (t : ℕ) + k, by have := lt_of_lt_of_le t.isLt (le_of_eq N_0); omega⟩

/-- The launch's weights, gradient and two moments. -/
abbrev W : Vec Ideal S512x256 .f32 := m ((c : Thread nD τ).loc main_arg0)
abbrev G : Vec Ideal S512x256 .f32 := m ((c : Thread nD τ).loc main_arg1)
abbrev M : Vec Ideal S512x256 .f32 := m ((c : Thread nD τ).loc main_arg2)
abbrev U : Vec Ideal S512x256 .f32 := m ((c : Thread nD τ).loc main_arg3)

/-- The step and the two new moments, as the reference states them. -/
def stepArr : Vec Ideal S512x256 .f32 := val_main_v23 (F := Ideal) (W m c) (G m c) (M m c) (U m c)
def firstArr : Vec Ideal S512x256 .f32 := val_main_v4 (F := Ideal) (G m c) (M m c)
def secondArr : Vec Ideal S512x256 .f32 := val_main_v10 (F := Ideal) (G m c) (U m c)

theorem weights (t : Fin cfg0.N) (k : Fin 256) (q : Fin 256) : iblk m c 0 t (ix2 k q) = W m c (ix2 (row t k) q) := by
  unfold row
  blk_ext [iblk, V, idx t]

theorem gradient (t : Fin cfg0.N) (k : Fin 256) (q : Fin 256) : iblk m c 1 t (ix2 k q) = G m c (ix2 (row t k) q) := by
  unfold row
  blk_ext [iblk, V, idx t]

theorem first (t : Fin cfg0.N) (k : Fin 256) (q : Fin 256) : iblk m c 2 t (ix2 k q) = M m c (ix2 (row t k) q) := by
  unfold row
  blk_ext [iblk, V, idx t]

theorem second (t : Fin cfg0.N) (k : Fin 256) (q : Fin 256) : iblk m c 3 t (ix2 k q) = U m c (ix2 (row t k) q) := by
  unfold row
  blk_ext [iblk, V, idx t]

/-- The first moment's rule, at one element. -/
def firstAt (g a : EReal) : EReal := Scalar.ofBits (F := Ideal) .f32 0x3F666666#32 * a + Scalar.ofBits (F := Ideal) .f32 0x3DCCCCCD#32 * g

/-- The second moment's rule, at one element. -/
def secondAt (g b : EReal) : EReal := Scalar.ofBits (F := Ideal) .f32 0x3F7FBE77#32 * b + Scalar.ofBits (F := Ideal) .f32 0x3A83126F#32 * (g * g)

theorem pay1 (g a : Vec Ideal S256x256 .f32) (i : S256x256.Idx) : k0_pay1 (F := Ideal) g a i = firstAt (g i) (a i) := rfl
theorem pay2 (g b : Vec Ideal S256x256 .f32) (i : S256x256.Idx) : k0_pay2 (F := Ideal) g b i = secondAt (g i) (b i) := rfl

/-- The step, at one element. -/
def stepAt (w g a b : EReal) : EReal :=
  Scalar.ofBits (F := Ideal) .f32 0xBA83126F#32 * (FloatOps.divf (F := Ideal) (φ := .f32)
      (FloatOps.divf (F := Ideal) (φ := .f32) (firstAt g a) (Scalar.ofBits (F := Ideal) .f32 0x3F26BD02#32))
      (FloatOps.sqrt (F := Ideal) (φ := .f32)
          (FloatOps.divf (F := Ideal) (φ := .f32) (secondAt g b) (Scalar.ofBits (F := Ideal) .f32 0x3C231ACC#32))
        + Scalar.ofBits (F := Ideal) .f32 0x322BCC77#32)
    + Scalar.ofBits (F := Ideal) .f32 0x3C23D70A#32 * w)

theorem pay3 (g a b w : Vec Ideal S256x256 .f32) (i : S256x256.Idx) : k0_pay3 (F := Ideal) g a b w i = stepAt (w i) (g i) (a i) (b i) := rfl

theorem ref_first (g a : Vec Ideal S512x256 .f32) (i : S512x256.Idx) : val_main_v4 (F := Ideal) g a i = firstAt (g i) (a i) := rfl
theorem ref_second (g b : Vec Ideal S512x256 .f32) (i : S512x256.Idx) : val_main_v10 (F := Ideal) g b i = secondAt (g i) (b i) := rfl
theorem ref_step (w g a b : Vec Ideal S512x256 .f32) (i : S512x256.Idx) : val_main_v23 (F := Ideal) w g a b i = stepAt (w i) (g i) (a i) (b i) := rfl

theorem point_step (t : Fin cfg0.N) (k : Fin 256) (q : Fin 256) :
    k0_pay3 (F := Ideal) (iblk m c 1 t) (iblk m c 2 t) (iblk m c 3 t) (iblk m c 0 t) (ix2 k q) = stepArr m c (ix2 (row t k) q) := by
  refine (pay3 _ _ _ _ _).trans (Eq.trans ?_ (ref_step _ _ _ _ _).symm)
  rw [weights, gradient, first, second]

theorem point_first (t : Fin cfg0.N) (k : Fin 256) (q : Fin 256) :
    k0_pay1 (F := Ideal) (iblk m c 1 t) (iblk m c 2 t) (ix2 k q) = firstArr m c (ix2 (row t k) q) := by
  refine (pay1 _ _ _).trans (Eq.trans ?_ (ref_first _ _ _).symm)
  rw [gradient, first]

theorem point_second (t : Fin cfg0.N) (k : Fin 256) (q : Fin 256) :
    k0_pay2 (F := Ideal) (iblk m c 1 t) (iblk m c 3 t) (ix2 k q) = secondArr m c (ix2 (row t k) q) := by
  refine (pay2 _ _ _).trans (Eq.trans ?_ (ref_second _ _ _).symm)
  rw [gradient, second]

theorem final4 : (dats m 0 c).arrAt 4 cfg0.N = stepArr m c := by
  refine (dats m 0 c).arrAt_eq_of_covers 4 _ (by decide +kernel) fun t hf y => ?_
  obtain ⟨k, q, rfl⟩ : ∃ k q, y = ix2 k q := ⟨_, _, eq_ix2 y⟩
  blk_simp
  rw [after0_4]
  frame_out
  refine (point_step m c t k q).trans ?_
  congr 1
  unfold row
  symm
  blk_ext [idx t]

theorem final5 : (dats m 0 c).arrAt 5 cfg0.N = firstArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  frame_out
  refine (point_first m c t k q).trans ?_
  congr 1
  unfold row
  symm
  blk_ext [idx t]

theorem final6 : (dats m 0 c).arrAt 6 cfg0.N = secondArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  frame_out
  refine (point_second m c t k q).trans ?_
  congr 1
  unfold row
  symm
  blk_ext [idx t]

theorem final7 : (dats m 0 c).arrAt 7 cfg0.N = G m c := by
  refine (dats m 0 c).arrAt_eq_of_covers 7 _ (by decide +kernel) fun t hf y => ?_
  obtain ⟨k, q, rfl⟩ : ∃ k q, y = ix2 k q := ⟨_, _, eq_ix2 y⟩
  blk_simp
  rw [after0_7]
  frame_out
  refine (gradient m c t k q).trans ?_
  congr 1
  unfold row
  symm
  blk_ext [idx t]

/-- The reference's run, its arguments and counters. -/
theorem frame_reference : quiescent_AdamProjACRefIdeal := fun m g _ =>
  (θ_run (Cert.AdamProjACRefIdeal.defs (F := Ideal)) _ _).mono
    (fun r h => ⟨fun c => (h c).2.2.2.2, sem_eq_zero_of_no_sems (by decide) r.2⟩)
    (Cert.AdamProjACRefIdeal.Value.run m g)

/-- The kernel's results are the reference's: the step, the two new moments and the gradient. -/
theorem algebraic : algebraic_AdamProjACIdeal_AdamProjACRefIdeal := by
  intro m g m' g' hp ha
  refine ⟨stepArr m, firstArr m, secondArr m, G m, ?_, ?_⟩
  · exact (θ_run _ _ _).mono (fun r h c => ⟨(h c).1.trans (final4 m c), (h c).2.1.trans (final5 m c), (h c).2.2.1.trans (final6 m c),
      (h c).2.2.2.1.trans (final7 m c), (h c).2.2.2.2⟩) (Cert.AdamProjACIdeal.Value.run_blocks m g)
  · refine (θ_run _ _ _).mono (fun r h c => ?_) (Cert.AdamProjACRefIdeal.Value.run m' g')
    obtain ⟨h0, h1, h2, h3⟩ := ha c
    refine ⟨(h c).1.trans ?_, (h c).2.1.trans ?_, (h c).2.2.1.trans ?_, (h c).2.2.2.1.trans h1, (h c).2.2.2.2⟩
    · refine (Cert.AdamProjACRefIdeal.Read.val_main_v23_eq (F := Ideal) _ _ _ _).trans ?_
      exact congr (congr (congr (congrArg _ h0) h1) h2) h3
    · refine (Cert.AdamProjACRefIdeal.Read.val_main_v4_eq (F := Ideal) _ _).trans ?_
      exact congr (congrArg _ h1) h2
    · refine (Cert.AdamProjACRefIdeal.Read.val_main_v10_eq (F := Ideal) _ _).trans ?_
      exact congr (congrArg _ h1) h3

end Cert.AdamProjACIdeal.Product
end
-- ==== Proof.Adam.ProjB.lean ====
/- The claims about the AdamW update of the weights of the attention's product: each new moment and step is the update rule of its own elements. -/
module

public import proofs.«01_k».proof.Defs
public import proofs.«01_k».proof.Proof.Gen.AdamProjB
public import proofs.«01_k».proof.Proof.Gen.AdamProjB.Frame
public import proofs.«01_k».proof.Proof.Gen.AdamProjBIdeal
public import proofs.«01_k».proof.Proof.Gen.AdamProjBIdeal.Frame
public import proofs.«01_k».proof.Proof.Gen.AdamProjBIdeal.Value
public import proofs.«01_k».proof.Proof.Gen.AdamProjBRefIdeal
public import proofs.«01_k».proof.Proof.Gen.AdamProjBRefIdeal.Run
public import proofs.«01_k».proof.Proof.Gen.AdamProjBRefIdeal.Read
public import Idealize.ShloMosaic.Lib.Pipeline.ValueKit

@[expose] public section

set_option maxRecDepth 16384

noncomputable section

namespace Cert.AdamProjBIdeal.Product

open Cert.AdamProjBIdeal Cert.AdamProjBIdeal.Gen Idealize.ShloMosaic Idealize.ShloMosaic.TcCoe Idealize.SL.Sem
open Cert.AdamProjBRefIdeal.Read (val_main_v4 val_main_v10 val_main_v23)

variable (m : (ℓ : Loc nD τ sig) → Buf (Elt Ideal) ℓ) (c : Dev nD)

theorem idx : ∀ t : Fin cfg0.N, win0_0.index t = ![(t : ℕ), 0] ∧ win0_1.index t = ![(t : ℕ), 0] ∧ win0_2.index t = ![(t : ℕ), 0] ∧
    win0_3.index t = ![(t : ℕ), 0] ∧ win0_4.index t = ![(t : ℕ), 0] ∧ win0_5.index t = ![(t : ℕ), 0] ∧ win0_6.index t = ![(t : ℕ), 0] ∧
    win0_7.index t = ![(t : ℕ), 0] :=
  (by decide +kernel : ∀ t : Fin grid0.N, _)

/-- The row that row `k` of a point's blocks is. -/
def row (t : Fin cfg0.N) (k : Fin 256) : Fin 1024 :=
  ⟨256 * (t : ℕ) + k, by have := lt_of_lt_of_le t.isLt (le_of_eq N_0); omega⟩

/-- The launch's weights, gradient and two moments. -/
abbrev W : Vec Ideal S1024x256 .f32 := m ((c : Thread nD τ).loc main_arg0)
abbrev G : Vec Ideal S1024x256 .f32 := m ((c : Thread nD τ).loc main_arg1)
abbrev M : Vec Ideal S1024x256 .f32 := m ((c : Thread nD τ).loc main_arg2)
abbrev U : Vec Ideal S1024x256 .f32 := m ((c : Thread nD τ).loc main_arg3)

/-- The step and the two new moments, as the reference states them. -/
def stepArr : Vec Ideal S1024x256 .f32 := val_main_v23 (F := Ideal) (W m c) (G m c) (M m c) (U m c)
def firstArr : Vec Ideal S1024x256 .f32 := val_main_v4 (F := Ideal) (G m c) (M m c)
def secondArr : Vec Ideal S1024x256 .f32 := val_main_v10 (F := Ideal) (G m c) (U m c)

theorem weights (t : Fin cfg0.N) (k : Fin 256) (q : Fin 256) : iblk m c 0 t (ix2 k q) = W m c (ix2 (row t k) q) := by
  unfold row
  blk_ext [iblk, V, idx t]

theorem gradient (t : Fin cfg0.N) (k : Fin 256) (q : Fin 256) : iblk m c 1 t (ix2 k q) = G m c (ix2 (row t k) q) := by
  unfold row
  blk_ext [iblk, V, idx t]

theorem first (t : Fin cfg0.N) (k : Fin 256) (q : Fin 256) : iblk m c 2 t (ix2 k q) = M m c (ix2 (row t k) q) := by
  unfold row
  blk_ext [iblk, V, idx t]

theorem second (t : Fin cfg0.N) (k : Fin 256) (q : Fin 256) : iblk m c 3 t (ix2 k q) = U m c (ix2 (row t k) q) := by
  unfold row
  blk_ext [iblk, V, idx t]

/-- The first moment's rule, at one element. -/
def firstAt (g a : EReal) : EReal := Scalar.ofBits (F := Ideal) .f32 0x3F666666#32 * a + Scalar.ofBits (F := Ideal) .f32 0x3DCCCCCD#32 * g

/-- The second moment's rule, at one element. -/
def secondAt (g b : EReal) : EReal := Scalar.ofBits (F := Ideal) .f32 0x3F7FBE77#32 * b + Scalar.ofBits (F := Ideal) .f32 0x3A83126F#32 * (g * g)

theorem pay1 (g a : Vec Ideal S256x256 .f32) (i : S256x256.Idx) : k0_pay1 (F := Ideal) g a i = firstAt (g i) (a i) := rfl
theorem pay2 (g b : Vec Ideal S256x256 .f32) (i : S256x256.Idx) : k0_pay2 (F := Ideal) g b i = secondAt (g i) (b i) := rfl

/-- The step, at one element. -/
def stepAt (w g a b : EReal) : EReal :=
  Scalar.ofBits (F := Ideal) .f32 0xBA83126F#32 * (FloatOps.divf (F := Ideal) (φ := .f32)
      (FloatOps.divf (F := Ideal) (φ := .f32) (firstAt g a) (Scalar.ofBits (F := Ideal) .f32 0x3F26BD02#32))
      (FloatOps.sqrt (F := Ideal) (φ := .f32)
          (FloatOps.divf (F := Ideal) (φ := .f32) (secondAt g b) (Scalar.ofBits (F := Ideal) .f32 0x3C231ACC#32))
        + Scalar.ofBits (F := Ideal) .f32 0x322BCC77#32)
    + Scalar.ofBits (F := Ideal) .f32 0x3C23D70A#32 * w)

theorem pay3 (g a b w : Vec Ideal S256x256 .f32) (i : S256x256.Idx) : k0_pay3 (F := Ideal) g a b w i = stepAt (w i) (g i) (a i) (b i) := rfl

theorem ref_first (g a : Vec Ideal S1024x256 .f32) (i : S1024x256.Idx) : val_main_v4 (F := Ideal) g a i = firstAt (g i) (a i) := rfl
theorem ref_second (g b : Vec Ideal S1024x256 .f32) (i : S1024x256.Idx) : val_main_v10 (F := Ideal) g b i = secondAt (g i) (b i) := rfl
theorem ref_step (w g a b : Vec Ideal S1024x256 .f32) (i : S1024x256.Idx) : val_main_v23 (F := Ideal) w g a b i = stepAt (w i) (g i) (a i) (b i) := rfl

theorem point_step (t : Fin cfg0.N) (k : Fin 256) (q : Fin 256) :
    k0_pay3 (F := Ideal) (iblk m c 1 t) (iblk m c 2 t) (iblk m c 3 t) (iblk m c 0 t) (ix2 k q) = stepArr m c (ix2 (row t k) q) := by
  refine (pay3 _ _ _ _ _).trans (Eq.trans ?_ (ref_step _ _ _ _ _).symm)
  rw [weights, gradient, first, second]

theorem point_first (t : Fin cfg0.N) (k : Fin 256) (q : Fin 256) :
    k0_pay1 (F := Ideal) (iblk m c 1 t) (iblk m c 2 t) (ix2 k q) = firstArr m c (ix2 (row t k) q) := by
  refine (pay1 _ _ _).trans (Eq.trans ?_ (ref_first _ _ _).symm)
  rw [gradient, first]

theorem point_second (t : Fin cfg0.N) (k : Fin 256) (q : Fin 256) :
    k0_pay2 (F := Ideal) (iblk m c 1 t) (iblk m c 3 t) (ix2 k q) = secondArr m c (ix2 (row t k) q) := by
  refine (pay2 _ _ _).trans (Eq.trans ?_ (ref_second _ _ _).symm)
  rw [gradient, second]

theorem final4 : (dats m 0 c).arrAt 4 cfg0.N = stepArr m c := by
  refine (dats m 0 c).arrAt_eq_of_covers 4 _ (by decide +kernel) fun t hf y => ?_
  obtain ⟨k, q, rfl⟩ : ∃ k q, y = ix2 k q := ⟨_, _, eq_ix2 y⟩
  blk_simp
  rw [after0_4]
  frame_out
  refine (point_step m c t k q).trans ?_
  congr 1
  unfold row
  symm
  blk_ext [idx t]

theorem final5 : (dats m 0 c).arrAt 5 cfg0.N = firstArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  frame_out
  refine (point_first m c t k q).trans ?_
  congr 1
  unfold row
  symm
  blk_ext [idx t]

theorem final6 : (dats m 0 c).arrAt 6 cfg0.N = secondArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  frame_out
  refine (point_second m c t k q).trans ?_
  congr 1
  unfold row
  symm
  blk_ext [idx t]

theorem final7 : (dats m 0 c).arrAt 7 cfg0.N = G m c := by
  refine (dats m 0 c).arrAt_eq_of_covers 7 _ (by decide +kernel) fun t hf y => ?_
  obtain ⟨k, q, rfl⟩ : ∃ k q, y = ix2 k q := ⟨_, _, eq_ix2 y⟩
  blk_simp
  rw [after0_7]
  frame_out
  refine (gradient m c t k q).trans ?_
  congr 1
  unfold row
  symm
  blk_ext [idx t]

/-- The reference's run, its arguments and counters. -/
theorem frame_reference : quiescent_AdamProjBRefIdeal := fun m g _ =>
  (θ_run (Cert.AdamProjBRefIdeal.defs (F := Ideal)) _ _).mono
    (fun r h => ⟨fun c => (h c).2.2.2.2, sem_eq_zero_of_no_sems (by decide) r.2⟩)
    (Cert.AdamProjBRefIdeal.Value.run m g)

/-- The kernel's results are the reference's: the step, the two new moments and the gradient. -/
theorem algebraic : algebraic_AdamProjBIdeal_AdamProjBRefIdeal := by
  intro m g m' g' hp ha
  refine ⟨stepArr m, firstArr m, secondArr m, G m, ?_, ?_⟩
  · exact (θ_run _ _ _).mono (fun r h c => ⟨(h c).1.trans (final4 m c), (h c).2.1.trans (final5 m c), (h c).2.2.1.trans (final6 m c),
      (h c).2.2.2.1.trans (final7 m c), (h c).2.2.2.2⟩) (Cert.AdamProjBIdeal.Value.run_blocks m g)
  · refine (θ_run _ _ _).mono (fun r h c => ?_) (Cert.AdamProjBRefIdeal.Value.run m' g')
    obtain ⟨h0, h1, h2, h3⟩ := ha c
    refine ⟨(h c).1.trans ?_, (h c).2.1.trans ?_, (h c).2.2.1.trans ?_, (h c).2.2.2.1.trans h1, (h c).2.2.2.2⟩
    · refine (Cert.AdamProjBRefIdeal.Read.val_main_v23_eq (F := Ideal) _ _ _ _).trans ?_
      exact congr (congr (congr (congrArg _ h0) h1) h2) h3
    · refine (Cert.AdamProjBRefIdeal.Read.val_main_v4_eq (F := Ideal) _ _).trans ?_
      exact congr (congrArg _ h1) h2
    · refine (Cert.AdamProjBRefIdeal.Read.val_main_v10_eq (F := Ideal) _ _).trans ?_
      exact congr (congrArg _ h1) h3

end Cert.AdamProjBIdeal.Product
end
-- ==== Proof.Adam.Small.lean ====
/- The claims about the AdamW update of the small weights, packed into one array: each new moment and step is the update rule of its own elements. -/
module

public import proofs.«01_k».proof.Defs
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import Idealize.ShloMosaic.Lib.Pipeline.ValueKit

@[expose] public section

set_option maxRecDepth 16384

noncomputable section

namespace Cert.AdamSmallIdeal.Product

open Cert.AdamSmallIdeal Cert.AdamSmallIdeal.Gen Idealize.ShloMosaic Idealize.ShloMosaic.TcCoe Idealize.SL.Sem
open Cert.AdamSmallRefIdeal.Read (val_main_v4 val_main_v10 val_main_v23)

variable (m : (ℓ : Loc nD τ sig) → Buf (Elt Ideal) ℓ) (c : Dev nD)

theorem idx : ∀ t : Fin cfg0.N, win0_0.index t = ![(t : ℕ), 0] ∧ win0_1.index t = ![(t : ℕ), 0] ∧ win0_2.index t = ![(t : ℕ), 0] ∧
    win0_3.index t = ![(t : ℕ), 0] ∧ win0_4.index t = ![(t : ℕ), 0] ∧ win0_5.index t = ![(t : ℕ), 0] ∧ win0_6.index t = ![(t : ℕ), 0] :=
  (by decide +kernel : ∀ t : Fin grid0.N, _)

/-- The row that row `k` of a point's blocks is. -/
def row (t : Fin cfg0.N) (k : Fin 1520) : Fin 1520 :=
  ⟨1520 * (t : ℕ) + k, by have := lt_of_lt_of_le t.isLt (le_of_eq N_0); omega⟩

/-- The launch's weights, gradient and two moments. -/
abbrev W : Vec Ideal S1520x128 .f32 := m ((c : Thread nD τ).loc main_arg0)
abbrev G : Vec Ideal S1520x128 .f32 := m ((c : Thread nD τ).loc main_arg1)
abbrev M : Vec Ideal S1520x128 .f32 := m ((c : Thread nD τ).loc main_arg2)
abbrev U : Vec Ideal S1520x128 .f32 := m ((c : Thread nD τ).loc main_arg3)

/-- The step and the two new moments, as the reference states them. -/
def stepArr : Vec Ideal S1520x128 .f32 := val_main_v23 (F := Ideal) (W m c) (G m c) (M m c) (U m c)
def firstArr : Vec Ideal S1520x128 .f32 := val_main_v4 (F := Ideal) (G m c) (M m c)
def secondArr : Vec Ideal S1520x128 .f32 := val_main_v10 (F := Ideal) (G m c) (U m c)

theorem weights (t : Fin cfg0.N) (k : Fin 1520) (q : Fin 128) : iblk m c 0 t (ix2 k q) = W m c (ix2 (row t k) q) := by
  unfold row
  blk_ext [iblk, V, idx t]

theorem gradient (t : Fin cfg0.N) (k : Fin 1520) (q : Fin 128) : iblk m c 1 t (ix2 k q) = G m c (ix2 (row t k) q) := by
  unfold row
  blk_ext [iblk, V, idx t]

theorem first (t : Fin cfg0.N) (k : Fin 1520) (q : Fin 128) : iblk m c 2 t (ix2 k q) = M m c (ix2 (row t k) q) := by
  unfold row
  blk_ext [iblk, V, idx t]

theorem second (t : Fin cfg0.N) (k : Fin 1520) (q : Fin 128) : iblk m c 3 t (ix2 k q) = U m c (ix2 (row t k) q) := by
  unfold row
  blk_ext [iblk, V, idx t]

/-- The first moment's rule, at one element. -/
def firstAt (g a : EReal) : EReal := Scalar.ofBits (F := Ideal) .f32 0x3F666666#32 * a + Scalar.ofBits (F := Ideal) .f32 0x3DCCCCCD#32 * g

/-- The second moment's rule, at one element. -/
def secondAt (g b : EReal) : EReal := Scalar.ofBits (F := Ideal) .f32 0x3F7FBE77#32 * b + Scalar.ofBits (F := Ideal) .f32 0x3A83126F#32 * (g * g)

theorem pay1 (g a : Vec Ideal S1520x128 .f32) (i : S1520x128.Idx) : k0_pay1 (F := Ideal) g a i = firstAt (g i) (a i) := rfl
theorem pay2 (g b : Vec Ideal S1520x128 .f32) (i : S1520x128.Idx) : k0_pay2 (F := Ideal) g b i = secondAt (g i) (b i) := rfl

/-- The step, at one element. -/
def stepAt (w g a b : EReal) : EReal :=
  Scalar.ofBits (F := Ideal) .f32 0xBA83126F#32 * (FloatOps.divf (F := Ideal) (φ := .f32)
      (FloatOps.divf (F := Ideal) (φ := .f32) (firstAt g a) (Scalar.ofBits (F := Ideal) .f32 0x3F26BD02#32))
      (FloatOps.sqrt (F := Ideal) (φ := .f32)
          (FloatOps.divf (F := Ideal) (φ := .f32) (secondAt g b) (Scalar.ofBits (F := Ideal) .f32 0x3C231ACC#32))
        + Scalar.ofBits (F := Ideal) .f32 0x322BCC77#32)
    + Scalar.ofBits (F := Ideal) .f32 0x3C23D70A#32 * w)

theorem pay3 (g a b w : Vec Ideal S1520x128 .f32) (i : S1520x128.Idx) : k0_pay3 (F := Ideal) g a b w i = stepAt (w i) (g i) (a i) (b i) := rfl

theorem ref_first (g a : Vec Ideal S1520x128 .f32) (i : S1520x128.Idx) : val_main_v4 (F := Ideal) g a i = firstAt (g i) (a i) := rfl
theorem ref_second (g b : Vec Ideal S1520x128 .f32) (i : S1520x128.Idx) : val_main_v10 (F := Ideal) g b i = secondAt (g i) (b i) := rfl
theorem ref_step (w g a b : Vec Ideal S1520x128 .f32) (i : S1520x128.Idx) : val_main_v23 (F := Ideal) w g a b i = stepAt (w i) (g i) (a i) (b i) := rfl

theorem point_step (t : Fin cfg0.N) (k : Fin 1520) (q : Fin 128) :
    k0_pay3 (F := Ideal) (iblk m c 1 t) (iblk m c 2 t) (iblk m c 3 t) (iblk m c 0 t) (ix2 k q) = stepArr m c (ix2 (row t k) q) := by
  refine (pay3 _ _ _ _ _).trans (Eq.trans ?_ (ref_step _ _ _ _ _).symm)
  rw [weights, gradient, first, second]

theorem point_first (t : Fin cfg0.N) (k : Fin 1520) (q : Fin 128) :
    k0_pay1 (F := Ideal) (iblk m c 1 t) (iblk m c 2 t) (ix2 k q) = firstArr m c (ix2 (row t k) q) := by
  refine (pay1 _ _ _).trans (Eq.trans ?_ (ref_first _ _ _).symm)
  rw [gradient, first]

theorem point_second (t : Fin cfg0.N) (k : Fin 1520) (q : Fin 128) :
    k0_pay2 (F := Ideal) (iblk m c 1 t) (iblk m c 3 t) (ix2 k q) = secondArr m c (ix2 (row t k) q) := by
  refine (pay2 _ _ _).trans (Eq.trans ?_ (ref_second _ _ _).symm)
  rw [gradient, second]

theorem final4 : (dats m 0 c).arrAt 4 cfg0.N = stepArr m c := by
  refine (dats m 0 c).arrAt_eq_of_covers 4 _ (by decide +kernel) fun t hf y => ?_
  obtain ⟨k, q, rfl⟩ : ∃ k q, y = ix2 k q := ⟨_, _, eq_ix2 y⟩
  blk_simp
  rw [after0_4]
  frame_out
  refine (point_step m c t k q).trans ?_
  congr 1
  unfold row
  symm
  blk_ext [idx t]

theorem final5 : (dats m 0 c).arrAt 5 cfg0.N = firstArr m c := by
  refine (dats m 0 c).arrAt_eq_of_covers 5 _ (by decide +kernel) fun t hf y => ?_
  obtain ⟨k, q, rfl⟩ : ∃ k q, y = ix2 k q := ⟨_, _, eq_ix2 y⟩
  blk_simp
  rw [after0_5]
  frame_out
  refine (point_first m c t k q).trans ?_
  congr 1
  unfold row
  symm
  blk_ext [idx t]

theorem final6 : (dats m 0 c).arrAt 6 cfg0.N = secondArr m c := by
  refine (dats m 0 c).arrAt_eq_of_covers 6 _ (by decide +kernel) fun t hf y => ?_
  obtain ⟨k, q, rfl⟩ : ∃ k q, y = ix2 k q := ⟨_, _, eq_ix2 y⟩
  blk_simp
  rw [after0_6]
  frame_out
  refine (point_second m c t k q).trans ?_
  congr 1
  unfold row
  symm
  blk_ext [idx t]

/-- The reference's run, its arguments and counters. -/
theorem frame_reference : quiescent_AdamSmallRefIdeal := fun m g _ =>
  (θ_run (Cert.AdamSmallRefIdeal.defs (F := Ideal)) _ _).mono
    (fun r h => ⟨fun c => (h c).2.2.2, sem_eq_zero_of_no_sems (by decide) r.2⟩)
    (Cert.AdamSmallRefIdeal.Value.run m g)

/-- The kernel's results are the reference's: the step and the two new moments. -/
theorem algebraic : algebraic_AdamSmallIdeal_AdamSmallRefIdeal := by
  intro m g m' g' hp ha
  refine ⟨stepArr m, firstArr m, secondArr m, ?_, ?_⟩
  · exact (θ_run _ _ _).mono (fun r h c => ⟨(h c).1.trans (final4 m c), (h c).2.1.trans (final5 m c), (h c).2.2.1.trans (final6 m c),
      (h c).2.2.2⟩) (Cert.AdamSmallIdeal.Value.run_blocks m g)
  · refine (θ_run _ _ _).mono (fun r h c => ?_) (Cert.AdamSmallRefIdeal.Value.run m' g')
    obtain ⟨h0, h1, h2, h3⟩ := ha c
    refine ⟨(h c).1.trans ?_, (h c).2.1.trans ?_, (h c).2.2.1.trans ?_, (h c).2.2.2⟩
    · refine (Cert.AdamSmallRefIdeal.Read.val_main_v23_eq (F := Ideal) _ _ _ _).trans ?_
      exact congr (congr (congr (congrArg _ h0) h1) h2) h3
    · refine (Cert.AdamSmallRefIdeal.Read.val_main_v4_eq (F := Ideal) _ _).trans ?_
      exact congr (congrArg _ h1) h2
    · refine (Cert.AdamSmallRefIdeal.Read.val_main_v10_eq (F := Ideal) _ _).trans ?_
      exact congr (congrArg _ h1) h3

end Cert.AdamSmallIdeal.Product
end
-- ==== Proof.Sum.Slots.lean ====
/- The claims about the sum of the eight devices' packed parts: each element is the sum over the devices. -/
module

public import proofs.«01_k».proof.Defs
public import proofs.«01_k».proof.Proof.Gen.SumSlots
public import proofs.«01_k».proof.Proof.Gen.SumSlots.Frame
public import proofs.«01_k».proof.Proof.Gen.SumSlotsIdeal
public import proofs.«01_k».proof.Proof.Gen.SumSlotsIdeal.Frame
public import proofs.«01_k».proof.Proof.Gen.SumSlotsIdeal.Value
public import proofs.«01_k».proof.Proof.Gen.SumSlotsRefIdeal
public import proofs.«01_k».proof.Proof.Gen.SumSlotsRefIdeal.Run
public import proofs.«01_k».proof.Proof.Gen.SumSlotsRefIdeal.Read
public import Idealize.ShloMosaic.Lib.Pipeline.ValueKit

@[expose] public section

set_option maxRecDepth 16384

noncomputable section

namespace Cert.SumSlotsIdeal.Product

open Cert.SumSlotsIdeal Cert.SumSlotsIdeal.Gen Cert.SumSlotsIdeal.Value Idealize.ShloMosaic Idealize.ShloMosaic.TcCoe Idealize.SL.Sem
open Cert.SumSlotsRefIdeal.Read (val_main_v0 val_main_v0_apply val_main_cst_apply idx_main_v0)

/-- The eight slots added one after the other are the sum over the slots. -/
theorem total (a : Vec Ideal S8x1720x128 .f32) : G1 (F := Ideal) a = val_main_v0 (F := Ideal) a := by
  funext y
  refine (congrFun (View.canon_unit_zero hz1 _ _).symm y).trans ((canon1_eq _ _ _ _ _ _ _ _ y).trans ?_)
  rw [val_main_v0_apply, val_main_cst_apply]
  have slot : ∀ (s : Fin 8) (x : S8x1720x128.Idx), (x 0 : ℕ) = s → (x 1 : ℕ) = y 0 → (x 2 : ℕ) = y 1 → a x = a (idx_main_v0 y s) := by
    intro s x h0 h1 h2
    refine congrArg a (funext fun k => Fin.ext ?_)
    match k with
    | ⟨0, _⟩ => exact h0
    | ⟨1, _⟩ => exact h1
    | ⟨2, _⟩ => exact h2
  have z : (FloatOps.ofBits .f32 0x00000000#32 : Ideal .f32) = (0 : EReal) := Ideal.ofBits_zero .f32
  rw [z, zero_add, Fin.sum_univ_eight]
  have at1 : ∀ n : ℕ, 0 + 1 * n = n := fun n => by omega
  rw [← slot 0 (r0_0.idx (ix1_0 y)) rfl (at1 _) (at1 _), ← slot 1 (r0_1.idx (ix1_1 y)) rfl (at1 _) (at1 _),
    ← slot 2 (r0_2.idx (ix1_2 y)) rfl (at1 _) (at1 _), ← slot 3 (r0_3.idx (ix1_3 y)) rfl (at1 _) (at1 _),
    ← slot 4 (r0_4.idx (ix1_4 y)) rfl (at1 _) (at1 _), ← slot 5 (r0_5.idx (ix1_5 y)) rfl (at1 _) (at1 _),
    ← slot 6 (r0_6.idx (ix1_6 y)) rfl (at1 _) (at1 _), ← slot 7 (r0_7.idx (ix1_7 y)) rfl (at1 _) (at1 _)]
  rfl

/-- The reference's run, its argument and counters. -/
theorem frame_reference : quiescent_SumSlotsRefIdeal := fun m g _ =>
  (θ_run (Cert.SumSlotsRefIdeal.defs (F := Ideal)) _ _).mono
    (fun r h => ⟨fun c => (h c).2, sem_eq_zero_of_no_sems (by decide) r.2⟩)
    (Cert.SumSlotsRefIdeal.Value.run m g)

/-- The kernel's result is the reference's: the sum over the devices. -/
theorem algebraic : algebraic_SumSlotsIdeal_SumSlotsRefIdeal := by
  intro m g m' g' hp ha
  refine ⟨fun c => val_main_v0 (F := Ideal) (m ((c : Thread nD τ).loc main_arg0)), ?_, ?_⟩
  · exact (θ_run _ _ _).mono (fun r h c => ⟨(h c).1.trans (total _), (h c).2⟩) (Cert.SumSlotsIdeal.Value.run m g)
  · refine (θ_run _ _ _).mono (fun r h c => ?_) (Cert.SumSlotsRefIdeal.Value.run m' g')
    refine ⟨(h c).1.trans ?_, (h c).2⟩
    refine (Cert.SumSlotsRefIdeal.Read.val_main_v0_eq (F := Ideal) _).trans ?_
    exact congrArg _ (ha c)

end Cert.SumSlotsIdeal.Product
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Conv.Claim
public import Idealize.ShloMosaic.Adequacy
public import Idealize.ShloMosaic.Init
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Value
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Value
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Value
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Value
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Value
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Value
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.UpDw1
public import proofs.«01_k».proof.Proof.Gen.UpDw1.Skeleton
public import proofs.«01_k».proof.Proof.Gen.UpDw1.Launch
public import proofs.«01_k».proof.Proof.Gen.UpDw1.Points
public import proofs.«01_k».proof.Proof.Gen.UpDw1.Frame
public import proofs.«01_k».proof.Proof.Gen.UpDw1Ideal
public import proofs.«01_k».proof.Proof.Gen.UpDw1Ideal.Value
public import proofs.«01_k».proof.Proof.Gen.UpDw1Ideal.Skeleton
public import proofs.«01_k».proof.Proof.Gen.UpDw1Ideal.Launch
public import proofs.«01_k».proof.Proof.Gen.UpDw1Ideal.Points
public import proofs.«01_k».proof.Proof.Gen.UpDw1Ideal.Frame
public import proofs.«01_k».proof.Proof.Gen.UpDw1RefIdeal
public import proofs.«01_k».proof.Proof.Gen.UpDw1RefIdeal.Run
public import proofs.«01_k».proof.Proof.Gen.UpDw1RefIdeal.Read
public import proofs.«01_k».proof.Proof.Gen.UpDw0
public import proofs.«01_k».proof.Proof.Gen.UpDw0.Skeleton
public import proofs.«01_k».proof.Proof.Gen.UpDw0.Launch
public import proofs.«01_k».proof.Proof.Gen.UpDw0.Points
public import proofs.«01_k».proof.Proof.Gen.UpDw0.Frame
public import proofs.«01_k».proof.Proof.Gen.UpDw0Ideal
public import proofs.«01_k».proof.Proof.Gen.UpDw0Ideal.Skeleton
public import proofs.«01_k».proof.Proof.Gen.UpDw0Ideal.Launch
public import proofs.«01_k».proof.Proof.Gen.UpDw0Ideal.Points
public import proofs.«01_k».proof.Proof.Gen.UpDw0Ideal.Frame
public import proofs.«01_k».proof.Proof.Gen.UpDw0RefIdeal
public import proofs.«01_k».proof.Proof.Gen.UpDw0RefIdeal.Run
public import proofs.«01_k».proof.Proof.Gen.UpDw0RefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjRefIdeal
public import proofs.«01_k».proof.Proof.Gen.UpProjRefIdeal.Run
public import proofs.«01_k».proof.Proof.Gen.UpProjRefIdeal.Read
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Value
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjRefIdeal
public import proofs.«01_k».proof.Proof.Gen.DownProjRefIdeal.Run
public import proofs.«01_k».proof.Proof.Gen.DownProjRefIdeal.Read
public import proofs.«01_k».proof.Proof.Gen.Pre_finite_up
public import proofs.«01_k».proof.Proof.Gen.Pre_finite_in
public import proofs.«01_k».proof.Proof.Project.InProj
public import proofs.«01_k».proof.Proof.Project.InProjIdeal
public import proofs.«01_k».proof.Proof.Project.UpProj
public import proofs.«01_k».proof.Proof.Project.UpProjIdeal
public import proofs.«01_k».proof.Proof.Up.Claim
public import proofs.«01_k».proof.Proof.In.Claim
public import proofs.«01_k».proof.Proof.Products.InDw
public import proofs.«01_k».proof.Proof.Products.DownDw
public import proofs.«01_k».proof.Proof.Products.OutDw
public import proofs.«01_k».proof.Proof.Products.DownDx
public import proofs.«01_k».proof.Proof.Products.UpDw1
public import proofs.«01_k».proof.Proof.Products.UpDw0
public import proofs.«01_k».proof.Proof.Project.InProjValue
public import proofs.«01_k».proof.Proof.Project.UpProjValue
public import proofs.«01_k».proof.Proof.Products.DownProj
public import proofs.«01_k».proof.Proof.Forward.Merge
public import proofs.«01_k».proof.Proof.Forward.Loss
public import proofs.«01_k».proof.Proof.Forward.Conv
public import proofs.«01_k».proof.Proof.Adam.Up
public import proofs.«01_k».proof.Proof.Adam.In
public import proofs.«01_k».proof.Proof.Adam.Down
public import proofs.«01_k».proof.Proof.Adam.Out
public import proofs.«01_k».proof.Proof.Adam.ProjAC
public import proofs.«01_k».proof.Proof.Adam.ProjB
public import proofs.«01_k».proof.Proof.Adam.Small
public import proofs.«01_k».proof.Proof.Sum.Slots
public import proofs.«01_k».proof.Proof.Gen.MixersFwd.Frame
public import proofs.«01_k».proof.Proof.Gen.MixersFwdIdeal.Frame
public import proofs.«01_k».proof.Proof.Gen.AttnBwd.Frame
public import proofs.«01_k».proof.Proof.Gen.AttnBwdIdeal.Frame
public import proofs.«01_k».proof.Proof.Gen.AttnFwd.Frame
public import proofs.«01_k».proof.Proof.Gen.AttnFwdIdeal.Frame

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.UpDx.Gen.facts,
  Cert.UpDxIdeal.Gen.facts,
  Cert.UpDxRefIdeal.Gen.facts,
  Cert.InDx.Gen.facts,
  Cert.InDxIdeal.Gen.facts,
  Cert.InDxRefIdeal.Gen.facts,
  Cert.InDw.Gen.facts,
  Cert.InDwIdeal.Gen.facts,
  Cert.InDwRefIdeal.Gen.facts,
  Cert.DownDw.Gen.facts,
  Cert.DownDwIdeal.Gen.facts,
  Cert.DownDwRefIdeal.Gen.facts,
  Cert.OutDw.Gen.facts,
  Cert.OutDwIdeal.Gen.facts,
  Cert.OutDwRefIdeal.Gen.facts,
  Cert.DownDx.Gen.facts,
  Cert.DownDxIdeal.Gen.facts,
  Cert.DownDxRefIdeal.Gen.facts,
  Cert.UpDw1.Gen.facts,
  Cert.UpDw1Ideal.Gen.facts,
  Cert.UpDw1RefIdeal.Gen.facts,
  Cert.UpDw0.Gen.facts,
  Cert.UpDw0Ideal.Gen.facts,
  Cert.UpDw0RefIdeal.Gen.facts,
  Cert.InProj.Gen.facts,
  Cert.InProjIdeal.Gen.facts,
  Cert.InProjRefIdeal.Gen.facts,
  Cert.UpProj.Gen.facts,
  Cert.UpProjIdeal.Gen.facts,
  Cert.UpProjRefIdeal.Gen.facts,
  Cert.DownProj.Gen.facts,
  Cert.DownProjIdeal.Gen.facts,
  Cert.DownProjRefIdeal.Gen.facts,
  Cert.MergeFwd.Gen.facts,
  Cert.MergeFwdIdeal.Gen.facts,
  Cert.MergeFwdRefIdeal.Gen.facts,
  Cert.DownLoss.Gen.facts,
  Cert.DownLossIdeal.Gen.facts,
  Cert.DownLossRefIdeal.Gen.facts,
  Cert.ConvFwd.Gen.facts,
  Cert.ConvFwdIdeal.Gen.facts,
  Cert.ConvFwdRefIdeal.Gen.facts,
  Cert.AdamUp.Gen.facts,
  Cert.AdamUpIdeal.Gen.facts,
  Cert.AdamUpRefIdeal.Gen.facts,
  Cert.AdamIn.Gen.facts,
  Cert.AdamInIdeal.Gen.facts,
  Cert.AdamInRefIdeal.Gen.facts,
  Cert.AdamDown.Gen.facts,
  Cert.AdamDownIdeal.Gen.facts,
  Cert.AdamDownRefIdeal.Gen.facts,
  Cert.AdamOut.Gen.facts,
  Cert.AdamOutIdeal.Gen.facts,
  Cert.AdamOutRefIdeal.Gen.facts,
  Cert.AdamProjAC.Gen.facts,
  Cert.AdamProjACIdeal.Gen.facts,
  Cert.AdamProjACRefIdeal.Gen.facts,
  Cert.AdamProjB.Gen.facts,
  Cert.AdamProjBIdeal.Gen.facts,
  Cert.AdamProjBRefIdeal.Gen.facts,
  Cert.AdamSmall.Gen.facts,
  Cert.AdamSmallIdeal.Gen.facts,
  Cert.AdamSmallRefIdeal.Gen.facts,
  Cert.SumSlots.Gen.facts,
  Cert.SumSlotsIdeal.Gen.facts,
  Cert.SumSlotsRefIdeal.Gen.facts,
  Cert.AttnBwd.Gen.facts,
  Cert.AttnBwdIdeal.Gen.facts,
  Cert.AttnFwd.Gen.facts,
  Cert.AttnFwdIdeal.Gen.facts,
  Cert.MixersFwd.Gen.facts,
  Cert.MixersFwdIdeal.Gen.facts,
  Cert.Pre_finite.Conv.facts,
  Cert.Pre_finite_up.Gen.facts,
  Cert.Pre_finite_in.Gen.facts,
  fun m ρ _ => Cert.Kernel.Gen.frame m ρ,
  fun m ρ _ => Cert.KernelIdeal.Gen.frame m ρ,
  fun m ρ _ => Cert.KernelIdeal.Gen.frame m ρ,
  Cert.Conv.frame_reference,
  Cert.Conv.frame_reference_finite,
  fun m ρ _ => Cert.UpDx.Gen.frame m ρ,
  fun m ρ _ => Cert.UpDxIdeal.Gen.frame m ρ,
  fun m ρ _ => Cert.UpDxIdeal.Gen.frame m ρ,
  Cert.UpDxIdeal.Norm.frame_reference,
  Cert.UpDxIdeal.Norm.frame_reference_finite,
  fun m ρ _ => Cert.InDx.Gen.frame m ρ,
  fun m ρ _ => Cert.InDxIdeal.Gen.frame m ρ,
  fun m ρ _ => Cert.InDxIdeal.Gen.frame m ρ,
  Cert.InDxIdeal.Norm.frame_reference,
  Cert.InDxIdeal.Norm.frame_reference_finite,
  fun m ρ _ => Cert.InDw.Gen.frame m ρ,
  fun m ρ _ => Cert.InDwIdeal.Gen.frame m ρ,
  Cert.InDwIdeal.Product.frame_reference,
  fun m ρ _ => Cert.DownDw.Gen.frame m ρ,
  fun m ρ _ => Cert.DownDwIdeal.Gen.frame m ρ,
  Cert.DownDwIdeal.Product.frame_reference,
  fun m ρ _ => Cert.OutDw.Gen.frame m ρ,
  fun m ρ _ => Cert.OutDwIdeal.Gen.frame m ρ,
  Cert.OutDwIdeal.Product.frame_reference,
  fun m ρ _ => Cert.DownDx.Gen.frame m ρ,
  fun m ρ _ => Cert.DownDxIdeal.Gen.frame m ρ,
  Cert.DownDxIdeal.Product.frame_reference,
  fun m ρ _ => Cert.UpDw1.Gen.frame m ρ,
  fun m ρ _ => Cert.UpDw1Ideal.Gen.frame m ρ,
  Cert.UpDw1Ideal.Product.frame_reference,
  fun m ρ _ => Cert.UpDw0.Gen.frame m ρ,
  fun m ρ _ => Cert.UpDw0Ideal.Gen.frame m ρ,
  Cert.UpDw0Ideal.Product.frame_reference,
  fun m ρ _ => Cert.InProj.Whole.frame m ρ,
  fun m ρ _ => Cert.InProjIdeal.Whole.frame m ρ,
  Cert.InProjIdeal.Whole.frame_reference,
  fun m ρ _ => Cert.UpProj.Whole.frame m ρ,
  fun m ρ _ => Cert.UpProjIdeal.Whole.frame m ρ,
  Cert.UpProjIdeal.Whole.frame_reference,
  fun m ρ _ => Cert.DownProj.Gen.frame m ρ,
  fun m ρ _ => Cert.DownProjIdeal.Gen.frame m ρ,
  Cert.DownProjIdeal.Product.frame_reference,
  fun m ρ _ => Cert.MergeFwd.Gen.frame m ρ,
  fun m ρ _ => Cert.MergeFwdIdeal.Gen.frame m ρ,
  Cert.MergeFwdIdeal.Product.frame_reference,
  fun m ρ _ => Cert.DownLoss.Gen.frame m ρ,
  fun m ρ _ => Cert.DownLossIdeal.Gen.frame m ρ,
  Cert.DownLossIdeal.Product.frame_reference,
  fun m ρ _ => Cert.ConvFwd.Gen.frame m ρ,
  fun m ρ _ => Cert.ConvFwdIdeal.Gen.frame m ρ,
  Cert.ConvFwdIdeal.Product.frame_reference,
  fun m ρ _ => Cert.AdamUp.Gen.frame m ρ,
  fun m ρ _ => Cert.AdamUpIdeal.Gen.frame m ρ,
  Cert.AdamUpIdeal.Product.frame_reference,
  fun m ρ _ => Cert.AdamIn.Gen.frame m ρ,
  fun m ρ _ => Cert.AdamInIdeal.Gen.frame m ρ,
  Cert.AdamInIdeal.Product.frame_reference,
  fun m ρ _ => Cert.AdamDown.Gen.frame m ρ,
  fun m ρ _ => Cert.AdamDownIdeal.Gen.frame m ρ,
  Cert.AdamDownIdeal.Product.frame_reference,
  fun m ρ _ => Cert.AdamOut.Gen.frame m ρ,
  fun m ρ _ => Cert.AdamOutIdeal.Gen.frame m ρ,
  Cert.AdamOutIdeal.Product.frame_reference,
  fun m ρ _ => Cert.AdamProjAC.Gen.frame m ρ,
  fun m ρ _ => Cert.AdamProjACIdeal.Gen.frame m ρ,
  Cert.AdamProjACIdeal.Product.frame_reference,
  fun m ρ _ => Cert.AdamProjB.Gen.frame m ρ,
  fun m ρ _ => Cert.AdamProjBIdeal.Gen.frame m ρ,
  Cert.AdamProjBIdeal.Product.frame_reference,
  fun m ρ _ => Cert.AdamSmall.Gen.frame m ρ,
  fun m ρ _ => Cert.AdamSmallIdeal.Gen.frame m ρ,
  Cert.AdamSmallIdeal.Product.frame_reference,
  fun m ρ _ => Cert.SumSlots.Gen.frame m ρ,
  fun m ρ _ => Cert.SumSlotsIdeal.Gen.frame m ρ,
  Cert.SumSlotsIdeal.Product.frame_reference,
  fun m ρ _ => Cert.AttnBwd.Gen.frame m ρ,
  fun m ρ _ => Cert.AttnBwdIdeal.Gen.frame m ρ,
  fun m ρ _ => Cert.AttnFwd.Gen.frame m ρ,
  fun m ρ _ => Cert.AttnFwdIdeal.Gen.frame m ρ,
  fun m ρ _ => Cert.MixersFwd.Gen.frame m ρ,
  fun m ρ _ => Cert.MixersFwdIdeal.Gen.frame m ρ,
  trivial,
  Cert.Conv.algebraic,
  trivial,
  Cert.UpDxIdeal.Norm.algebraic,
  trivial,
  Cert.InDxIdeal.Norm.algebraic,
  trivial,
  Cert.InDwIdeal.Product.algebraic,
  trivial,
  Cert.DownDwIdeal.Product.algebraic,
  trivial,
  Cert.OutDwIdeal.Product.algebraic,
  trivial,
  Cert.DownDxIdeal.Product.algebraic,
  trivial,
  Cert.UpDw1Ideal.Product.algebraic,
  trivial,
  Cert.UpDw0Ideal.Product.algebraic,
  trivial,
  Cert.InProjIdeal.Whole.algebraic,
  trivial,
  Cert.UpProjIdeal.Whole.algebraic,
  trivial,
  Cert.DownProjIdeal.Product.algebraic,
  trivial,
  Cert.MergeFwdIdeal.Product.algebraic,
  trivial,
  Cert.DownLossIdeal.Product.algebraic,
  trivial,
  Cert.ConvFwdIdeal.Product.algebraic,
  trivial,
  Cert.AdamUpIdeal.Product.algebraic,
  trivial,
  Cert.AdamInIdeal.Product.algebraic,
  trivial,
  Cert.AdamDownIdeal.Product.algebraic,
  trivial,
  Cert.AdamOutIdeal.Product.algebraic,
  trivial,
  Cert.AdamProjACIdeal.Product.algebraic,
  trivial,
  Cert.AdamProjBIdeal.Product.algebraic,
  trivial,
  Cert.AdamSmallIdeal.Product.algebraic,
  trivial,
  Cert.SumSlotsIdeal.Product.algebraic,
  trivial,
  trivial,
  trivial⟩

end Cert.Proof

end
